-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_rows_named_head_finite [hPre_rows_named_head_finite : Cert.Pre_rows_named_head_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_head_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_head_finite [hPre_rows_named_head_finite : Cert.Pre_rows_named_head_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_head_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_named_head_finite [hKernelIdeal : Cert.KernelIdeal.Facts] [hPre_rows_named_head_finite : Cert.Pre_rows_named_head_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_head_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_named_head_finite [hReferenceIdeal : Cert.ReferenceIdeal.Facts] [hPre_rows_named_head_finite : Cert.Pre_rows_named_head_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_head_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_named_head_finite [hKernelIdeal : Cert.KernelIdeal.Facts] [hReferenceIdeal : Cert.ReferenceIdeal.Facts] [hPre_rows_named_head_finite : Cert.Pre_rows_named_head_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_head_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_named : Cert.Pre_rows_named.Facts) (hPre_rows_named_head_finite : Cert.Pre_rows_named_head_finite.Facts),
    quiescent_Kernel (hKernel := hKernel) (hPre_rows_named := hPre_rows_named)
    ∧ quiescent_KernelIdeal (hKernelIdeal := hKernelIdeal) (hPre_rows_named := hPre_rows_named)
    ∧ quiescent_KernelIdeal_pre_rows_named_head_finite (hKernelIdeal := hKernelIdeal) (hPre_rows_named_head_finite := hPre_rows_named_head_finite)
    ∧ quiescent_ReferenceIdeal (hReferenceIdeal := hReferenceIdeal)
    ∧ quiescent_ReferenceIdeal_pre_rows_named_head_finite (hReferenceIdeal := hReferenceIdeal) (hPre_rows_named_head_finite := hPre_rows_named_head_finite)
    ∧ preserves_Kernel_KernelIdeal
    ∧ algebraic_KernelIdeal_ReferenceIdeal_pre_rows_named_head_finite (hKernelIdeal := hKernelIdeal) (hReferenceIdeal := hReferenceIdeal) (hPre_rows_named_head_finite := hPre_rows_named_head_finite)
-- ==== Pre_rows_named.lean ====
abbrev S4096x50 : Shape := ⟨2, ![4096, 50]⟩
abbrev S1000000x64 : Shape := ⟨2, ![1000000, 64]⟩
abbrev S512x64 : Shape := ⟨2, ![512, 64]⟩
abbrev S512x128 : Shape := ⟨2, ![512, 128]⟩
abbrev S512 : Shape := ⟨1, ![512]⟩
abbrev S6x128 : Shape := ⟨2, ![6, 128]⟩
abbrev S6 : Shape := ⟨1, ![6]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S1000000x64 .f32) (main_arg2 : FVec F S512x64 .f32) (main_arg3 : FVec F S512x128 .f32) (main_arg4 : FVec F S512 .f32) (main_arg5 : FVec F S512 .f32) (main_arg6 : FVec F S6x128 .f32) (main_arg7 : FVec F S6 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Pre_rows_named_head_finite.lean ====
abbrev S4096x50 : Shape := ⟨2, ![4096, 50]⟩
abbrev S1000000x64 : Shape := ⟨2, ![1000000, 64]⟩
abbrev S512x64 : Shape := ⟨2, ![512, 64]⟩
abbrev S512x128 : Shape := ⟨2, ![512, 128]⟩
abbrev S512 : Shape := ⟨1, ![512]⟩
abbrev S6x128 : Shape := ⟨2, ![6, 128]⟩
abbrev S6 : Shape := ⟨1, ![6]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S6 : S_.BroadcastsInDim S6 (![] : Fin 0 → Fin S6.rank)
  reducesTo_S6_S_d0 : S6.ReducesTo [0] S_

variable [Facts]

def fn {F : FTy → Type} [FloatOps F] (main_arg0 : IVec S4096x50 32) (main_arg1 : FVec F S1000000x64 .f32) (main_arg2 : FVec F S512x64 .f32) (main_arg3 : FVec F S512x128 .f32) (main_arg4 : FVec F S512 .f32) (main_arg5 : FVec F S512 .f32) (main_arg6 : FVec F S6x128 .f32) (main_arg7 : FVec F S6 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_v6 : FVec F S6x128 .f32 := Host.absf main_arg6
  let main_cst : FVec F S_ .f32 := constant S_ .f32 0x7F800000#32
  let main_v7 : FVec F S6x128 .f32 := broadcastInDim S6x128 ![] bcast_S_S6x128 main_cst
  let main_v8 : IVec S6x128 1 := cmpf .olt main_v6 main_v7
  let main_c_2 : IVec S_ 1 := constantI S_ 1 1#1
  let main_v9 : IVec S_ 1 := (fun x v => Host.reduce IntOp.andi x v reducesTo_S6x128_S_d0_1 h_S_) main_v8 main_c_2
  let main_v10 : IVec S_ 1 := andi main_v5 main_v9
  let main_v11 : FVec F S6 .f32 := Host.absf main_arg7
  let main_cst_3 : FVec F S_ .f32 := constant S_ .f32 0x7F800000#32
  let main_v12 : FVec F S6 .f32 := broadcastInDim S6 ![] bcast_S_S6 main_cst_3
  let main_v13 : IVec S6 1 := cmpf .olt main_v11 main_v12
  let main_c_4 : IVec S_ 1 := constantI S_ 1 1#1
  let main_v14 : IVec S_ 1 := (fun x v => Host.reduce IntOp.andi x v reducesTo_S6_S_d0 h_S_) main_v13 main_c_4
  let main_v15 : IVec S_ 1 := andi main_v10 main_v14
  main_v15
-- ==== Kernel.lean ====
abbrev S4096x50 : Shape := ⟨2, ![4096, 50]⟩
abbrev S1000000x64 : Shape := ⟨2, ![1000000, 64]⟩
abbrev S512x64 : Shape := ⟨2, ![512, 64]⟩
abbrev S512x128 : Shape := ⟨2, ![512, 128]⟩
abbrev S512 : Shape := ⟨1, ![512]⟩
abbrev S6x128 : Shape := ⟨2, ![6, 128]⟩
abbrev S6 : Shape := ⟨1, ![6]⟩
abbrev S50x4096 : Shape := ⟨2, ![50, 4096]⟩
abbrev S204800 : Shape := ⟨1, ![204800]⟩
abbrev S64x1000000 : Shape := ⟨2, ![64, 1000000]⟩
abbrev S1000000x128 : Shape := ⟨2, ![1000000, 128]⟩
abbrev S64x32768 : Shape := ⟨2, ![64, 32768]⟩
abbrev S32768x128 : Shape := ⟨2, ![32768, 128]⟩
abbrev S32768x64 : Shape := ⟨2, ![32768, 64]⟩
abbrev S204800x128 : Shape := ⟨2, ![204800, 128]⟩
abbrev S6400 : Shape := ⟨1, ![6400]⟩
abbrev S128x128 : Shape := ⟨2, ![128, 128]⟩
abbrev S_ : Shape := ⟨0, ![]⟩
abbrev S128 : Shape := ⟨1, ![128]⟩
abbrev S50x4096x128 : Shape := ⟨3, ![50, 4096, 128]⟩
abbrev S64x512 : Shape := ⟨2, ![64, 512]⟩
abbrev S128x512 : Shape := ⟨2, ![128, 512]⟩
abbrev S192x512 : Shape := ⟨2, ![192, 512]⟩
abbrev S1x512 : Shape := ⟨2, ![1, 512]⟩
abbrev S128x6 : Shape := ⟨2, ![128, 6]⟩
abbrev S1 : Shape := ⟨1, ![1]⟩
abbrev S1x128 : Shape := ⟨2, ![1, 128]⟩
abbrev S2 : Shape := ⟨1, ![2]⟩
abbrev S4096x128 : Shape := ⟨2, ![4096, 128]⟩
abbrev S50x1024x128 : Shape := ⟨3, ![50, 1024, 128]⟩
abbrev S1024x128 : Shape := ⟨2, ![1024, 128]⟩
abbrev S1x1024x128 : Shape := ⟨3, ![1, 1024, 128]⟩
abbrev S1024x64 : Shape := ⟨2, ![1024, 64]⟩
abbrev S1024x192 : Shape := ⟨2, ![1024, 192]⟩
abbrev S1024x512 : Shape := ⟨2, ![1024, 512]⟩
abbrev S1024 : Shape := ⟨1, ![1024]⟩
abbrev S1024x1 : Shape := ⟨2, ![1024, 1]⟩
abbrev S4096x6 : Shape := ⟨2, ![4096, 6]⟩

abbrev nBuf : Table → Nat
  | .hbm => 41
  | .local .tc .vmem => 12
  | .local .scVector .vmem => 2
  | _ => 0

abbrev bufTy : (tb : Table) → Fin (nBuf tb) → BufTy
  | .hbm, ⟨0, _⟩ => ⟨S4096x50, .i32⟩
  | .hbm, ⟨1, _⟩ => ⟨S1000000x64, .f32⟩
  | .hbm, ⟨2, _⟩ => ⟨S512x64, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S6x128, .f32⟩
  | .hbm, ⟨7, _⟩ => ⟨S6, .f32⟩
  | .hbm, ⟨8, _⟩ => ⟨S512, .f32⟩
  | .hbm, ⟨9, _⟩ => ⟨S50x4096, .i32⟩
  | .hbm, ⟨10, _⟩ => ⟨S204800, .i32⟩
  | .hbm, ⟨11, _⟩ => ⟨S64x1000000, .f32⟩
  | .hbm, ⟨12, _⟩ => ⟨S1000000x128, .f32⟩
  | .hbm, ⟨13, _⟩ => ⟨S204800x128, .f32⟩
  | .hbm, ⟨14, _⟩ => ⟨S50x4096x128, .f32⟩
  | .hbm, ⟨15, _⟩ => ⟨S64x512, .f32⟩
  | .hbm, ⟨16, _⟩ => ⟨S128x512, .f32⟩
  | .hbm, ⟨17, _⟩ => ⟨S192x512, .f32⟩
  | .hbm, ⟨18, _⟩ => ⟨S1x512, .f32⟩
  | .hbm, ⟨19, _⟩ => ⟨S192x512, .f32⟩
  | .hbm, ⟨20, _⟩ => ⟨S192x512, .f32⟩
  | .hbm, ⟨21, _⟩ => ⟨S192x512, .bf16⟩
  | .hbm, ⟨22, _⟩ => ⟨S512, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S128x128, .f32⟩
  | .hbm, ⟨27, _⟩ => ⟨S128x6, .f32⟩
  | .hbm, ⟨28, _⟩ => ⟨S_, .i32⟩
  | .hbm, ⟨29, _⟩ => ⟨S1, .i32⟩
  | .hbm, ⟨30, _⟩ => ⟨S128x128, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S4096x128, .f32⟩
  | .hbm, ⟨40, _⟩ => ⟨S4096x6, .f32⟩
  | .local .tc .vmem, ⟨0, _⟩ => ⟨S64x32768, .f32⟩
  | .local .tc .vmem, ⟨1, _⟩ => ⟨S64x32768, .f32⟩
  | .local .tc .vmem, ⟨2, _⟩ => ⟨S32768x128, .f32⟩
  | .local .tc .vmem, ⟨3, _⟩ => ⟨S32768x128, .f32⟩
  | .local .tc .vmem, ⟨4, _⟩ => ⟨S50x1024x128, .f32⟩
  | .local .tc .vmem, ⟨5, _⟩ => ⟨S50x1024x128, .f32⟩
  | .local .tc .vmem, ⟨6, _⟩ => ⟨S192x512, .bf16⟩
  | .local .tc .vmem, ⟨7, _⟩ => ⟨S1x512, .f32⟩
  | .local .tc .vmem, ⟨8, _⟩ => ⟨S128x128, .f32⟩
  | .local .tc .vmem, ⟨9, _⟩ => ⟨S1x128, .f32⟩
  | .local .tc .vmem, ⟨10, _⟩ => ⟨S1024x128, .f32⟩
  | .local .tc .vmem, ⟨11, _⟩ => ⟨S1024x128, .f32⟩
  | .local .scVector .vmem, ⟨0, _⟩ => ⟨S6400, .i32⟩
  | .local .scVector .vmem, ⟨1, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v3_scv : Ref sig .scVector := ⟨.hbm, 12, rfl⟩
abbrev main_v1_scv : Ref sig .scVector := ⟨.hbm, 10, rfl⟩
abbrev main_v4_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg5_1 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem0_1 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k1_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c128_i32 : BitVec 32 := 128#32
  let v4 : BitVec 32 := Scalar.muli arg8 c128_i32
  ![v4.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k1_t1
  let c128_i32_6 : BitVec 32 := 128#32
  let v9 : BitVec 32 := Scalar.muli arg8 c128_i32_6
  let v10 : BitVec 32 := Scalar.addi v2 v9
  let c0_i32_7_r1 : BitVec 32 := 0#32
  ![v10.toNat, 0]
abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S50x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S1000000x64 : Shape := ⟨2, ![1000000, 64]⟩
abbrev S512x64 : Shape := ⟨2, ![512, 64]⟩
abbrev S512x128 : Shape := ⟨2, ![512, 128]⟩
abbrev S512 : Shape := ⟨1, ![512]⟩
abbrev S6x128 : Shape := ⟨2, ![6, 128]⟩
abbrev S6 : Shape := ⟨1, ![6]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x128 : Shape := ⟨2, ![4096, 128]⟩
abbrev S50x4096x64 : Shape := ⟨3, ![50, 4096, 64]⟩
abbrev S1x4096x64 : Shape := ⟨3, ![1, 4096, 64]⟩
abbrev S4096x64 : Shape := ⟨2, ![4096, 64]⟩
abbrev S64x512 : Shape := ⟨2, ![64, 512]⟩
abbrev S4096x512 : Shape := ⟨2, ![4096, 512]⟩
abbrev S128x512 : Shape := ⟨2, ![128, 512]⟩
abbrev S1x512 : Shape := ⟨2, ![1, 512]⟩
abbrev S128x6 : Shape := ⟨2, ![128, 6]⟩
abbrev S4096x6 : Shape := ⟨2, ![4096, 6]⟩
abbrev S1x6 : Shape := ⟨2, ![1, 6]⟩
abbrev S4096 : Shape := ⟨1, ![4096]⟩
abbrev S4096x1 : Shape := ⟨2, ![4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x64, .f32⟩
  | .hbm, ⟨2, _⟩ => ⟨S512x64, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S6x128, .f32⟩
  | .hbm, ⟨7, _⟩ => ⟨S6, .f32⟩
  | .hbm, ⟨8, _⟩ => ⟨S_, .i32⟩
  | .hbm, ⟨9, _⟩ => ⟨S4096x50, .i32⟩
  | .hbm, ⟨10, _⟩ => ⟨S4096x50, .i1⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S4096x50, .i32⟩
  | .hbm, ⟨15, _⟩ => ⟨S4096x50x1, .i32⟩
  | .hbm, ⟨16, _⟩ => ⟨S1, .i32⟩
  | .hbm, ⟨17, _⟩ => ⟨S_, .i32⟩
  | .hbm, ⟨18, _⟩ => ⟨S4096x50x1, .i32⟩
  | .hbm, ⟨19, _⟩ => ⟨S4096x50x1, .i1⟩
  | .hbm, ⟨20, _⟩ => ⟨S1x1x1, .i32⟩
  | .hbm, ⟨21, _⟩ => ⟨S4096x50x1, .i32⟩
  | .hbm, ⟨22, _⟩ => ⟨S4096x50x1, .i1⟩
  | .hbm, ⟨23, _⟩ => ⟨S4096x50x1, .i1⟩
  | .hbm, ⟨24, _⟩ => ⟨S_, .i1⟩
  | .hbm, ⟨25, _⟩ => ⟨S4096x50, .i1⟩
  | .hbm, ⟨26, _⟩ => ⟨S4096x50x64, .f32⟩
  | .hbm, ⟨27, _⟩ => ⟨S4096x50x64, .i1⟩
  | .hbm, ⟨28, _⟩ => ⟨S_, .f32⟩
  | .hbm, ⟨29, _⟩ => ⟨S4096x50x64, .f32⟩
  | .hbm, ⟨30, _⟩ => ⟨S4096x50x64, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S50x4096x64, .f32⟩
  | .hbm, ⟨36, _⟩ => ⟨S_, .i32⟩
  | .hbm, ⟨37, _⟩ => ⟨S50x4096x64, .f32⟩
  | .hbm, ⟨38, _⟩ => ⟨S512x64, .f32⟩
  | .hbm, ⟨39, _⟩ => ⟨S512x128, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S4096x128, .f32⟩
  | .hbm, ⟨44, _⟩ => ⟨S4096x128, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1x4096x64, .f32⟩
  | .hbm, ⟨50, _⟩ => ⟨S4096x64, .f32⟩
  | .hbm, ⟨51, _⟩ => ⟨S64x512, .f32⟩
  | .hbm, ⟨52, _⟩ => ⟨S4096x512, .f32⟩
  | .hbm, ⟨53, _⟩ => ⟨S128x512, .f32⟩
  | .hbm, ⟨54, _⟩ => ⟨S4096x512, .f32⟩
  | .hbm, ⟨55, _⟩ => ⟨S4096x512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S1x512, .f32⟩
  | .hbm, ⟨60, _⟩ => ⟨S4096x512, .f32⟩
  | .hbm, ⟨61, _⟩ => ⟨S4096x512, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S_, .f32⟩
  | .hbm, ⟨69, _⟩ => ⟨S4096x128, .f32⟩
  | .hbm, ⟨70, _⟩ => ⟨S4096x128, .f32⟩
  | .hbm, ⟨71, _⟩ => ⟨S_, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S_, .f32⟩
  | .hbm, ⟨77, _⟩ => ⟨S4096x128, .f32⟩
  | .hbm, ⟨78, _⟩ => ⟨S4096x128, .f32⟩
  | .hbm, ⟨79, _⟩ => ⟨S_, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S4096x128, .f32⟩
  | .hbm, ⟨84, _⟩ => ⟨S4096x128, .f32⟩
  | .hbm, ⟨85, _⟩ => ⟨S_, .f32⟩
  | .hbm, ⟨86, _⟩ => ⟨S4096x128, .f32⟩
  | .hbm, ⟨87, _⟩ => ⟨S4096x128, .f32⟩
  | .hbm, ⟨88, _⟩ => ⟨S_, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S4096x128, .f32⟩
  | .hbm, ⟨93, _⟩ => ⟨S4096x128, .f32⟩
  | .hbm, ⟨94, _⟩ => ⟨S4096x128, .f32⟩
  | .hbm, ⟨95, _⟩ => ⟨S4096x128, .f32⟩
  | .hbm, ⟨96, _⟩ => ⟨S_, .i32⟩
  | .hbm, ⟨97, _⟩ => ⟨S_, .i32⟩
  | .hbm, ⟨98, _⟩ => ⟨S128x6, .f32⟩
  | .hbm, ⟨99, _⟩ => ⟨S4096x6, .f32⟩
  | .hbm, ⟨100, _⟩ => ⟨S1x6, .f32⟩
  | .hbm, ⟨101, _⟩ => ⟨S4096x6, .f32⟩
  | .hbm, ⟨102, _⟩ => ⟨S4096x6, .f32⟩
  | .hbm, ⟨103, _⟩ => ⟨S_, .f32⟩
  | .hbm, ⟨104, _⟩ => ⟨S4096, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S4096x1, .f32⟩
  | .hbm, ⟨109, _⟩ => ⟨S4096x6, .f32⟩
  | .hbm, ⟨110, _⟩ => ⟨S4096x6, .f32⟩
  | .hbm, ⟨111, _⟩ => ⟨S4096x6, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S4096x1, .f32⟩
  | .hbm, ⟨116, _⟩ => ⟨S4096x6, .f32⟩
  | .hbm, ⟨117, _⟩ => ⟨S4096x6, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4_0 : Ref sig .tc := ⟨.hbm, 37, rfl⟩
abbrev main_v4_1 : Ref sig .tc := ⟨.hbm, 38, rfl⟩
abbrev main_v4_2 : Ref sig .tc := ⟨.hbm, 39, rfl⟩
abbrev main_v4_3 : Ref sig .tc := ⟨.hbm, 40, rfl⟩
abbrev main_v4_4 : Ref sig .tc := ⟨.hbm, 41, rfl⟩
abbrev main_v4_5 : Ref sig .tc := ⟨.hbm, 42, rfl⟩
abbrev main_v4_6 : Ref sig .tc := ⟨.hbm, 43, rfl⟩
abbrev main_v4_7 : Ref sig .tc := ⟨.hbm, 44, rfl⟩
abbrev main_while0c_c_8 : Ref sig .tc := ⟨.hbm, 45, rfl⟩
abbrev main_while0c_v11 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v11 : Ref sig .tc := ⟨.hbm, 50, rfl⟩
abbrev main_while0b_v12 : Ref sig .tc := ⟨.hbm, 51, rfl⟩
abbrev main_while0b_v13 : Ref sig .tc := ⟨.hbm, 52, rfl⟩
abbrev main_while0b_v14 : Ref sig .tc := ⟨.hbm, 53, rfl⟩
abbrev main_while0b_v15 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_v21 : Ref sig .tc := ⟨.hbm, 60, rfl⟩
abbrev main_while0b_v22 : Ref sig .tc := ⟨.hbm, 61, rfl⟩
abbrev main_while0b_v23 : Ref sig .tc := ⟨.hbm, 62, rfl⟩
abbrev main_while0b_v24 : Ref sig .tc := ⟨.hbm, 63, rfl⟩
abbrev main_while0b_v25 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_cst_8 : Ref sig .tc := ⟨.hbm, 68, rfl⟩
abbrev main_while0b_v29 : Ref sig .tc := ⟨.hbm, 69, rfl⟩
abbrev main_while0b_v30 : Ref sig .tc := ⟨.hbm, 70, rfl⟩
abbrev main_while0b_cst_9 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_cst_10 : Ref sig .tc := ⟨.hbm, 76, rfl⟩
abbrev main_while0b_v35 : Ref sig .tc := ⟨.hbm, 77, rfl⟩
abbrev main_while0b_v36 : Ref sig .tc := ⟨.hbm, 78, rfl⟩
abbrev main_while0b_cst_11 : Ref sig .tc := ⟨.hbm, 79, rfl⟩
abbrev main_while0b_v37 : Ref sig .tc := ⟨.hbm, 80, rfl⟩
abbrev main_while0b_v38 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_cst_12 : Ref sig .tc := ⟨.hbm, 85, rfl⟩
abbrev main_while0b_v42 : Ref sig .tc := ⟨.hbm, 86, rfl⟩
abbrev main_while0b_v43 : Ref sig .tc := ⟨.hbm, 87, rfl⟩
abbrev main_while0b_cst_13 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_v49 : Ref sig .tc := ⟨.hbm, 94, rfl⟩
abbrev main_while0b_v50 : Ref sig .tc := ⟨.hbm, 95, rfl⟩
abbrev main_while0b_c_14 : Ref sig .tc := ⟨.hbm, 96, rfl⟩
abbrev main_while0b_v51 : Ref sig .tc := ⟨.hbm, 97, rfl⟩
abbrev main_v5 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩
abbrev main_call2_cst : Ref sig .tc := ⟨.hbm, 103, rfl⟩
abbrev main_call2_v0 : Ref sig .tc := ⟨.hbm, 104, rfl⟩
abbrev main_call2_cst_0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_cst_1 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_v10 : Ref sig .tc := ⟨.hbm, 117, rfl⟩

abbrev nD : Nat := 1
abbrev τ : Topo := Topo.v7x

variable {F : FTy → Type} [FloatOps F]

abbrev main_while0_count : Scf.Loop 32 := ⟨0#32, 50#32, 1#32⟩
-- ==== Proof.Setup.lean ====
/-
  THE PROGRAM AS THE LAUNCH THEOREM SEES IT, and the names the other modules share: the SparseCore call's
  configuration, the body table under it, the resource algebra (the handshakes' rounds, the pipelines' rounds, the
  transfers' counters), the arrays the SparseCore call works on, and the value it leaves in its result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipelines' staging rounds, -/
abbrev UP : Type := URounds (GSem nD τ sig) Unit
/-- and the transfers' counters, side by side. -/
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by
  unfold EP; infer_instance

/-! ## The SparseCore call's arrays -/

/-- The table widened to 128 lanes, the flat list of row numbers, and the gathered rows. -/
abbrev tLoc (d : Dev nD) : Loc nD τ sig := (SparseCore.T d).loc main_v3
abbrev iLoc (d : Dev nD) : Loc nD τ sig := (SparseCore.T d).loc main_v1
abbrev oLoc (d : Dev nD) : Loc nD τ sig := (SparseCore.T d).loc main_v4

/-- The row of the table the list names at place `r` (its remainder below the number of rows, so that it is total). -/
def rowAt (ix : S204800.Idx → Elt F .i32) (r : Fin 204800) : Fin 1000000 :=
  ⟨(ix (ix1 r)).toNat % 1000000, Nat.mod_lt _ (by decide)⟩

/-- The gathered rows: row `r` is the table's row the list names at `r`, lane by lane. -/
def gat (tb : S1000000x128.Idx → Elt F .f32) (ix : S204800.Idx → Elt F .i32) : S204800x128.Idx → Elt F .f32 :=
  fun x => tb (ix2 (rowAt (F := F) ix (x 0)) (x 1))

end Cert.Proof.Lookup

end
-- ==== Proof.Tile.lean ====
/-
  THE SPARSECORE KERNEL on one vector subcore, run once at symbolic coordinates. The subcore fetches its 6400 row
  numbers into its list buffer; then, fifty times, it gathers the 128 table rows the next 128 numbers name into its row
  buffer and copies them out to the next 128 rows of the result. The loop's invariant says which chunks of the result
  are done: chunk `t` is at the gathered rows (`gat`) for the trips passed, untouched for those to come.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

local notation "tV" => (Memref.whole Cert.KernelIdeal.main_v3_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)
local notation "sV" => (Memref.whole Cert.KernelIdeal.cc1_scratch0 : Memref Cert.KernelIdeal.sig Kind.scVector Space.vmem Cert.KernelIdeal.S6400 EltTy.i32)
local notation "rV" => (Memref.whole Cert.KernelIdeal.cc1_scratch1 : Memref Cert.KernelIdeal.sig Kind.scVector Space.vmem Cert.KernelIdeal.S128x128 EltTy.f32)

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev Trip : Type := Fin k1_t1_loop.trips

/-- The subcore's stretch of the list, the stretch of its list buffer that trip `t` reads, the whole table, and trip
    `t`'s chunk of the result, as the kernel slices them. -/
abbrev iSl (L : grid1.Coords) : Memref sig .scVector .hbm S6400 .i32 := (iV).slice (Rect.unit (s := S204800) (k1_off1 L) S6400.size (k1_off1_inb L)) (fun _ => rfl)
abbrev sSl (t : Trip) : Memref sig .scVector .vmem S128 .i32 := (sV).slice (Rect.unit (s := S6400) (k1_off2 t) S128.size (k1_off2_inb t)) (fun _ => rfl)
abbrev tAll : Memref sig .scVector .hbm S1000000x128 .f32 := (tV).slice (Rect.unit (s := S1000000x128) ![0, 0] S1000000x128.size inb_S1000000x128_S1000000x128_0_0) (fun _ => rfl)
abbrev oSl (L : grid1.Coords) (t : Trip) : Memref sig .scVector .hbm S128x128 .f32 := (oV).slice (Rect.unit (s := S204800x128) (k1_off3 L t) S128x128.size (k1_off3_inb L t)) (fun _ => rfl)

/-- Trip `t`'s elements of the result. -/
abbrev chSet (L : grid1.Coords) (t : Trip) : Finset S204800x128.Idx := (oSl L t).view.set

/-- What the fetch leaves in the list buffer: the subcore's 6400 row numbers. -/
def lst (ix : S204800.Idx → Elt F .i32) (L : grid1.Coords) : S6400.Idx → Elt F .i32 := fun x =>
  ix ((Rect.unit (s := S204800) (k1_off1 L) S6400.size (k1_off1_inb L)).emb x)

theorem read_iSl (ix : Buf (Elt F) (iLoc d)) : (iSl L).view.read (Elt F) ix = lst (F := F) ix L := rfl

theorem read_sSl (f : S6400.Idx → Elt F .i32) (t : Trip) (x : S128.Idx) :
    (sSl t).view.read (Elt F) (f : Buf (Elt F) ((sSl t).view.loc (thr d L))) x = f ((Rect.unit (s := S6400) (k1_off2 t) S128.size (k1_off2_inb t)).emb x) := rfl

/-- Every number of the list names a row of the table. -/
def Named (ix : S204800.Idx → Elt F .i32) : Prop := ∀ x, (ix x).toNat < 1000000

theorem named_lst {ix : S204800.Idx → Elt F .i32} (h : Named ix) (t : Trip) :
    ∀ x, ((sSl t).view.read (Elt F) (lst (F := F) ix L : Buf (Elt F) ((sSl t).view.loc (thr d L))) x).toNat < S1000000x128.size gathers_S1000000x128_S128x128.axis :=
  fun _ => h _

theorem read_tAll (tb : S1000000x128.Idx → Elt F .f32) : (tAll).view.read (Elt F) (tb : Buf (Elt F) (tLoc d)) = tb := by
  funext x
  rw [View.read_apply]
  refine (cast_eq _ _).trans (congrArg tb (funext fun a => Fin.ext ?_))
  match a with
  | ⟨0, _⟩ => show 0 + 1 * (x 0).val = (x 0).val; omega
  | ⟨1, _⟩ => show 0 + 1 * (x 1).val = (x 1).val; omega

theorem rowMajor_symm_128 (k : Fin S128.numel) : S128.rowMajor.symm k = ix1 (n := 128) ⟨k.val, k.isLt⟩ := by
  apply S128.rowMajor.injective
  rw [Equiv.apply_symm_apply]
  apply Fin.ext
  rw [Shape.rowMajor_val_one]

/-- The chunk trip `t` copies out is the gathered rows there. -/
theorem chunk_eq {ix : S204800.Idx → Elt F .i32} (h : Named ix) (tb : S1000000x128.Idx → Elt F .f32) (t : Trip) (y : S128x128.Idx) (hn : S128.numel = S128x128.size gathers_S1000000x128_S128x128.axis') :
    SparseCore.gatherPayload (F := F) (e := .f32) gathers_S1000000x128_S128x128 tb
        (SparseCore.rows (F := F) ((sSl t).view.read (Elt F) (lst (F := F) ix L : Buf (Elt F) ((sSl t).view.loc (thr d L)))) hn (named_lst (F := F) L h t)) y
      = gat (F := F) tb ix ((oSl L t).view.emb y) := by
  unfold SparseCore.gatherPayload gat
  refine congrArg tb (funext fun a => ?_)
  match a with
  | ⟨0, _⟩ =>
    refine (Shape.Gathers.idx_axis gathers_S1000000x128_S128x128 _ y).trans ?_
    apply Fin.ext
    show (ix ((Rect.unit (s := S204800) (k1_off1 L) S6400.size (k1_off1_inb L)).emb
        ((Rect.unit (s := S6400) (k1_off2 t) S128.size (k1_off2_inb t)).emb (S128.rowMajor.symm ((y 0).cast hn.symm))))).toNat
      = (ix (ix1 ((oSl L t).view.emb y 0))).toNat % 1000000
    rw [Nat.mod_eq_of_lt (h _), rowMajor_symm_128]
    congr 2
    funext b
    match b with
    | ⟨0, _⟩ =>
      apply Fin.ext
      show k1_off1 L 0 + 1 * (k1_off2 t 0 + 1 * (y 0).val) = k1_off3 L t 0 + 1 * (y 0).val
      rw [k1_off1_eq, k1_off2_eq, k1_off3_eq]
      simp
      omega
  | ⟨1, _⟩ =>
    apply Fin.ext
    refine (Shape.Gathers.idx_of_ne gathers_S1000000x128_S128x128 _ y 1 (by decide)).trans ?_
    show (y 1).val = k1_off3 L t 1 + 1 * (y 1).val
    rw [k1_off3_eq]
    simp

/-- A chunk written whole with the gathered rows holds them, element by element. -/
theorem chunk_done (tb : S1000000x128.Idx → Elt F .f32) {ix : S204800.Idx → Elt F .i32} (_ : Named ix) (t : Trip)
    (f₀ : S204800x128.Idx → Elt F .f32) (w : S128x128.Idx → Elt F .f32) (hw : ∀ y, w y = gat (F := F) tb ix ((oSl L t).view.emb y)) :
    ∀ i ∈ (oSl L t).view.set, (oSl L t).view.writes (Elt F) f₀ [⟨Rect.whole S128x128, w⟩] i = gat (F := F) tb ix i := by
  intro i hi
  obtain ⟨y, -, rfl⟩ := Finset.mem_map.mp hi
  have h := View.read_writes_cons_emb (Val := Elt F) (oSl L t).view f₀ (Rect.whole S128x128) w [] y
  rw [Rect.emb_whole_apply, View.read_apply] at h
  exact (cast_eq _ _).symm.trans (h.trans (hw y))

/-! ## What a task is handed and hands back -/

abbrev tq (q : PosShare TreeShare) (tb : S1000000x128.Idx → Elt F .f32) : sProp 𝕄 := tLoc d ↦{q} (tb : Buf (Elt F) (tLoc d))
abbrev iq (q : PosShare TreeShare) (ix : S204800.Idx → Elt F .i32) : sProp 𝕄 := iLoc d ↦{q} (ix : Buf (Elt F) (iLoc d))
/-- Trip `t`'s chunk of the result at contents `f`. -/
abbrev chPts (t : Trip) (f : S204800x128.Idx → Elt F .f32) : sProp 𝕄 := oLoc d ↦[chSet L t]{fullShare} (f : Buf (Elt F) (oLoc d))

theorem pts_oSl (t : Trip) (f : Buf (Elt F) (oLoc d)) :
    ((oSl L t).view.loc (thr d L) ↦[(oSl L t).view.set]{fullShare} f : sProp 𝕄) = chPts d L t f := rfl
theorem pts_tV (q : PosShare TreeShare) (f : Buf (Elt F) (tLoc d)) :
    ((tV).view.loc (thr d L) ↦{q} f : sProp 𝕄) = tLoc d ↦{q} f := rfl
theorem pts_iV (q : PosShare TreeShare) (f : Buf (Elt F) (iLoc d)) :
    ((iV).view.loc (thr d L) ↦{q} f : sProp 𝕄) = iLoc d ↦{q} f := rfl

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

/-- The three semaphores the kernel names are among the subcore's own. -/
theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (thr d L)).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_sV (f : Buf (Elt F) ((thr d L).loc cc1_scratch0)) :
    ((sV).view.loc (thr d L) ↦{fullShare} f : sProp 𝕄) = (thr d L).loc cc1_scratch0 ↦{fullShare} f := rfl
theorem pts_rV (f : Buf (Elt F) ((thr d L).loc cc1_scratch1)) :
    ((rV).view.loc (thr d L) ↦{fullShare} f : sProp 𝕄) = (thr d L).loc cc1_scratch1 ↦{fullShare} f := rfl

/-- After the fetch the list buffer holds the subcore's row numbers. -/
theorem list_done (ix : S204800.Idx → Elt F .i32) (fs : Buf (Elt F) ((thr d L).loc cc1_scratch0)) (w : S6400.Idx → Elt F .i32) (hw : w = lst (F := F) ix L) :
    ((sV).view.loc (thr d L) ↦{fullShare} View.write (Elt F) (sV).view fs w Finset.univ : sProp 𝕄)
      = (sV).view.loc (thr d L) ↦{fullShare} (lst (F := F) ix L : Buf (Elt F) ((thr d L).loc cc1_scratch0)) := by
  subst hw
  exact congrArg _ (View.write_whole_univ cc1_scratch0 fs (lst (F := F) ix L))

/-- What is copied out of the row buffer is what the gather wrote there. -/
theorem row_read (fr : Buf (Elt F) ((thr d L).loc cc1_scratch1)) (w : S128x128.Idx → Elt F .f32) :
    View.read (Elt F) (rV).view ((rV).view.writes (Elt F) fr [⟨Rect.whole S128x128, w⟩]) = w := by
  funext y
  have h := View.read_writes_cons_emb (Val := Elt F) (rV).view fr (Rect.whole S128x128) w [] y
  rwa [show (Rect.whole S128x128).emb y = y from Rect.emb_whole_apply S128x128 y] at h

/-! ## The loop -/

variable [FloatOps F]

/-- Chunks before trip `k` done, the others as they were. -/
def chunks (k : ℕ) (f₀ f₁ : S204800x128.Idx → Elt F .f32) : sProp 𝕄 :=
  iprop((bigSep (Finset.univ.filter fun t : Trip => t.val < k) fun t => chPts d L t f₁)
    ∗ bigSep (Finset.univ.filter fun t : Trip => k ≤ t.val) fun t => chPts d L t f₀)

theorem chunks_step (k : Trip) (f₀ f₁ : S204800x128.Idx → Elt F .f32) :
    chunks (F := F) d L k.val f₀ f₁ ⊢ iprop(chPts d L k f₀ ∗ (chPts d L k f₁ -∗ chunks (F := F) d L (k.val + 1) f₀ f₁)) := by
  unfold chunks
  have e₀ : (Finset.univ.filter fun t : Trip => k.val ≤ t.val) = insert k (Finset.univ.filter fun t : Trip => k.val + 1 ≤ t.val) := by
    ext t; simp only [Finset.mem_filter, Finset.mem_univ, true_and, Finset.mem_insert, Fin.ext_iff]; omega
  have e₁ : (Finset.univ.filter fun t : Trip => t.val < k.val + 1) = insert k (Finset.univ.filter fun t : Trip => t.val < k.val) := by
    ext t; simp only [Finset.mem_filter, Finset.mem_univ, true_and, Finset.mem_insert, Fin.ext_iff]; omega
  rw [e₀, e₁, SparseCore.bigSep_insert' (by simp), SparseCore.bigSep_insert' (by simp)]
  iintro ⟨Hd, Hk, Hr⟩
  isplitl [Hk]; · iexact Hk
  iintro Hk
  isplitr [Hr]; · isplitl [Hk] <;> iassumption
  iexact Hr

/-- The loop's invariant: the shares of the table, the list in its buffer, the row buffer at whatever the last trip
    left, the two semaphores at zero, the chunks, and what the subcore owes. -/
def inv (q : PosShare TreeShare) (tb : S1000000x128.Idx → Elt F .f32) (ix : S204800.Idx → Elt F .i32) (f₀ : S204800x128.Idx → Elt F .f32)
    (O : CellTallies nD τ sig (HIx 1)) (W : Waits sig (HIx 1)) (k : ℕ) (_ : PUnit) : sProp 𝕄 :=
  iprop(Transfers.MayWaits (thr d L) (default : HIx 1) O
    ∗ ((tV).view.loc (thr d L) ↦{q} (tb : Buf (Elt F) (tLoc d)))
    ∗ ((sV).view.loc (thr d L) ↦{fullShare} (lst (F := F) ix L : Buf (Elt F) ((thr d L).loc cc1_scratch0)))
    ∗ (∃ f, (rV).view.loc (thr d L) ↦{fullShare} f)
    ∗ semVal (cAcell d (cV L) (jV L)) 0 ∗ semVal (cCcell d (cV L) (jV L)) 0
    ∗ chunks (F := F) d L k f₀ (gat (F := F) tb ix)
    ∗ ∃ W', ⌜∀ p ∈ W', p ∈ W ∨ p.2 = none⌝ ∗ owes (thr d L) O W')

set_option maxHeartbeats 1000000 in
theorem tile_body (hF : (K (F := F)).Facts) (q qi : PosShare TreeShare) (tb : S1000000x128.Idx → Elt F .f32) (ix : S204800.Idx → Elt F .i32)
    (hix : Named ix) (f₀ : S204800x128.Idx → Elt F .f32) (O : CellTallies nD τ sig (HIx 1)) (W : Waits sig (HIx 1)) (hO : ∀ g, O g none = 0) :
    iprop(levAts (K (F := F)).L (K (F := F)).lev ∗ emp
        ∗ (tq d q tb ∗ iq d qi ix ∗ chunks (F := F) d L 0 f₀ (gat (F := F) tb ix))
        ∗ scopedBufs (thr d L) ∗ scopedSems0 (thr d L) ∗ owes (thr d L) O W)
      ⊢ wp frame (wpE (defs₀ (F := F)) 𝒱₀ (thr d L) none) Set.univ
          (cc1_gather_k L tV (Memref.isWhole_whole _) iV (Memref.isWhole_whole _) oV (Memref.isWhole_whole _)
            sV (Memref.isWhole_whole _) rV (Memref.isWhole_whole _) cc1_scratch2 cc1_scoped0 cc1_scoped1)
          fun _ => iprop(chunks (F := F) d L 50 f₀ (gat (F := F) tb ix)
            ∗ scopedBufs (thr d L) ∗ scopedSems0 (thr d L)
            ∗ ∃ W', ⌜∀ p ∈ W', p ∈ W ∨ p.2 = none⌝ ∗ owes (thr d L) O W') := by
  simp only [cc1_gather_k_eq_skeleton]; unfold cc1_gather_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tV (F := F) d L _ _).symm) $$ Ht
  ihave Hi' := (Entails.of_eq (pts_iV (F := F) d L _ _).symm) $$ Hi
  ihave Hs' := (Entails.of_eq (pts_sV (F := F) d L _).symm) $$ Hs
  ihave Hr' := (Entails.of_eq (pts_rV (F := F) d L _).symm) $$ Hr
  sl_exec
  sl_for (inv (F := F) d L q tb ix f₀ O W) $$ [Hmw Ht' Hs' Hr' HsemA HsemC Ho HO]
  case region =>
    intro k _
    unfold inv
    iintro ⟨Hmw, Ht, Hs, ⟨%fr, Hr⟩, HsemA, HsemC, Hch, %W', %hW', HO⟩
    have hin := named_lst (F := F) L hix k
    ihave Hch := (chunks_step (F := F) d L k f₀ (gat (F := F) tb ix)) $$ Hch
    icases Hch with ⟨Hc, Hch⟩
    ihave Hc := (Entails.of_eq (pts_oSl (F := F) d L k f₀).symm) $$ Hc
    sl_exec
    sl_step
    isplitl [Hmw]; · iexact Hmw
    isplitl [Ht]; · iexact Ht
    isplitl [Hs]; · iexact Hs
    isplitl [Hr]; · iexists _; iexact Hr
    isplitl [HsemA]; · iexact HsemA
    isplitl [HsemC]; · iexact HsemC
    isplitl [Hch Hc]
    · iapply Hch
      have hw : ∀ y, tile_body.sl.dma0_1 d L tb ix k fr hin y = gat (F := F) tb ix ((oSl L k).view.emb y) := by
        intro y
        unfold tile_body.sl.dma0_1 tile_body.sl.gather0
        rw [ReadAs.apply_same]
        refine (congrFun (row_read (F := F) d L fr _) y).trans ?_
        rw [read_tAll]
        exact chunk_eq L hix tb k y _
      iapply (Entails.of_eq (pointsTo_congr (chunk_done (F := F) L tb hix k f₀ _ hw))); iexact Hc
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht']; · iexact Ht'
    isplitl [Hs']
    · have hw : tile_body.sl.dma0 (F := F) L ix = lst (F := F) ix L := by
        unfold tile_body.sl.dma0
        rw [ReadAs.apply_same]
        rfl
      iapply (Entails.of_eq (list_done (F := F) d L ix fs _ hw)); iexact Hs'
    isplitl [Hr']; · iexists _; iexact Hr'
    isplitl [HsemA]; · iexact HsemA
    isplitl [HsemC]; · iexact HsemC
    isplitl [Ho]; · iexact Ho
    iexists _; isplitr
    swap; · iexact HO
    ipureintro; intro p hp
    rcases Finset.mem_insert.mp hp with hp | hp; · exact .inr (hp ▸ rfl)
    exact .inl hp
  iintro %_ HI
  unfold inv
  icases HI with ⟨-, -, Hs, ⟨%fr', Hr⟩, HsemA, HsemC, Hch, %W', %hW', HO⟩
  sl_exec
  sl_step
  isplitl [Hch]; · iexact Hch
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Cert.Proof.Lookup

end
-- ==== Proof.Widen.lean ====
/-
  THE FIRST TENSORCORE CALL: the table, handed over transposed, is turned back and written into the first 64 lanes of a
  table of 128 lanes, block of rows by block of rows. Lanes 64 to 127 are never written, so what the call leaves there is
  not known; the data below say of the result only what its first 64 lanes hold. The last block overhangs the table: the
  rows past its end are not known either.
-/
module

public import proofs.«01_k».proof.Proof.Setup
public import Idealize.ShloMosaic.Lib.Pipeline.DatRel
public import Idealize.ShloMosaic.Lib.Pipeline.Value
public import Idealize.ShloMosaic.Lib.VecWindow

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Idealize.ShloMosaic.ValueIdx (ix1 ix2 ix3)

variable {F : FTy → Type} [FloatOps F]

local notation "𝕄" => MM F

/-- The tables of the two pipelines: none is prefetched. -/
abbrev adm : (p : Fin 2) → (pcfgs (F := F) p).Adm := fun p => (cfgs p).toPCfg_adm

/-! ## What the TensorCore owes, through a call of a pipeline -/

/-- The TensorCore before the SparseCore call (`n = 0`) or after it (`n = 1`): what it owes, its recorded waits low. -/
abbrev owesB (c : Dev nD) (n : ℕ) : sProp 𝕄 :=
  iprop(∃ W, ⌜(K (F := F)).WBelow (T c) W (8 * n)⌝ ∗ owes (T c) ((K (F := F)).Otc c n) W)

/-- The bound on its recorded waits that a pipeline keeps. -/
def recB (c : Dev nD) (n : ℕ) : Set (SemLoc sig × HIx 1) := {p | (K (F := F)).lev (T c, p.1) p.2 ≤ 8 * n}

theorem otc_none (c : Dev nD) (n : ℕ) (g : GSem nD τ sig) : (K (F := F)).Otc (N := 1) c n g none = 0 := by
  by_contra h
  have := SparseCore.Cfg.lev_of_Otc_pos (K := K (F := F)) (d := c) (n := n) (g := g) (ι := none) (Nat.pos_of_ne_zero h)
  rw [SparseCore.Cfg.lev_none] at this
  omega

theorem recB_waits (c : Dev nD) (n : ℕ) (cfg : Cfg sig Λ₀) : (cfg.waitPairs (none : HIx 1)) ⊆ recB (F := F) c n := by
  rintro p ⟨w, s, rfl⟩
  show (K (F := F)).lev _ none ≤ _
  rw [SparseCore.Cfg.lev_none]; exact Nat.zero_le _

theorem owesB_in (c : Dev nD) (n : ℕ) (B : Set (SemLoc sig × HIx 1)) (hB : recB (F := F) c n ⊆ B) :
    owesB (F := F) c n ⊢ Pipeline.owesWithin c ((K (F := F)).Otc c n) B := by
  iintro ⟨%W, %hW, HO⟩; iexists W; isplitr; · ipureintro; exact fun p hp => hB (hW p hp)
  iexact HO

theorem owesB_out (c : Dev nD) (n : ℕ) (B : Set (SemLoc sig × HIx 1)) (hB : B ⊆ recB (F := F) c n) :
    Pipeline.owesWithin c ((K (F := F)).Otc c n) B ⊢ owesB (F := F) c n := by
  iintro ⟨%W, %hW, HO⟩; iexists W; isplitr; · ipureintro; exact fun p hp => hB (hW hp)
  iexact HO

/-! ## The body -/

/-- What the body stores at a place is what it loaded at the transposed place. -/
theorem pay1_apply (v : Vec F S64x32768 .f32) (r : Fin 32768) (k : Fin 64) :
    k0_pay1 (F := F) v (ix2 r k) = v (ix2 k r) := by
  show transpose S32768x64 [1, 0] (shapeCast S64x32768 v shapeCasts_S64x32768_S64x32768) transposes_S64x32768_p1_0_S32768x64 (ix2 r k) = _
  rw [shapeCast_self]
  exact transpose_apply _ _ _ _ _ fun b => match b with | ⟨0, _⟩ => rfl | ⟨1, _⟩ => rfl

theorem widen_run (c : Dev nD) (i : grid0.Coords) (M0 : Memref sig .tc .vmem S64x32768 .f32) (h0 : M0.IsWhole)
    (M1 : Memref sig .tc .vmem S32768x128 .f32) (h1 : M1.IsWhole) (X : S64x32768.Idx → Elt F .f32) (Y : S32768x128.Idx → Elt F .f32) (E : Set ℕ) (Q : PUnit → sProp 𝕄) :
    iprop(owns (c : Thread nD τ) M0 fullShare X ∗ owns (c : Thread nD τ) M1 fullShare Y
        ∗ (iprop(owns (c : Thread nD τ) M0 fullShare X
            ∗ ∃ Z : S32768x128.Idx → Elt F .f32, ⌜∀ (r : Fin 32768) (k : Fin 128) (hk : k.val < 64), Z (ix2 r k) = X (ix2 ⟨k.val, hk⟩ r)⌝ ∗ owns (c : Thread nD τ) M1 fullShare Z) -∗ Q ⟨⟩))
      ⊢ wp frame (wpE (defs₀ (F := F)) 𝒱₀ c none) E (cc0__trans_body i M0 h0 M1 h1) Q := by
  simp only [cc0__trans_body_eq_skeleton]; unfold cc0__trans_body_skel
  unfold owns
  iintro ⟨⟨%f0, %hf0, H0⟩, ⟨%f1, %hf1, H1⟩, Hk⟩
  sl_exec
  sl_step
  iapply Hk
  isplitl [H0]
  · iexists f0; isplitr; · ipureintro; exact hf0
    iexact H0
  iexists _; isplitr; swap
  · iexists _; isplitr; swap; · iexact H1
    ipureintro; rfl
  ipureintro
  intro r k hk
  have h := View.read_writes_cons_emb (Val := Elt F) M1.view f1 (Rect.unit (s := S32768x128) ![0, 0] S32768x64.size inb_S32768x128_S32768x64_0_0)
    (k0_pay1 (View.readAt (Elt F) M0.view (Rect.unit ![0, 0] S64x32768.size inb_S64x32768_S64x32768_0_0).toLoadRect f0)) [] (ix2 r ⟨k.val, hk⟩)
  rw [View.readAt_full, hf0, pay1_apply] at h
  rw [View.readAt_full, hf0]
  rw [← h]
  refine congrArg _ (funext fun a => Fin.ext ?_)
  match a with
  | ⟨0, _⟩ => show r.val = 0 + 1 * r.val; omega
  | ⟨1, _⟩ => show k.val = 0 + 1 * k.val; omega

/-! ## The data of the pipeline -/

/-- The call's arrays on device `c`. -/
abbrev srcT (c : Dev nD) : Type := Buf (Elt F) ((c : Thread nD τ).loc main_v2)
abbrev wideT (c : Dev nD) : Type := Buf (Elt F) ((c : Thread nD τ).loc main_v3)

/-- The wide table holds the transposed one in its first 64 lanes, on the rows below `n`. -/
def WideOK (A0 : S64x1000000.Idx → Elt F .f32) (n : ℕ) (g : S1000000x128.Idx → Elt F .f32) : Prop :=
  ∀ (r : Fin 1000000) (k : Fin 128) (hk : k.val < 64), r.val < n → g (ix2 r k) = A0 (ix2 ⟨k.val, hk⟩ r)

/-- What a block of the wide table holds when the body has run at point `t`. -/
def BlockOK (A0 : S64x1000000.Idx → Elt F .f32) (t : ℕ) (X : S32768x128.Idx → Elt F .f32) : Prop :=
  ∀ (r : Fin 32768) (k : Fin 128) (hk : k.val < 64) (hr : t * 32768 + r.val < 1000000), X (ix2 r k) = A0 (ix2 ⟨k.val, hk⟩ ⟨t * 32768 + r.val, hr⟩)

/-- The block of the transposed table the fetch at point `t` reads. -/
def srcBlk (c : Dev nD) (A0 : srcT (F := F) c) (t : Fin cfg0.N) : (win0_0.xblock (grid0.coords t)).Idx → Elt F .f32 :=
  (win0_0.blk t).view.read (Elt F) A0

def Rl0 (A0 : S64x1000000.Idx → Elt F .f32) : (w : Fin cfg0.W) → Fin cfg0.N → ((cfg0.win w).block.Idx → Elt F (cfg0.win w).elt) → Prop := fun w t X => match w with
  | ⟨0, _⟩ => True
  | ⟨1, _⟩ => BlockOK (F := F) A0 t.val X

def dat0 (c : Dev nD) (A0 : srcT (F := F) c) (A1 : wideT (F := F) c) (n : ℕ) : Dat τ (Elt F) (HIx 1) ℕ UU ℕ cfg0 c where
  A w := match w with
    | ⟨0, _⟩ => A0
    | ⟨1, _⟩ => A1
  after w t := match w with
    | ⟨0, _⟩ => win0_0.fill (grid0.coords t) (fun _ => Classical.arbitrary _) (srcBlk c A0 t)
    | ⟨1, _⟩ => fun _ => Classical.arbitrary _
  Φ _ := Pipeline.scopedRest (Ix := HIx 1) (Name := ℕ) (U := UU) (Lvl := ℕ) (Val := Elt F) spec0 c
  q _ := fullShare
  owed _ := (K (F := F)).Otc c n
  recorded _ := recB (F := F) c n

/-- The result alone is held to a predicate. -/
def fgt0 : Fin cfg0.W → Bool := fun w => match w with
  | ⟨0, _⟩ => false
  | ⟨1, _⟩ => true

abbrev rdat0 (c : Dev nD) (A0 : srcT (F := F) c) (A1 : wideT (F := F) c) (n : ℕ) : RDat τ (Elt F) (HIx 1) ℕ UU ℕ cfg0 c :=
  (dat0 c A0 A1 n).toRRel fgt0 (Rl0 A0)

/-! ## Where the blocks lie -/

theorem index0_0 (t : Fin cfg0.N) : win0_0.index t 0 = 0 ∧ win0_0.index t 1 = t.val ∧ win0_0.xsize (grid0.coords t) 0 = 64
    ∧ win0_0.xsize (grid0.coords t) 1 = min 32768 (1000000 - 32768 * t.val) := by
  revert t; decide +kernel

theorem index0_1 (t : Fin cfg0.N) : win0_1.index t 0 = t.val ∧ win0_1.index t 1 = 0 ∧ win0_1.xsize (grid0.coords t) 1 = 128
    ∧ win0_1.xsize (grid0.coords t) 0 = min 32768 (1000000 - 32768 * t.val) := by
  revert t; decide +kernel

/-- The fetched block, place by place: lane `k` of row `32768 t + r` of the transposed table. -/
theorem srcBlk_fill (c : Dev nD) (A0 : srcT (F := F) c) (t : Fin cfg0.N) (d : S64x32768.Idx → Elt F .f32)
    (k : Fin 64) (r : Fin 32768) (hr : t.val * 32768 + r.val < 1000000) :
    win0_0.fill (grid0.coords t) d (srcBlk c A0 t) (ix2 k r) = A0 (ix2 k ⟨t.val * 32768 + r.val, hr⟩) := by
  obtain ⟨i0, i1, x0, x1⟩ := index0_0 t
  let j : (win0_0.xblock (grid0.coords t)).Idx := fun a => match a with
    | ⟨0, _⟩ => ⟨k.val, by show k.val < win0_0.xsize (grid0.coords t) 0; rw [x0]; exact k.isLt⟩
    | ⟨1, _⟩ => ⟨r.val, by show r.val < win0_0.xsize (grid0.coords t) 1; rw [x1]; have := r.isLt; omega⟩
  have hj : (ix2 k r : S64x32768.Idx) = win0_0.xinj (grid0.coords t) j :=
    funext fun a => Fin.ext (match a with | ⟨0, _⟩ => rfl | ⟨1, _⟩ => rfl)
  rw [hj, Window.fill_xinj]
  show A0 ((win0_0.blk t).view.emb j) = _
  refine congrArg A0 (funext fun a => Fin.ext ?_)
  match a with
  | ⟨0, _⟩ => show win0_0.index t 0 * 64 + 1 * k.val = k.val; rw [i0]; omega
  | ⟨1, _⟩ => show win0_0.index t 1 * 32768 + 1 * r.val = t.val * 32768 + r.val; rw [i1]; omega

/-! ## The body obligation -/

theorem before0 (c : Dev nD) (A0 : srcT (F := F) c) (A1 : wideT (F := F) c) (n : ℕ) (t : Fin cfg0.N) (d) :
    (dat0 c A0 A1 n).before (0 : Fin 2) t d = win0_0.fill (grid0.coords t) d (srcBlk c A0 t) := by
  unfold Dat.before; rw [if_pos (fetch0_0 t)]; rfl

theorem widen_body (c : Dev nD) (A0 : srcT (F := F) c) (A1 : wideT (F := F) c) (n : ℕ) :
    BodyObligationRel (dat0 c A0 A1 n) (defs₀ (F := F)) 𝒱₀ (none : HIx 1) Set.univ fgt0 (Rl0 A0) := fun t => by
  rw [bigSep_W0, bigSep_W0]
  simp only [show fgt0 0 = false from rfl, show fgt0 1 = true from rfl]
  rw [show (dat0 c A0 A1 n).Φ t.succ = (dat0 c A0 A1 n).Φ t.castSucc from rfl,
    show (dat0 c A0 A1 n).owesAt none t.succ = (dat0 c A0 A1 n).owesAt none t.castSucc from rfl]
  iintro ⟨HΦ, Ho, ⟨%d0, H0⟩, ⟨%Y, -, H1⟩⟩
  rw [before0 c A0 A1 n t d0]
  iapply (widen_run (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 (srcBlk c A0 t)) Y Set.univ _)
  isplitl [H0]; · iexact H0
  isplitl [H1]; · iexact H1
  iintro ⟨H0, ⟨%Z, %hZ, H1⟩⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0 (win0_0.cut (grid0.coords t)
      (win0_0.fill (grid0.coords t) (fun _ => Classical.arbitrary _) (srcBlk c A0 t))))
    rw [Window.cut_fill]
  · iexists Z
    isplitr
    · ipureintro
      intro r k hk hr
      rw [hZ r k hk]; exact srcBlk_fill c A0 t d0 ⟨k.val, hk⟩ r hr
    · iexact H1

/-! ## What the array holds at the end -/

/-- One block written: the rows below the next block are right. -/
theorem wide_step (A0 : S64x1000000.Idx → Elt F .f32) (t : Fin cfg0.N) (G₀ : S1000000x128.Idx → Elt F .f32) (X : S32768x128.Idx → Elt F .f32)
    (h₀ : WideOK (F := F) A0 (32768 * t.val) G₀) (hX : BlockOK (F := F) A0 t.val X) :
    WideOK (F := F) A0 (32768 * (t.val + 1)) ((win0_1.blk t).view.write (Elt F) G₀ (win0_1.cut (grid0.coords t) X) Finset.univ) := by
  obtain ⟨i0, i1, x1, x0⟩ := index0_1 t
  intro r k hk hr
  by_cases hlt : r.val < 32768 * t.val
  · rw [View.write_of_not_mem]; · exact h₀ r k hk hlt
    rw [View.setOn_univ]
    show (ix2 r k) ∉ ((View.whole main_v3).slice (win0_1.rect t)).set
    rw [View.set_slice_whole, Rect.mem_set_unit]
    intro h
    have h0 : win0_1.index t 0 * 32768 ≤ r.val := (h 0).1
    rw [i0] at h0; omega
  · have hr' := r.isLt
    let j : (win0_1.xblock (grid0.coords t)).Idx := fun a => match a with
      | ⟨0, _⟩ => ⟨r.val - 32768 * t.val, by show _ < win0_1.xsize (grid0.coords t) 0; rw [x0]; omega⟩
      | ⟨1, _⟩ => ⟨k.val, by show k.val < win0_1.xsize (grid0.coords t) 1; rw [x1]; exact k.isLt⟩
    have hj : (ix2 r k : S1000000x128.Idx) = (win0_1.blk t).view.emb j := funext fun a => Fin.ext (match a with
      | ⟨0, _⟩ => by show r.val = win0_1.index t 0 * 32768 + 1 * (r.val - 32768 * t.val); rw [i0]; omega
      | ⟨1, _⟩ => by show k.val = win0_1.index t 1 * 128 + 1 * k.val; rw [i1]; omega)
    rw [hj, View.write_emb_of_mem _ _ (Finset.mem_univ j)]
    show X (win0_1.xinj (grid0.coords t) j) = _
    have hx : win0_1.xinj (grid0.coords t) j = (ix2 (⟨r.val - 32768 * t.val, by omega⟩ : Fin 32768) k : S32768x128.Idx) :=
      funext fun a => Fin.ext (match a with | ⟨0, _⟩ => rfl | ⟨1, _⟩ => rfl)
    rw [hx, hX _ k hk (by show t.val * 32768 + (r.val - 32768 * t.val) < 1000000; omega)]
    refine congrArg A0 (funext fun a => Fin.ext ?_)
    match a with
    | ⟨0, _⟩ => rfl
    | ⟨1, _⟩ => show t.val * 32768 + (r.val - 32768 * t.val) = r.val; omega

theorem wide_at (c : Dev nD) (A0 : srcT (F := F) c) (A1 : wideT (F := F) c) (n : ℕ) : ∀ (u : ℕ), u ≤ cfg0.N → ∀ G,
    (rdat0 c A0 A1 n).ArrAt (1 : Fin 2) u G → WideOK (F := F) A0 (32768 * u) G
  | 0, _, G, _ => fun r k hk hr => absurd hr (by omega)
  | u + 1, hu, G, h => by
    have h' := h
    rw [show u + 1 = (⟨u, hu⟩ : Fin cfg0.N).val + 1 from rfl, RDat.ArrAt_succ, if_pos (flush0_1 _)] at h'
    obtain ⟨G₀, X, hG₀, hX, rfl⟩ := h'
    exact wide_step A0 ⟨u, hu⟩ G₀ X (wide_at c A0 A1 n u (Nat.le_of_succ_le hu) G₀ hG₀) (Dat.toRRel_leaves (dat0 c A0 A1 n) rfl hX)

theorem wide_end (c : Dev nD) (A0 : srcT (F := F) c) (A1 : wideT (F := F) c) (n : ℕ) (G)
    (h : (rdat0 c A0 A1 n).ArrAt (1 : Fin 2) cfg0.N G) : WideOK (F := F) A0 1000000 G :=
  fun r k hk _ => wide_at c A0 A1 n cfg0.N le_rfl G h r k hk (by show r.val < 32768 * grid0.N; rw [N_0]; have := r.isLt; omega)

/-! ## The region -/

/-- The proof data of every pipeline: this one's at its own. -/
abbrev rdats0 (A0 : (c : Dev nD) → srcT (F := F) c) (A1 : (c : Dev nD) → wideT (F := F) c) (n : ℕ) :
    (p : Fin 2) → (c : Dev nD) → RDat τ (Elt F) (HIx 1) ℕ UU ℕ (Pipeline.pin (pcfgs (F := F)) adm p) c :=
  RDat.familyOf (pcfgs (F := F)) adm 0 fun c => rdat0 c (A0 c) (A1 c) n

theorem rdats0_self (A0 : (c : Dev nD) → srcT (F := F) c) (A1 : (c : Dev nD) → wideT (F := F) c) (n : ℕ) (c : Dev nD) :
    rdats0 A0 A1 n 0 c = rdat0 c (A0 c) (A1 c) n := RDat.familyOf_self _ _ _ _ _

set_option backward.isDefEq.respectTransparency.types false in
def reg0 (A0 : (c : Dev nD) → srcT (F := F) c) (A1 : (c : Dev nD) → wideT (F := F) c) (n : ℕ) :
    Pipeline.RDat.RegionSeg (pcfgs (F := F)) adm (rdats0 A0 A1 n) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := by rw [rdats0_self]; exact (widen_body c (A0 c) (A1 c) n).toRRel
  hwaits c := Pipeline.RDat.cellsWaits_intro cfgs (rdats0 A0 A1 n) (none : HIx 1) 0 c fun w s t => by
    rw [rdats0_self]; exact (K (F := F)).mayWait_none _ (otc_none c n)
  pre c := iprop(((c : Thread nD τ).loc main_v2 ↦{fullShare} A0 c) ∗ ((c : Thread nD τ).loc main_v3 ↦{fullShare} A1 c) ∗ owesB (F := F) c n)
  post c := iprop(((c : Thread nD τ).loc main_v2 ↦{fullShare} A0 c)
    ∗ (∃ g : wideT (F := F) c, ⌜WideOK (F := F) (A0 c) 1000000 g⌝ ∗ ((c : Thread nD τ).loc main_v3 ↦{fullShare} g)) ∗ owesB (F := F) c n)
  X _ := BI.emp
  Y _ := BI.emp
  Z _ := BI.emp
  hentry c := by
    rw [Pipeline.ownSems0_none]
    have hA := Pipeline.RDat.arrays_eq (pcfgs (F := F)) adm (rdats0 A0 A1 n) 0 c (launch0).arr_whole
      (fun w => by rw [rdats0_self]; exact RDat.share_full _ (fun _ => rfl) w) (rdats0 A0 A1 n 0 c).A
    rw [hA, show (bigSep Finset.univ fun w => (((c.tc : Thread nD τ).loc (Pipeline.arrRef (Pipeline.pin (pcfgs (F := F)) adm 0).spec w)) ↦{fullShare} (rdats0 A0 A1 n 0 c).A w : sProp 𝕄))
      = iprop(((c : Thread nD τ).loc main_v2 ↦{fullShare} A0 c) ∗ ((c : Thread nD τ).loc main_v3 ↦{fullShare} A1 c)) from by
        rw [rdats0_self]; exact bigSep_W0 _]
    iintro ⟨⟨H2, H3, HO⟩, -, -⟩
    imodintro
    isplitl [H2 H3]; · isplitl [H2] <;> iassumption
    isplitr; · unfold Pipeline.prefHeld; rw [show (Finset.univ : Finset (Fin 0)) = ∅ from rfl, BI.bigSep_empty]; iempintro
    isplitl [HO]
    · rw [rdats0_self]
      iapply (owesB_in (F := F) c n _ (fun _ h => Or.inl h)); iexact HO
    isplitr <;> iempintro
  hin c := by
    rw [rdats0_self]
    change _ ⊢ Pipeline.scopedRest (Ix := HIx 1) (Name := ℕ) (U := UU) (Lvl := ℕ) (Val := Elt F) spec0 c
    iintro ⟨-, -, Hr⟩; iexact Hr
  hout c := by
    rw [Pipeline.ownSems0_none, rdats0_self]
    change Pipeline.scopedRest (Ix := HIx 1) (Name := ℕ) (U := UU) (Lvl := ℕ) (Val := Elt F) spec0 c ⊢ _
    iintro Hr
    isplitr; · iempintro
    isplitr; · iempintro
    iexact Hr
  hexit c := by
    have hA := Pipeline.RDat.arraysAt_eq (pcfgs (F := F)) adm (rdats0 A0 A1 n) 0 c (launch0).arr_whole
      (fun w => by rw [rdats0_self]; exact RDat.share_full _ (fun _ => rfl) w) (Pipeline.pin (pcfgs (F := F)) adm 0).N
    rw [hA,
      show (bigSep Finset.univ fun w => iprop(∃ G, ⌜(rdats0 A0 A1 n 0 c).ArrAt w (Pipeline.pin (pcfgs (F := F)) adm 0).N G⌝ ∗ (((c.tc : Thread nD τ).loc (Pipeline.arrRef (Pipeline.pin (pcfgs (F := F)) adm 0).spec w)) ↦{fullShare} G : sProp 𝕄)))
      = iprop((∃ G, ⌜(rdat0 c (A0 c) (A1 c) n).ArrAt (0 : Fin 2) cfg0.N G⌝ ∗ ((c : Thread nD τ).loc main_v2 ↦{fullShare} G))
        ∗ (∃ G, ⌜(rdat0 c (A0 c) (A1 c) n).ArrAt (1 : Fin 2) cfg0.N G⌝ ∗ ((c : Thread nD τ).loc main_v3 ↦{fullShare} G))) from by
        rw [rdats0_self]; exact bigSep_W0 _]
    iintro ⟨⟨⟨%G0, %h0, H2⟩, ⟨%G1, %h1, H3⟩⟩, HO, -, -⟩
    imodintro
    rw [RDat.ArrAt_in _ _ rfl] at h0
    subst h0
    isplitl [H2]; · iexact H2
    isplitl [H3]
    · iexists G1; isplitr; · ipureintro; exact wide_end c (A0 c) (A1 c) n G1 h1
      iexact H3
    rw [rdats0_self]
    iapply (owesB_out (F := F) c n _ (Set.union_subset (fun _ h => h) (recB_waits c n _))); iexact HO

set_option backward.isDefEq.respectTransparency.types false in
/-- The call, in @main. -/
theorem wp_widen (c : Dev nD) (A0 : (c : Dev nD) → srcT (F := F) c) (A1 : (c : Dev nD) → wideT (F := F) c) (n : ℕ) (E : PUnit → sProp 𝕄) :
    iprop((iprop(boundary (c.tc : Thread nD τ) ∗ (reg0 A0 A1 n).post c) -∗ E ⟨⟩)
        ∗ boundary (c.tc : Thread nD τ) ∗ (reg0 A0 A1 n).pre c ∗ levAts (K (F := F)).L (K (F := F)).lev
        ∗ Pipeline.cellsGhost cfgs EP 0 c ∗ Pipeline.toksInit cfgs EP 0 c)
      ⊢ wp frame (wpE (D (F := F)) (𝒱₀.lift) (c.tc : Thread nD τ) none) Set.univ (Prog.lift (.customCall (Pipeline.entry 0) ())) E := by
  have h := Pipeline.RDat.RegionSeg.wp (pcfgs (F := F)) adm (rdats0 A0 A1 n) (none : HIx 1) cellOf_inj EP defs₀ 𝒱₀
    (K (F := F)).L (K (F := F)).lev (reg0 A0 A1 n) c none (fun u hu => absurd hu (by simp)) (fun x => Prog.ret x) E
  refine BIBase.Entails.trans (sep_mono (wand_mono .rfl ?_) .rfl) h
  rw [wp_ret]; iintro H; imodintro; iexact H

end Cert.Proof.Lookup

end
-- ==== Proof.Tiles.lean ====
/-
  THE SPARSECORE CALL'S HANDSHAKES: what the call hands each of its 32 subcores and what each hands back. A subcore is
  handed a share of the widened table, a share of the list of row numbers, and its 50 chunks of 128 rows of the result;
  it hands back the chunks holding gathered rows. Of a gathered row the first 64 lanes are known: they are the table's.
-/
module

public import proofs.«01_k».proof.Proof.Tile
public import proofs.«01_k».proof.Proof.Widen

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MM F

local notation "tV" => (Memref.whole Cert.KernelIdeal.main_v3_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)
local notation "sV" => (Memref.whole Cert.KernelIdeal.cc1_scratch0 : Memref Cert.KernelIdeal.sig Kind.scVector Space.vmem Cert.KernelIdeal.S6400 EltTy.i32)
local notation "rV" => (Memref.whole Cert.KernelIdeal.cc1_scratch1 : Memref Cert.KernelIdeal.sig Kind.scVector Space.vmem Cert.KernelIdeal.S128x128 EltTy.f32)

/-! ## The gathered rows, as far as they are known -/

/-- The first 64 lanes of every row are those of the table's row the list names there. -/
def RowsOK (A : S64x1000000.Idx → Elt F .f32) (ix : S204800.Idx → Elt F .i32) (g : S204800x128.Idx → Elt F .f32) : Prop :=
  ∀ (r : Fin 204800) (k : Fin 128) (hk : k.val < 64), g (ix2 r k) = A (ix2 ⟨k.val, hk⟩ (rowAt (F := F) ix r))

theorem rowsOK_gat {A : S64x1000000.Idx → Elt F .f32} (ix : S204800.Idx → Elt F .i32) {tb : S1000000x128.Idx → Elt F .f32}
    (h : WideOK (F := F) A 1000000 tb) : RowsOK A ix (gat (F := F) tb ix) :=
  fun r k hk => h (rowAt (F := F) ix r) k hk (rowAt (F := F) ix r).isLt

instance (A : S64x1000000.Idx → Elt F .f32) (ix : S204800.Idx → Elt F .i32) : Nonempty {f : S204800x128.Idx → Elt F .f32 // RowsOK A ix f} :=
  ⟨⟨fun x => A (ix2 ⟨(x 1 : ℕ) % 64, Nat.mod_lt _ (by decide)⟩ (rowAt (F := F) ix (x 0))), fun r k hk =>
    congrArg (fun j => A (ix2 j (rowAt (F := F) ix r))) (Fin.ext (Nat.mod_eq_of_lt hk))⟩⟩

/-! ## What is handed over -/

/-- Core `c`'s subcore `i` as a point of the call's grid. -/
def coordsV (c : Fin (grid1.bound 0)) (s : Fin (grid1.bound 1)) : grid1.Coords :=
  fun | 0 => c | 1 => s | ⟨_ + 2, h⟩ => absurd h (Nat.not_lt.2 (Nat.le_add_left _ _))

/-- Its share of the table and of the list. -/
def sh (c : Fin 2) (i : Fin 16) : PosShare TreeShare := pieceOf (pieceOf fullShare 2 (by decide) c) 16 (by decide) i

abbrev LV (c : Fin 2) (i : Fin 16) : grid1.Coords := coordsV c i

abbrev goP (A : S64x1000000.Idx → Elt F .f32) (ix : S204800.Idx → Elt F .i32) (f₀ : S204800x128.Idx → Elt F .f32) (d : Dev nD) (c : Fin 2) (i : Fin 16) : sProp 𝕄 :=
  iprop((∃ tb : {tb : S1000000x128.Idx → Elt F .f32 // WideOK (F := F) A 1000000 tb}, tq d (sh c i) tb.1) ∗ iq d (sh c i) ix
    ∗ bigSep Finset.univ fun t : Trip => chPts d (LV c i) t f₀)

abbrev tdP (A : S64x1000000.Idx → Elt F .f32) (ix : S204800.Idx → Elt F .i32) (d : Dev nD) (c : Fin 2) (i : Fin 16) : sProp 𝕄 :=
  iprop(∃ f : {f : S204800x128.Idx → Elt F .f32 // RowsOK A ix f}, bigSep Finset.univ fun t : Trip => chPts d (LV c i) t f.1)

/-- The handshakes, from the table `A` (turned), the list `ix` and the result's contents `f₀` on every device. -/
def P (A : Dev nD → S64x1000000.Idx → Elt F .f32) (ix : Dev nD → S204800.Idx → Elt F .i32) (f₀ : Dev nD → S204800x128.Idx → Elt F .f32) :
    (K (F := F)).Pay (nD := nD) (Val := Elt F) (Name := ℕ) (U := UU) where
  st := fun q d c => match q with | 0 => bigSep Finset.univ fun i : Fin 16 => goP (A d) (ix d) (f₀ d) d (Fin.cast nCore_zero c) i
  dn := fun q d c => match q with | 0 => bigSep Finset.univ fun i : Fin 16 => tdP (A d) (ix d) d (Fin.cast nCore_zero c) i
  go := fun q d c i => match q with | 0 => goP (A d) (ix d) (f₀ d) d (Fin.cast nCore_zero c) (Fin.cast nSub_zero i)
  td := fun q d c i => match q with | 0 => tdP (A d) (ix d) d (Fin.cast nCore_zero c) (Fin.cast nSub_zero i)
  x := fun _ _ => iprop(emp)

variable (A : Dev nD → S64x1000000.Idx → Elt F .f32) (ix : Dev nD → S204800.Idx → Elt F .i32) (f₀ : Dev nD → S204800x128.Idx → Elt F .f32)

instance P_storable : (P A ix f₀).IsStorable where
  st q d c := match q with
    | 0 => (inferInstance : BI.Storable (upEmb : UEmb _ 𝕄) (bigSep Finset.univ fun i : Fin 16 => goP (A d) (ix d) (f₀ d) d (Fin.cast nCore_zero c) i))
  dn q d c := match q with
    | 0 => (inferInstance : BI.Storable (upEmb : UEmb _ 𝕄) (bigSep Finset.univ fun i : Fin 16 => tdP (A d) (ix d) d (Fin.cast nCore_zero c) i))
  go q d c i := match q with
    | 0 => (inferInstance : BI.Storable (upEmb : UEmb _ 𝕄) (goP (A d) (ix d) (f₀ d) d (Fin.cast nCore_zero c) (Fin.cast nSub_zero i)))
  td q d c i := match q with
    | 0 => (inferInstance : BI.Storable (upEmb : UEmb _ 𝕄) (tdP (A d) (ix d) d (Fin.cast nCore_zero c) (Fin.cast nSub_zero i)))

/-! ## The task -/

theorem defs₀_vector (c : Fin τ.nSC) (s : Fin τ.nSub) :
    defs₀ (F := F) (.scVector c s) 1 ()
      = SparseCore.onTile hcore1 hsub1 (fun c s => cc1_gather_k (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem trip_lt (t : Trip) : t.val < 50 := Nat.lt_of_lt_of_le t.isLt (show k1_t1_loop.trips ≤ 50 by decide)

theorem chunks_start (d : Dev nD) (L : grid1.Coords) (f g : S204800x128.Idx → Elt F .f32) :
    (bigSep Finset.univ fun t : Trip => chPts d L t f) ⊢ chunks (F := F) d L 0 f g := by
  unfold chunks
  rw [show (Finset.univ.filter fun t : Trip => t.val < 0) = ∅ from Finset.filter_eq_empty_iff.mpr fun t _ => Nat.not_lt_zero _,
    show (Finset.univ.filter fun t : Trip => 0 ≤ t.val) = Finset.univ from Finset.filter_true_of_mem fun t _ => Nat.zero_le _, BI.bigSep_empty]
  iintro H; isplitr; · iempintro
  iexact H

theorem chunks_end (d : Dev nD) (L : grid1.Coords) (f g : S204800x128.Idx → Elt F .f32) :
    chunks (F := F) d L 50 f g ⊢ (bigSep Finset.univ fun t : Trip => chPts d L t g) := by
  unfold chunks
  rw [show (Finset.univ.filter fun t : Trip => t.val < 50) = Finset.univ from Finset.filter_true_of_mem fun t _ => trip_lt t,
    show (Finset.univ.filter fun t : Trip => 50 ≤ t.val) = ∅ from Finset.filter_eq_empty_iff.mpr fun t _ h => absurd (trip_lt t) (Nat.not_lt.mpr h), BI.bigSep_empty]
  iintro ⟨H, -⟩; iexact H

theorem obl_post {thr : Thread nD τ} {A B C D : sProp 𝕄} (h : A ⊢ D) {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(D ∗ B ∗ C ∗ ∃ W', ⌜∀ p ∈ W', p ∈ W ∨ p.2 = none ∨ p.2 = some q⌝ ∗ owes thr O W') := by
  iintro ⟨HA, HB, HC, %W', %hW', HO⟩
  isplitl [HA]; · iapply h; iexact HA
  isplitl [HB]; · iexact HB
  isplitl [HC]; · iexact HC
  iexists W'; isplitr
  · ipureintro; exact fun p hp => (hW' p hp).imp_right Or.inl
  · iexact HO

theorem td_of_chunks (d : Dev nD) (c : Fin 2) (i : Fin 16) (tb : {tb : S1000000x128.Idx → Elt F .f32 // WideOK (F := F) (A d) 1000000 tb}) :
    chunks (F := F) d (LV c i) 50 (f₀ d) (gat (F := F) tb.1 (ix d)) ⊢ tdP (A d) (ix d) d c i := by
  iintro H
  ihave H' := (chunks_end d (LV c i) (f₀ d) (gat (F := F) tb.1 (ix d))) $$ H
  iexists (⟨gat (F := F) tb.1 (ix d), rowsOK_gat (ix d) tb.2⟩ : {f : S204800x128.Idx → Elt F .f32 // RowsOK (A d) (ix d) f})
  iexact H'

set_option maxRecDepth 16384 in
theorem tileObl (hix : ∀ d, Named (F := F) (ix d)) : (K (F := F)).TileObl (D (F := F)) 𝒱 (P A ix f₀) v₀ 0 := by
  intro d c i O W hO _ _
  simp only [show (P A ix f₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  change iprop(levAts (K (F := F)).L (K (F := F)).lev ∗ emp ∗ goP (A d) (ix d) (f₀ d) d (Fin.cast nCore_zero c) (Fin.cast nSub_zero i)
    ∗ scopedBufs (thr d (LV (Fin.cast nCore_zero c) (Fin.cast nSub_zero i))) ∗ scopedSems0 (thr d (LV (Fin.cast nCore_zero c) (Fin.cast nSub_zero i)))
    ∗ owes (thr d (LV (Fin.cast nCore_zero c) (Fin.cast nSub_zero i))) O W) ⊢ _
  iintro ⟨HL, He, ⟨⟨%tb, Ht⟩, Hi, Hc⟩, Hb, Hs, Ho⟩
  ihave Hc := (chunks_start d (LV (Fin.cast nCore_zero c) (Fin.cast nSub_zero i)) (f₀ d) (gat (F := F) tb.1 (ix d))) $$ Hc
  iapply ((tile_body d (LV (Fin.cast nCore_zero c) (Fin.cast nSub_zero i)) facts (sh (Fin.cast nCore_zero c) (Fin.cast nSub_zero i))
    (sh (Fin.cast nCore_zero c) (Fin.cast nSub_zero i)) tb.1 (ix d) (hix d) (f₀ d) O W hO).trans
      (wp_mono frame _ _ fun _ => obl_post (td_of_chunks A ix f₀ d (Fin.cast nCore_zero c) (Fin.cast nSub_zero i) tb)))
  isplitl [HL]; · iexact HL
  isplitl [He]; · iexact He
  isplitl [Ht Hi Hc]
  · isplitl [Ht]; · iexact Ht
    isplitl [Hi]; · iexact Hi
    iexact Hc
  isplitl [Hb]; · iexact Hb
  isplitl [Hs]; · iexact Hs
  iexact Ho

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A ix f₀) 0 := by
  intro d c
  show (bigSep Finset.univ fun i : Fin 16 => goP (A d) (ix d) (f₀ d) d (Fin.cast nCore_zero c) i) ⊢ |={Set.univ}=> iprop(
      (bigSep Finset.univ fun i : Fin ((K (F := F)).nSub 0) => goP (A d) (ix d) (f₀ d) d (Fin.cast nCore_zero c) (Fin.cast nSub_zero i))
      ∗ ((bigSep Finset.univ fun i : Fin ((K (F := F)).nSub 0) => tdP (A d) (ix d) d (Fin.cast nCore_zero c) (Fin.cast nSub_zero i))
          -∗ (bigSep Finset.univ fun i : Fin 16 => tdP (A d) (ix d) d (Fin.cast nCore_zero c) i)))
  rw [bigSep_tasks (F := F) (fun i => goP (A d) (ix d) (f₀ d) d (Fin.cast nCore_zero c) i),
    bigSep_tasks (F := F) (fun i => tdP (A d) (ix d) d (Fin.cast nCore_zero c) i)]
  iintro H; imodintro
  isplitl [H]; · iexact H
  iintro H; iexact H

/-! ## The result cut into chunks, and put together -/

theorem mem_chSet (L : grid1.Coords) (t : Trip) (x : S204800x128.Idx) :
    x ∈ chSet L t ↔ 12800 * (L 1 : ℕ) + 6400 * (L 0 : ℕ) + 128 * t.val ≤ (x 0 : ℕ) ∧ (x 0 : ℕ) < 12800 * (L 1 : ℕ) + 6400 * (L 0 : ℕ) + 128 * t.val + 128 := by
  show x ∈ ((View.whole main_v4_scv).slice (Rect.unit (s := S204800x128) (k1_off3 L t) S128x128.size (k1_off3_inb L t))).set ↔ _
  rw [View.set_slice_whole, Rect.mem_set_unit]
  have e0 : k1_off3 L t 0 = 12800 * (L 1 : ℕ) + 6400 * (L 0 : ℕ) + 128 * t.val := congrFun (k1_off3_eq L t) 0
  have e1 : k1_off3 L t 1 = 0 := congrFun (k1_off3_eq L t) 1
  constructor
  · intro h
    have h0 := h 0
    rw [e0] at h0
    exact h0
  · rintro ⟨h1, h2⟩ a
    match a with
    | ⟨0, _⟩ => rw [show k1_off3 L t ⟨0, by decide⟩ = _ from e0]; exact ⟨h1, h2⟩
    | ⟨1, _⟩ => rw [show k1_off3 L t ⟨1, by decide⟩ = _ from e1]; exact ⟨Nat.zero_le _, by have := (x 1).isLt; show (x 1 : ℕ) < 0 + 128; have h : (x 1 : ℕ) < 128 := this; omega⟩

/-- A subcore's part of the result. -/
def tileSet (p : Fin 2 × Fin 16) : Finset S204800x128.Idx := (Finset.univ : Finset Trip).biUnion fun t => chSet (LV p.1 p.2) t

theorem ch_disjoint (L : grid1.Coords) : ∀ t ∈ (Finset.univ : Finset Trip), ∀ t' ∈ (Finset.univ : Finset Trip), t ≠ t' → Disjoint (chSet L t) (chSet L t') := by
  intro t _ t' _ h
  rw [Finset.disjoint_left]
  intro x hx hx'
  rw [mem_chSet] at hx hx'
  exact h (Fin.ext (by omega))

theorem mem_tileSet (p : Fin 2 × Fin 16) (x : S204800x128.Idx) :
    x ∈ tileSet p → 12800 * p.2.val + 6400 * p.1.val ≤ (x 0 : ℕ) ∧ (x 0 : ℕ) < 12800 * p.2.val + 6400 * p.1.val + 6400 := by
  intro h
  obtain ⟨t, -, h⟩ := Finset.mem_biUnion.mp h
  rw [mem_chSet] at h
  have := trip_lt t
  have e1 : ((LV p.1 p.2) 1 : ℕ) = p.2.val := rfl
  have e0 : ((LV p.1 p.2) 0 : ℕ) = p.1.val := rfl
  rw [e0, e1] at h
  omega

theorem tile_disjoint : ∀ p ∈ (Finset.univ : Finset (Fin 2 × Fin 16)), ∀ p' ∈ (Finset.univ : Finset (Fin 2 × Fin 16)), p ≠ p' → Disjoint (tileSet p) (tileSet p') := by
  intro p _ p' _ h
  rw [Finset.disjoint_left]
  intro x hx hx'
  have h1 := mem_tileSet p x hx
  have h2 := mem_tileSet p' x hx'
  have a := p.1.isLt; have b := p'.1.isLt
  exact h (Prod.ext (Fin.ext (by omega)) (Fin.ext (by omega)))

theorem tile_cover : (Finset.univ : Finset (Fin 2 × Fin 16)).biUnion tileSet = Finset.univ := by
  refine Finset.eq_univ_of_forall fun x => ?_
  have hx : (x 0 : ℕ) < 204800 := (x 0).isLt
  refine Finset.mem_biUnion.mpr ⟨(⟨(x 0 : ℕ) / 6400 % 2, by omega⟩, ⟨(x 0 : ℕ) / 12800, by omega⟩), Finset.mem_univ _, ?_⟩
  have ht : (x 0 : ℕ) % 6400 / 128 < k1_t1_loop.trips := by
    have : k1_t1_loop.trips = 50 := by decide
    omega
  refine Finset.mem_biUnion.mpr ⟨⟨(x 0 : ℕ) % 6400 / 128, ht⟩, Finset.mem_univ _, ?_⟩
  rw [mem_chSet]
  show 12800 * ((x 0 : ℕ) / 12800) + 6400 * ((x 0 : ℕ) / 6400 % 2) + 128 * ((x 0 : ℕ) % 6400 / 128) ≤ (x 0 : ℕ)
    ∧ (x 0 : ℕ) < 12800 * ((x 0 : ℕ) / 12800) + 6400 * ((x 0 : ℕ) / 6400 % 2) + 128 * ((x 0 : ℕ) % 6400 / 128) + 128
  omega

theorem tile_pts (d : Dev nD) (p : Fin 2 × Fin 16) (f : S204800x128.Idx → Elt F .f32) :
    (oLoc d ↦[tileSet p]{fullShare} (f : Buf (Elt F) (oLoc d)) : sProp 𝕄) = bigSep Finset.univ fun t : Trip => chPts d (LV p.1 p.2) t f :=
  pointsTo_biUnion Finset.univ (ℓ := oLoc d) (fun t => chSet (LV p.1 p.2) t) (ch_disjoint (LV p.1 p.2))

theorem univ_prod : (Finset.univ : Finset (Fin 2 × Fin 16)) = (Finset.univ : Finset (Fin 2)) ×ˢ (Finset.univ : Finset (Fin 16)) := rfl

/-- The result whole, cut. -/
theorem out_cut (d : Dev nD) (f : S204800x128.Idx → Elt F .f32) :
    (oLoc d ↦{fullShare} (f : Buf (Elt F) (oLoc d)) : sProp 𝕄)
      = bigSep Finset.univ fun c : Fin 2 => bigSep Finset.univ fun i : Fin 16 => bigSep Finset.univ fun t : Trip => chPts d (LV c i) t f := by
  have h : (oLoc d ↦{fullShare} (f : Buf (Elt F) (oLoc d)) : sProp 𝕄) = bigSep Finset.univ fun p : Fin 2 × Fin 16 => oLoc d ↦[tileSet p]{fullShare} (f : Buf (Elt F) (oLoc d)) := by
    rw [← pointsTo_biUnion Finset.univ (ℓ := oLoc d) tileSet tile_disjoint, tile_cover]
  rw [h, univ_prod, SparseCore.bigSep_product]
  exact bigSep_congr fun c _ => bigSep_congr fun i _ => tile_pts d (c, i) f

/-- The subcores' chunks put together. -/
theorem out_join (d : Dev nD) :
    (bigSep Finset.univ fun c : Fin 2 => bigSep Finset.univ fun i : Fin 16 => tdP (A d) (ix d) d c i)
      ⊢ (iprop(∃ g : S204800x128.Idx → Elt F .f32, ⌜RowsOK (A d) (ix d) g⌝ ∗ oLoc d ↦{fullShare} (g : Buf (Elt F) (oLoc d))) : sProp 𝕄) := by
  have h : (bigSep Finset.univ fun c : Fin 2 => bigSep Finset.univ fun i : Fin 16 => tdP (A d) (ix d) d c i)
      = (bigSep Finset.univ fun p : Fin 2 × Fin 16 => iprop(∃ f : {f : S204800x128.Idx → Elt F .f32 // RowsOK (A d) (ix d) f},
          oLoc d ↦[tileSet p]{fullShare} (f.1 : Buf (Elt F) (oLoc d))) : sProp 𝕄) := by
    rw [univ_prod, SparseCore.bigSep_product]
    refine bigSep_congr fun c _ => bigSep_congr fun i _ => ?_
    simp only [tile_pts]
  rw [h]
  refine (bigSep_exists_pi Finset.univ (fun (p : Fin 2 × Fin 16) (f : {f : S204800x128.Idx → Elt F .f32 // RowsOK (A d) (ix d) f}) =>
    (oLoc d ↦[tileSet p]{fullShare} (f.1 : Buf (Elt F) (oLoc d)) : sProp 𝕄))).trans ?_
  iintro ⟨%fs, H⟩
  ihave H' := (pointsTo_biUnion_join (ℓ := oLoc d) (q := fullShare) (Val := Elt F) Finset.univ tileSet (fun p => (fs p).1) (fs (0, 0)).1 tile_disjoint) $$ H
  icases H' with ⟨%g, %hg, Hg⟩
  rw [tile_cover]
  iexists g; isplitr
  · ipureintro
    intro r k hk
    have hm : (ix2 r k : S204800x128.Idx) ∈ (Finset.univ : Finset (Fin 2 × Fin 16)).biUnion tileSet := by rw [tile_cover]; exact Finset.mem_univ _
    obtain ⟨p, hp, hx⟩ := Finset.mem_biUnion.mp hm
    exact (hg p hp _ hx).trans ((fs p).2 r k hk)
  iexact Hg

/-! ## The shares of the table and of the list -/

theorem share_cut {ℓ : Loc nD τ sig} (f : Buf (Elt F) ℓ) :
    (ℓ ↦{fullShare} f : sProp 𝕄) = bigSep Finset.univ fun c : Fin 2 => bigSep Finset.univ fun i : Fin 16 => ℓ ↦{sh c i} f := by
  rw [pointsTo_piecesOf Finset.univ f (o := 2) (by decide) fullShare]
  refine bigSep_congr fun c _ => ?_
  exact pointsTo_piecesOf Finset.univ f (o := 16) (by decide) _

/-- The three arrays, handed over. -/
theorem st_intro (d : Dev nD) (tb : S1000000x128.Idx → Elt F .f32) (h : WideOK (F := F) (A d) 1000000 tb) :
    iprop((tLoc d ↦{fullShare} (tb : Buf (Elt F) (tLoc d))) ∗ (iLoc d ↦{fullShare} (ix d : Buf (Elt F) (iLoc d))) ∗ (oLoc d ↦{fullShare} (f₀ d : Buf (Elt F) (oLoc d))))
      ⊢ (bigSep Finset.univ fun c : Fin ((K (F := F)).nCore 0) => (P A ix f₀).st 0 d c : sProp 𝕄) := by
  show _ ⊢ (bigSep Finset.univ fun c : Fin 2 => bigSep Finset.univ fun i : Fin 16 => goP (A d) (ix d) (f₀ d) d c i)
  rw [share_cut (ℓ := tLoc d), share_cut (ℓ := iLoc d), out_cut, ← bigSep_sep', ← bigSep_sep']
  refine BI.bigSep_mono fun c _ => ?_
  rw [← bigSep_sep', ← bigSep_sep']
  refine BI.bigSep_mono fun i _ => ?_
  show iprop((tLoc d ↦{sh c i} (tb : Buf (Elt F) (tLoc d))) ∗ (iLoc d ↦{sh c i} (ix d : Buf (Elt F) (iLoc d)))
    ∗ bigSep Finset.univ fun t : Trip => chPts d (LV c i) t (f₀ d)) ⊢ goP (A d) (ix d) (f₀ d) d c i
  iintro ⟨Ht, Hi, Hc⟩
  isplitl [Ht]
  · iexists (⟨tb, h⟩ : {tb : S1000000x128.Idx → Elt F .f32 // WideOK (F := F) (A d) 1000000 tb}); iexact Ht
  isplitl [Hi]; · iexact Hi
  iexact Hc

theorem dn_elim (d : Dev nD) :
    (bigSep Finset.univ fun c : Fin ((K (F := F)).nCore 0) => (P A ix f₀).dn 0 d c : sProp 𝕄)
      ⊢ iprop(∃ g : S204800x128.Idx → Elt F .f32, ⌜RowsOK (A d) (ix d) g⌝ ∗ oLoc d ↦{fullShare} (g : Buf (Elt F) (oLoc d))) :=
  out_join A ix d

end Cert.Proof.Lookup

end
-- ==== Proof.Lstm.lean ====
/-
  THE SECOND TENSORCORE CALL'S BODY: one block of 1024 sequences, 50 steps of the recurrence, the logits and their
  log-softmax. The step is written once (`gates`, `cN`, `hN`), the state after `n` steps by recursion on `n` (`st`); each
  part of the body is then a run from named values of that recursion to named values of it, each equation by unfolding.
-/
module

public import proofs.«01_k».proof.Proof.Setup
public import Idealize.ShloMosaic.Lib.VecWindow

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MM F

/-! ## The recurrence -/

/-- The rows the body loads at step `n`. -/
def slab (X : S50x1024x128.Idx → Elt F .f32) (n : ℕ) : Vec F S1x1024x128 .f32 :=
  fun j => X (ix3 (⟨n % 50, Nat.mod_lt _ (by decide)⟩ : Fin 50) (j 1) (j 2))

/-- One half, and zero, in every lane. -/
def half : FVec F S1024x128 .f32 := broadcast S1024x128 (Scalar.ofBits .f32 0x3F000000#32 : F .f32)
def zero128 : FVec F S1024x128 .f32 := broadcast S1024x128 (Scalar.ofBits .f32 0x00000000#32 : F .f32)

/-- The first 64 lanes of the loaded rows, rounded. -/
def xin (s : Vec F S1x1024x128 .f32) : FVec F S1024x64 .bf16 :=
  truncf .bf16 (extractStridedSlice S1024x64 ![0, 0] (shapeCast S1024x128 s shapeCasts_S1x1024x128_S1024x128) slices_S1024x128_o0_0_S1024x64) bitsLt_bf16_f32

/-- The product of the input and the state, side by side, with the weights; the bias on every row; their sum. -/
def pre (W : FVec F S192x512 .bf16) (s : Vec F S1x1024x128 .f32) (h : FVec F S1024x128 .f32) : FVec F S1024x512 .f32 :=
  matmul dot_S1024x192_S192x512_S1024x512_1_0_0_1_n_n none
    (concatenate S1024x192 1 [⟨S1024x64, xin s⟩, ⟨S1024x128, truncf .bf16 h bitsLt_bf16_f32⟩] concatenates_S1024x64_S1024x128_S1024x192_d1) W
    (constant S1024x512 .f32 0x00000000#32)
def biasRows (B : FVec F S1x512 .f32) : FVec F S1024x512 .f32 := broadcastTo S1024x512 B broadcasts_S1x512_S1024x512
def gates (W : FVec F S192x512 .bf16) (B : FVec F S1x512 .f32) (s : Vec F S1x1024x128 .f32) (h : FVec F S1024x128 .f32) : FVec F S1024x512 .f32 :=
  addf (pre W s h) (biasRows B)

/-- The four gates' columns. -/
def sl0 (g : FVec F S1024x512 .f32) : FVec F S1024x128 .f32 := extractStridedSlice S1024x128 ![0, 0] g slices_S1024x512_o0_0_S1024x128
def sl1 (g : FVec F S1024x512 .f32) : FVec F S1024x128 .f32 := extractStridedSlice S1024x128 ![0, 128] g slices_S1024x512_o0_128_S1024x128
def sl2 (g : FVec F S1024x512 .f32) : FVec F S1024x128 .f32 := extractStridedSlice S1024x128 ![0, 256] g slices_S1024x512_o0_256_S1024x128
def sl3 (g : FVec F S1024x512 .f32) : FVec F S1024x128 .f32 := extractStridedSlice S1024x128 ![0, 384] g slices_S1024x512_o0_384_S1024x128

/-- The gate function, as the kernel computes it: half a hyperbolic tangent and a half. -/
def sg (z : FVec F S1024x128 .f32) : FVec F S1024x128 .f32 := addf (mulf half (tanh z)) half

/-- The new cell, and the new state. -/
def cN (g : FVec F S1024x512 .f32) (c : FVec F S1024x128 .f32) : FVec F S1024x128 .f32 :=
  addf (mulf (sg (sl1 g)) c) (mulf (sg (sl0 g)) (tanh (sl2 g)))
def hN (g : FVec F S1024x512 .f32) (c : FVec F S1024x128 .f32) : FVec F S1024x128 .f32 :=
  mulf (sg (sl3 g)) (tanh (cN g c))

/-- The cell and the state after `n` steps. -/
def st (X : S50x1024x128.Idx → Elt F .f32) (W : FVec F S192x512 .bf16) (B : FVec F S1x512 .f32) : ℕ → FVec F S1024x128 .f32 × FVec F S1024x128 .f32
  | 0 => (zero128, zero128)
  | n + 1 => (cN (gates W B (slab X n) (st X W B n).2) (st X W B n).1, hN (gates W B (slab X n) (st X W B n).2) (st X W B n).1)
def cAt (X : S50x1024x128.Idx → Elt F .f32) (W : FVec F S192x512 .bf16) (B : FVec F S1x512 .f32) (n : ℕ) : FVec F S1024x128 .f32 := (st X W B n).1
def hAt (X : S50x1024x128.Idx → Elt F .f32) (W : FVec F S192x512 .bf16) (B : FVec F S1x512 .f32) (n : ℕ) : FVec F S1024x128 .f32 := (st X W B n).2
def gAt (X : S50x1024x128.Idx → Elt F .f32) (W : FVec F S192x512 .bf16) (B : FVec F S1x512 .f32) (n : ℕ) : FVec F S1024x512 .f32 :=
  gates W B (slab X n) (hAt X W B n)

/-- The product with the head's weights. -/
def logits (P : Vec F S128x128 .f32) (h : FVec F S1024x128 .f32) : FVec F S1024x128 .f32 :=
  matmul dot_S1024x128_S128x128_S1024x128_1_0_0_1_n_n none h (shapeCast S128x128 P shapeCasts_S128x128_S128x128) (constant S1024x128 .f32 0x00000000#32)

/-- What the body stores. -/
def lstmOut (X : S50x1024x128.Idx → Elt F .f32) (W0 : Vec F S192x512 .bf16) (B0 : Vec F S1x512 .f32) (P : Vec F S128x128 .f32) (b : Vec F S1x128 .f32) :
    FVec F S1024x128 .f32 := k2_pay1 (logits P (hAt X (k2_pay2 W0) (k2_pay3 B0) 50)) b

/-! ## The loads -/

/-- A load of a whole buffer. -/
theorem wp_all (c : Dev nD) {s : Shape} {e : EltTy} (A : Memref sig .tc .vmem s e) (X : s.Idx → Elt F e) {off : Fin s.rank → ℕ}
    (inb : ∀ a, off a + s.size a ≤ s.size a) (hl : A.view.LoadsAt (Rect.unit off s.size inb).toLoadRect) (E : Set ℕ) (Q : Vec F s e → sProp 𝕄) :
    iprop(owns (c : Thread nD τ) A fullShare X ∗ (owns (c : Thread nD τ) A fullShare X -∗ Q X))
      ⊢ wp frame (wpE (defs₀ (F := F)) 𝒱₀ c none) E (Prog.lift (.load A (Rect.unit off s.size inb).toLoadRect hl)) Q := by
  unfold owns
  iintro ⟨⟨%f, %hf, H⟩, Hk⟩
  sl_exec
  sl_step
  rw [View.readAt_full, hf]
  iapply Hk; iexists f; isplitr; · ipureintro; exact hf
  iexact H

/-- A load of the rows of step `n`. -/
theorem wp_slab (c : Dev nD) (A : Memref sig .tc .vmem S50x1024x128 .f32) (X : S50x1024x128.Idx → Elt F .f32) (n : ℕ)
    (inb : ∀ a, (![n, 0, 0] : Fin 3 → ℕ) a + S1x1024x128.size a ≤ S50x1024x128.size a)
    (hl : A.view.LoadsAt (Rect.unit (s := S50x1024x128) ![n, 0, 0] S1x1024x128.size inb).toLoadRect) (E : Set ℕ) (Q : Vec F S1x1024x128 .f32 → sProp 𝕄) :
    iprop(owns (c : Thread nD τ) A fullShare X ∗ (owns (c : Thread nD τ) A fullShare X -∗ Q (slab X n)))
      ⊢ wp frame (wpE (defs₀ (F := F)) 𝒱₀ c none) E (Prog.lift (.load A (Rect.unit (s := S50x1024x128) ![n, 0, 0] S1x1024x128.size inb).toLoadRect hl)) Q := by
  unfold owns
  iintro ⟨⟨%f, %hf, H⟩, Hk⟩
  sl_exec
  sl_step
  have hv : A.view.readAt (Elt F) (Rect.unit (s := S50x1024x128) ![n, 0, 0] S1x1024x128.size inb).toLoadRect f = slab X n := by
    funext j
    rw [View.readAt_apply, hf]
    refine congrArg X (funext fun a => Fin.ext ?_)
    have hn : n + 1 ≤ 50 := inb 0
    match a with
    | ⟨0, _⟩ =>
      have hj : (j 0 : ℕ) < 1 := (j 0).isLt
      show n + 1 * (j 0 : ℕ) = n % 50
      rw [Nat.mod_eq_of_lt hn]; omega
    | ⟨1, _⟩ => show 0 + 1 * (j 1 : ℕ) = (j 1 : ℕ); omega
    | ⟨2, _⟩ => show 0 + 1 * (j 2 : ℕ) = (j 2 : ℕ); omega
  rw [hv]
  iapply Hk; iexists f; isplitr; · ipureintro; exact hf
  iexact H

/-! ## The parts of the body -/

theorem v1_2 (X : S50x1024x128.Idx → Elt F .f32) (W0 : Vec F S192x512 .bf16) (B0 : Vec F S1x512 .f32) :
    k2_pay5 W0 B0 (slab X 0)
      = (cAt X (k2_pay2 W0) (k2_pay3 B0) 1) := rfl

theorem v1_3 (X : S50x1024x128.Idx → Elt F .f32) (W0 : Vec F S192x512 .bf16) (B0 : Vec F S1x512 .f32) :
    k2_pay6 W0 B0 (slab X 0)
      = (hAt X (k2_pay2 W0) (k2_pay3 B0) 1) := rfl

theorem part1_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W0 : Vec F S192x512 .bf16) (B0 : Vec F S1x512 .f32) (E : Set ℕ) (Q : _ → sProp 𝕄) :
    iprop(owns (c : Thread nD τ) A1 fullShare X ∗ owns (c : Thread nD τ) A2 fullShare W0 ∗ owns (c : Thread nD τ) A3 fullShare B0 ∗ (iprop(owns (c : Thread nD τ) A1 fullShare X ∗ owns (c : Thread nD τ) A2 fullShare W0 ∗ owns (c : Thread nD τ) A3 fullShare B0) -∗ Q ⟨(k2_pay2 W0), (k2_pay3 B0), (cAt X (k2_pay2 W0) (k2_pay3 B0) 1), (hAt X (k2_pay2 W0) (k2_pay3 B0) 1)⟩))
      ⊢ wp frame (wpE (defs₀ (F := F)) 𝒱₀ c none) E (k2_part1 i A1 h1 A2 h2 A3 h3 A4 h4 A5 h5 A6 h6 ) Q := by
  rw [k2_part1_eq_skeleton]; unfold k2_part1_skel
  iintro ⟨H1, H2, H3, Hk⟩
  rw [wp_bind]; iapply (wp_all (F := F) c A2 W0 _ _ E _); isplitl [H2]; · iexact H2
  iintro H2
  rw [wp_bind]; iapply (wp_all (F := F) c A3 B0 _ _ E _); isplitl [H3]; · iexact H3
  iintro H3
  rw [wp_bind]; iapply (wp_slab (F := F) c A1 X 0 _ _ E _); isplitl [H1]; · iexact H1
  iintro H1
  sl_step
  rw [v1_2 X W0 B0, v1_3 X W0 B0]
  iapply Hk
  isplitl [H1]; · iexact H1
  isplitl [H2]; · iexact H2
  iexact H3

theorem v2_0 (X : S50x1024x128.Idx → Elt F .f32) (W : FVec F S192x512 .bf16) (B : FVec F S1x512 .f32) :
    k2_pay8 W B (cAt X W B 1) (hAt X W B 1) (slab X 1)
      = (cAt X W B 2) := rfl

theorem v2_1 (X : S50x1024x128.Idx → Elt F .f32) (W : FVec F S192x512 .bf16) (B : FVec F S1x512 .f32) :
    k2_pay9 W B (cAt X W B 1) (hAt X W B 1) (slab X 1) (slab X 2)
      = (gAt X W B 2) := rfl

theorem v2_2 (X : S50x1024x128.Idx → Elt F .f32) (W : FVec F S192x512 .bf16) (B : FVec F S1x512 .f32) :
    k2_pay10 W B (cAt X W B 1) (hAt X W B 1) (slab X 1) (slab X 2)
      = (mulf half (tanh (sl0 (gAt X W B 2)))) := rfl

theorem part2_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 2), (gAt X W B 2), (mulf half (tanh (sl0 (gAt X W B 2)))), (Scalar.ofBits .f32 0x3F000000#32 : F .f32)⟩))
      ⊢ wp frame (wpE (defs₀ (F := F)) 𝒱₀ c none) E (k2_part2 i A1 h1 A2 h2 A3 h3 A4 h4 A5 h5 A6 h6 W B (cAt X W B 1) (hAt X W B 1)) Q := by
  rw [k2_part2_eq_skeleton]; unfold k2_part2_skel
  iintro ⟨H1, Hk⟩
  rw [wp_bind]; iapply (wp_slab (F := F) c A1 X 1 _ _ E _); isplitl [H1]; · iexact H1
  iintro H1
  rw [wp_bind]; iapply (wp_slab (F := F) c A1 X 2 _ _ E _); isplitl [H1]; · iexact H1
  iintro H1
  dsimp only
  sl_step
  rw [v2_0 X W B, v2_1 X W B, v2_2 X W B]
  iapply Hk
  iexact H1

theorem v3_0 (X : S50x1024x128.Idx → Elt F .f32) (W : FVec F S192x512 .bf16) (B : FVec F S1x512 .f32) :
    k2_pay11 (cAt X W B 2) (gAt X W B 2) (mulf half (tanh (sl0 (gAt X W B 2)))) (Scalar.ofBits .f32 0x3F000000#32 : F .f32)
      = (cAt X W B 3) := rfl

theorem v3_1 (X : S50x1024x128.Idx → Elt F .f32) (W : FVec F S192x512 .bf16) (B : FVec F S1x512 .f32) :
    k2_pay13 W B (cAt X W B 2) (gAt X W B 2) (mulf half (tanh (sl0 (gAt X W B 2)))) (Scalar.ofBits .f32 0x3F000000#32 : F .f32) (slab X 3)
      = (sg (sl0 (gAt X W B 3))) := rfl

theorem v3_2 (X : S50x1024x128.Idx → Elt F .f32) (W : FVec F S192x512 .bf16) (B : FVec F S1x512 .f32) :
    k2_pay14 W B (cAt X W B 2) (gAt X W B 2) (mulf half (tanh (sl0 (gAt X W B 2)))) (Scalar.ofBits .f32 0x3F000000#32 : F .f32) (slab X 3)
      = (sg (sl1 (gAt X W B 3))) := rfl

theorem v3_3 (X : S50x1024x128.Idx → Elt F .f32) (W : FVec F S192x512 .bf16) (B : FVec F S1x512 .f32) :
    k2_pay15 W B (cAt X W B 2) (gAt X W B 2) (mulf half (tanh (sl0 (gAt X W B 2)))) (Scalar.ofBits .f32 0x3F000000#32 : F .f32) (slab X 3)
      = (tanh (sl2 (gAt X W B 3))) := rfl

theorem v3_4 (X : S50x1024x128.Idx → Elt F .f32) (W : FVec F S192x512 .bf16) (B : FVec F S1x512 .f32) :
    k2_pay16 W B (cAt X W B 2) (gAt X W B 2) (mulf half (tanh (sl0 (gAt X W B 2)))) (Scalar.ofBits .f32 0x3F000000#32 : F .f32) (slab X 3)
      = (tanh (sl3 (gAt X W B 3))) := rfl

theorem v3_5 (X : S50x1024x128.Idx → Elt F .f32) (W : FVec F S192x512 .bf16) (B : FVec F S1x512 .f32) :
    k2_pay17 (F := F)
      = half := rfl

theorem part3_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 3), (sg (sl0 (gAt X W B 3))), (sg (sl1 (gAt X W B 3))), (tanh (sl2 (gAt X W B 3))), (tanh (sl3 (gAt X W B 3))), half⟩))
      ⊢ wp frame (wpE (defs₀ (F := F)) 𝒱₀ c none) E (k2_part3 i A1 h1 A2 h2 A3 h3 A4 h4 A5 h5 A6 h6 W B (cAt X W B 2) (gAt X W B 2) (mulf half (tanh (sl0 (gAt X W B 2)))) (Scalar.ofBits .f32 0x3F000000#32 : F .f32)) Q := by
  rw [k2_part3_eq_skeleton]; unfold k2_part3_skel
  iintro ⟨H1, Hk⟩
  rw [wp_bind]; iapply (wp_slab (F := F) c A1 X 3 _ _ E _); isplitl [H1]; · iexact H1
  iintro H1
  sl_step
  rw [v3_0 X W B, v3_1 X W B, v3_2 X W B, v3_3 X W B, v3_4 X W B, v3_5 X W B]
  iapply Hk
  iexact H1

theorem v4_0 (X : S50x1024x128.Idx → Elt F .f32) (W : FVec F S192x512 .bf16) (B : FVec F S1x512 .f32) :
    k2_pay20 W B (cAt X W B 3) (sg (sl0 (gAt X W B 3))) (sg (sl1 (gAt X W B 3))) (tanh (sl2 (gAt X W B 3))) (tanh (sl3 (gAt X W B 3))) half (slab X 4)
      = (cAt X W B 5) := rfl

theorem v4_1 (X : S50x1024x128.Idx → Elt F .f32) (W : FVec F S192x512 .bf16) (B : FVec F S1x512 .f32) :
    k2_pay21 W B (cAt X W B 3) (sg (sl0 (gAt X W B 3))) (sg (sl1 (gAt X W B 3))) (tanh (sl2 (gAt X W B 3))) (tanh (sl3 (gAt X W B 3))) half (slab X 4)
      = (hAt X W B 5) := rfl

theorem v4_2 (X : S50x1024x128.Idx → Elt F .f32) (W : FVec F S192x512 .bf16) (B : FVec F S1x512 .f32) :
    k2_pay22 (slab X 5)
      = (xin (slab X 5)) := rfl

theorem part4_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 5), (hAt X W B 5), (xin (slab X 5))⟩))
      ⊢ wp frame (wpE (defs₀ (F := F)) 𝒱₀ c none) E (k2_part4 i A1 h1 A2 h2 A3 h3 A4 h4 A5 h5 A6 h6 W B (cAt X W B 3) (sg (sl0 (gAt X W B 3))) (sg (sl1 (gAt X W B 3))) (tanh (sl2 (gAt X W B 3))) (tanh (sl3 (gAt X W B 3))) half) Q := by
  rw [k2_part4_eq_skeleton]; unfold k2_part4_skel
  iintro ⟨H1, Hk⟩
  rw [wp_bind]; iapply (wp_slab (F := F) c A1 X 4 _ _ E _); isplitl [H1]; · iexact H1
  iintro H1
  rw [wp_bind]; iapply (wp_slab (F := F) c A1 X 5 _ _ E _); isplitl [H1]; · iexact H1
  iintro H1
  sl_step
  rw [v4_0 X W B, v4_1 X W B, v4_2 X W B]
  iapply Hk
  iexact H1

theorem v5_0 (X : S50x1024x128.Idx → Elt F .f32) (W : FVec F S192x512 .bf16) (B : FVec F S1x512 .f32) :
    k2_pay24 W B (cAt X W B 5) (hAt X W B 5) (xin (slab X 5))
      = (cAt X W B 6) := rfl

theorem v5_1 (X : S50x1024x128.Idx → Elt F .f32) (W : FVec F S192x512 .bf16) (B : FVec F S1x512 .f32) :
    k2_pay25 W B (cAt X W B 5) (hAt X W B 5) (xin (slab X 5)) (slab X 6)
      = (gAt X W B 6) := rfl

theorem v5_2 (X : S50x1024x128.Idx → Elt F .f32) (W : FVec F S192x512 .bf16) (B : FVec F S1x512 .f32) :
    k2_pay26 W B (cAt X W B 5) (hAt X W B 5) (xin (slab X 5)) (slab X 6)
      = (sg (sl0 (gAt X W B 6))) := rfl

theorem v5_3 (X : S50x1024x128.Idx → Elt F .f32) (W : FVec F S192x512 .bf16) (B : FVec F S1x512 .f32) :
    k2_pay27 W B (cAt X W B 5) (hAt X W B 5) (xin (slab X 5)) (slab X 6)
      = (tanh (sl1 (gAt X W B 6))) := rfl

theorem part5_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 6), (gAt X W B 6), (sg (sl0 (gAt X W B 6))), (tanh (sl1 (gAt X W B 6)))⟩))
      ⊢ wp frame (wpE (defs₀ (F := F)) 𝒱₀ c none) E (k2_part5 i A1 h1 A2 h2 A3 h3 A4 h4 A5 h5 A6 h6 W B (cAt X W B 5) (hAt X W B 5) (xin (slab X 5))) Q := by
  rw [k2_part5_eq_skeleton]; unfold k2_part5_skel
  iintro ⟨H1, Hk⟩
  rw [wp_bind]; iapply (wp_slab (F := F) c A1 X 6 _ _ E _); isplitl [H1]; · iexact H1
  iintro H1
  sl_step
  rw [v5_0 X W B, v5_1 X W B, v5_2 X W B, v5_3 X W B]
  iapply Hk
  iexact H1

theorem v6_0 (X : S50x1024x128.Idx → Elt F .f32) (W : FVec F S192x512 .bf16) (B : FVec F S1x512 .f32) :
    k2_pay28 (cAt X W B 6) (gAt X W B 6) (sg (sl0 (gAt X W B 6))) (tanh (sl1 (gAt X W B 6)))
      = (cAt X W B 7) := rfl

theorem v6_1 (X : S50x1024x128.Idx → Elt F .f32) (W : FVec F S192x512 .bf16) (B : FVec F S1x512 .f32) :
    k2_pay30 W B (cAt X W B 6) (gAt X W B 6) (sg (sl0 (gAt X W B 6))) (tanh (sl1 (gAt X W B 6))) (slab X 7)
      = (sg (sl0 (gAt X W B 7))) := rfl

theorem v6_2 (X : S50x1024x128.Idx → Elt F .f32) (W : FVec F S192x512 .bf16) (B : FVec F S1x512 .f32) :
    k2_pay31 W B (cAt X W B 6) (gAt X W B 6) (sg (sl0 (gAt X W B 6))) (tanh (sl1 (gAt X W B 6))) (slab X 7)
      = (sg (sl1 (gAt X W B 7))) := rfl

theorem v6_3 (X : S50x1024x128.Idx → Elt F .f32) (W : FVec F S192x512 .bf16) (B : FVec F S1x512 .f32) :
    k2_pay32 W B (cAt X W B 6) (gAt X W B 6) (sg (sl0 (gAt X W B 6))) (tanh (sl1 (gAt X W B 6))) (slab X 7)
      = (tanh (sl2 (gAt X W B 7))) := rfl

theorem v6_4 (X : S50x1024x128.Idx → Elt F .f32) (W : FVec F S192x512 .bf16) (B : FVec F S1x512 .f32) :
    k2_pay33 W B (cAt X W B 6) (gAt X W B 6) (sg (sl0 (gAt X W B 6))) (tanh (sl1 (gAt X W B 6))) (slab X 7)
      = (sg (sl3 (gAt X W B 7))) := rfl

theorem part6_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 7), (sg (sl0 (gAt X W B 7))), (sg (sl1 (gAt X W B 7))), (tanh (sl2 (gAt X W B 7))), (sg (sl3 (gAt X W B 7)))⟩))
      ⊢ wp frame (wpE (defs₀ (F := F)) 𝒱₀ c none) E (k2_part6 i A1 h1 A2 h2 A3 h3 A4 h4 A5 h5 A6 h6 W B (cAt X W B 6) (gAt X W B 6) (sg (sl0 (gAt X W B 6))) (tanh (sl1 (gAt X W B 6)))) Q := by
  rw [k2_part6_eq_skeleton]; unfold k2_part6_skel
  iintro ⟨H1, Hk⟩
  rw [wp_bind]; iapply (wp_slab (F := F) c A1 X 7 _ _ E _); isplitl [H1]; · iexact H1
  iintro H1
  sl_step
  rw [v6_0 X W B, v6_1 X W B, v6_2 X W B, v6_3 X W B, v6_4 X W B]
  iapply Hk
  iexact H1

theorem v7_0 (X : S50x1024x128.Idx → Elt F .f32) (W : FVec F S192x512 .bf16) (B : FVec F S1x512 .f32) :
    k2_pay36 W B (cAt X W B 7) (sg (sl0 (gAt X W B 7))) (sg (sl1 (gAt X W B 7))) (tanh (sl2 (gAt X W B 7))) (sg (sl3 (gAt X W B 7))) (slab X 8)
      = (cAt X W B 9) := rfl

theorem v7_1 (X : S50x1024x128.Idx → Elt F .f32) (W : FVec F S192x512 .bf16) (B : FVec F S1x512 .f32) :
    k2_pay37 W B (cAt X W B 7) (sg (sl0 (gAt X W B 7))) (sg (sl1 (gAt X W B 7))) (tanh (sl2 (gAt X W B 7))) (sg (sl3 (gAt X W B 7))) (slab X 8) (slab X 9)
      = (pre W (slab X 9) (hAt X W B 9)) := rfl

theorem part7_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 9), (pre W (slab X 9) (hAt X W B 9))⟩))
      ⊢ wp frame (wpE (defs₀ (F := F)) 𝒱₀ c none) E (k2_part7 i A1 h1 A2 h2 A3 h3 A4 h4 A5 h5 A6 h6 W B (cAt X W B 7) (sg (sl0 (gAt X W B 7))) (sg (sl1 (gAt X W B 7))) (tanh (sl2 (gAt X W B 7))) (sg (sl3 (gAt X W B 7)))) Q := by
  rw [k2_part7_eq_skeleton]; unfold k2_part7_skel
  iintro ⟨H1, Hk⟩
  rw [wp_bind]; iapply (wp_slab (F := F) c A1 X 8 _ _ E _); isplitl [H1]; · iexact H1
  iintro H1
  rw [wp_bind]; iapply (wp_slab (F := F) c A1 X 9 _ _ E _); isplitl [H1]; · iexact H1
  iintro H1
  sl_step
  rw [v7_0 X W B, v7_1 X W B]
  iapply Hk
  iexact H1

theorem v8_0 (X : S50x1024x128.Idx → Elt F .f32) (W : FVec F S192x512 .bf16) (B : FVec F S1x512 .f32) :
    k2_pay39 B (cAt X W B 9) (pre W (slab X 9) (hAt X W B 9))
      = (cAt X W B 10) := rfl

theorem v8_1 (X : S50x1024x128.Idx → Elt F .f32) (W : FVec F S192x512 .bf16) (B : FVec F S1x512 .f32) :
    k2_pay40 W B (cAt X W B 9) (pre W (slab X 9) (hAt X W B 9)) (slab X 10)
      = (gAt X W B 10) := rfl

theorem v8_2 (X : S50x1024x128.Idx → Elt F .f32) (W : FVec F S192x512 .bf16) (B : FVec F S1x512 .f32) :
    k2_pay41 W B (cAt X W B 9) (pre W (slab X 9) (hAt X W B 9)) (slab X 10)
      = (sg (sl0 (gAt X W B 10))) := rfl

theorem v8_3 (X : S50x1024x128.Idx → Elt F .f32) (W : FVec F S192x512 .bf16) (B : FVec F S1x512 .f32) :
    k2_pay42 W B (cAt X W B 9) (pre W (slab X 9) (hAt X W B 9)) (slab X 10)
      = (mulf half (tanh (sl1 (gAt X W B 10)))) := rfl

theorem part8_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 10), (gAt X W B 10), (sg (sl0 (gAt X W B 10))), (mulf half (tanh (sl1 (gAt X W B 10)))), (Scalar.ofBits .f32 0x3F000000#32 : F .f32)⟩))
      ⊢ wp frame (wpE (defs₀ (F := F)) 𝒱₀ c none) E (k2_part8 i A1 h1 A2 h2 A3 h3 A4 h4 A5 h5 A6 h6 W B (cAt X W B 9) (pre W (slab X 9) (hAt X W B 9))) Q := by
  rw [k2_part8_eq_skeleton]; unfold k2_part8_skel
  iintro ⟨H1, Hk⟩
  rw [wp_bind]; iapply (wp_slab (F := F) c A1 X 10 _ _ E _); isplitl [H1]; · iexact H1
  iintro H1
  dsimp only
  sl_step
  rw [v8_0 X W B, v8_1 X W B, v8_2 X W B, v8_3 X W B]
  iapply Hk
  iexact H1

theorem v9_0 (X : S50x1024x128.Idx → Elt F .f32) (W : FVec F S192x512 .bf16) (B : FVec F S1x512 .f32) :
    k2_pay45 W B (cAt X W B 10) (gAt X W B 10) (sg (sl0 (gAt X W B 10))) (mulf half (tanh (sl1 (gAt X W B 10)))) (Scalar.ofBits .f32 0x3F000000#32 : F .f32) (slab X 11)
      = (sg (sl3 (gAt X W B 11))) := rfl

theorem v9_1 (X : S50x1024x128.Idx → Elt F .f32) (W : FVec F S192x512 .bf16) (B : FVec F S1x512 .f32) :
    k2_pay46 W B (cAt X W B 10) (gAt X W B 10) (sg (sl0 (gAt X W B 10))) (mulf half (tanh (sl1 (gAt X W B 10)))) (Scalar.ofBits .f32 0x3F000000#32 : F .f32) (slab X 11)
      = (cAt X W B 12) := rfl

theorem v9_2 (X : S50x1024x128.Idx → Elt F .f32) (W : FVec F S192x512 .bf16) (B : FVec F S1x512 .f32) :
    k2_pay47 W B (cAt X W B 10) (gAt X W B 10) (sg (sl0 (gAt X W B 10))) (mulf half (tanh (sl1 (gAt X W B 10)))) (Scalar.ofBits .f32 0x3F000000#32 : F .f32) (slab X 11)
      = (tanh (cAt X W B 12)) := rfl

theorem part9_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(sg (sl3 (gAt X W B 11))), (cAt X W B 12), (tanh (cAt X W B 12))⟩))
      ⊢ wp frame (wpE (defs₀ (F := F)) 𝒱₀ c none) E (k2_part9 i A1 h1 A2 h2 A3 h3 A4 h4 A5 h5 A6 h6 W B (cAt X W B 10) (gAt X W B 10) (sg (sl0 (gAt X W B 10))) (mulf half (tanh (sl1 (gAt X W B 10)))) (Scalar.ofBits .f32 0x3F000000#32 : F .f32)) Q := by
  rw [k2_part9_eq_skeleton]; unfold k2_part9_skel
  iintro ⟨H1, Hk⟩
  rw [wp_bind]; iapply (wp_slab (F := F) c A1 X 11 _ _ E _); isplitl [H1]; · iexact H1
  iintro H1
  sl_step
  rw [v9_0 X W B, v9_1 X W B, v9_2 X W B]
  iapply Hk
  iexact H1

theorem v10_0 (X : S50x1024x128.Idx → Elt F .f32) (W : FVec F S192x512 .bf16) (B : FVec F S1x512 .f32) :
    k2_pay49 W B (sg (sl3 (gAt X W B 11))) (cAt X W B 12) (tanh (cAt X W B 12)) (slab X 12)
      = (cAt X W B 13) := rfl

theorem v10_1 (X : S50x1024x128.Idx → Elt F .f32) (W : FVec F S192x512 .bf16) (B : FVec F S1x512 .f32) :
    k2_pay50 W B (sg (sl3 (gAt X W B 11))) (cAt X W B 12) (tanh (cAt X W B 12)) (slab X 12) (slab X 13)
      = (gAt X W B 13) := rfl

theorem v10_2 (X : S50x1024x128.Idx → Elt F .f32) (W : FVec F S192x512 .bf16) (B : FVec F S1x512 .f32) :
    k2_pay51 W B (sg (sl3 (gAt X W B 11))) (cAt X W B 12) (tanh (cAt X W B 12)) (slab X 12) (slab X 13)
      = (tanh (sl0 (gAt X W B 13))) := rfl

theorem part10_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 13), (gAt X W B 13), (tanh (sl0 (gAt X W B 13)))⟩))
      ⊢ wp frame (wpE (defs₀ (F := F)) 𝒱₀ c none) E (k2_part10 i A1 h1 A2 h2 A3 h3 A4 h4 A5 h5 A6 h6 W B (sg (sl3 (gAt X W B 11))) (cAt X W B 12) (tanh (cAt X W B 12))) Q := by
  rw [k2_part10_eq_skeleton]; unfold k2_part10_skel
  iintro ⟨H1, Hk⟩
  rw [wp_bind]; iapply (wp_slab (F := F) c A1 X 12 _ _ E _); isplitl [H1]; · iexact H1
  iintro H1
  rw [wp_bind]; iapply (wp_slab (F := F) c A1 X 13 _ _ E _); isplitl [H1]; · iexact H1
  iintro H1
  sl_step
  rw [v10_0 X W B, v10_1 X W B, v10_2 X W B]
  iapply Hk
  iexact H1

theorem v11_0 (X : S50x1024x128.Idx → Elt F .f32) (W : FVec F S192x512 .bf16) (B : FVec F S1x512 .f32) :
    k2_pay52 (cAt X W B 13) (gAt X W B 13) (tanh (sl0 (gAt X W B 13)))
      = (cAt X W B 14) := rfl

theorem v11_1 (X : S50x1024x128.Idx → Elt F .f32) (W : FVec F S192x512 .bf16) (B : FVec F S1x512 .f32) :
    k2_pay53 W B (cAt X W B 13) (gAt X W B 13) (tanh (sl0 (gAt X W B 13))) (slab X 14)
      = (gAt X W B 14) := rfl

theorem v11_2 (X : S50x1024x128.Idx → Elt F .f32) (W : FVec F S192x512 .bf16) (B : FVec F S1x512 .f32) :
    k2_pay54 W B (cAt X W B 13) (gAt X W B 13) (tanh (sl0 (gAt X W B 13))) (slab X 14)
      = (sg (sl0 (gAt X W B 14))) := rfl

theorem v11_3 (X : S50x1024x128.Idx → Elt F .f32) (W : FVec F S192x512 .bf16) (B : FVec F S1x512 .f32) :
    k2_pay55 W B (cAt X W B 13) (gAt X W B 13) (tanh (sl0 (gAt X W B 13))) (slab X 14)
      = (sg (sl1 (gAt X W B 14))) := rfl

theorem v11_4 (X : S50x1024x128.Idx → Elt F .f32) (W : FVec F S192x512 .bf16) (B : FVec F S1x512 .f32) :
    k2_pay56 W B (cAt X W B 13) (gAt X W B 13) (tanh (sl0 (gAt X W B 13))) (slab X 14)
      = (tanh (sl2 (gAt X W B 14))) := rfl

theorem part11_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 14), (gAt X W B 14), (sg (sl0 (gAt X W B 14))), (sg (sl1 (gAt X W B 14))), (tanh (sl2 (gAt X W B 14)))⟩))
      ⊢ wp frame (wpE (defs₀ (F := F)) 𝒱₀ c none) E (k2_part11 i A1 h1 A2 h2 A3 h3 A4 h4 A5 h5 A6 h6 W B (cAt X W B 13) (gAt X W B 13) (tanh (sl0 (gAt X W B 13)))) Q := by
  rw [k2_part11_eq_skeleton]; unfold k2_part11_skel
  iintro ⟨H1, Hk⟩
  rw [wp_bind]; iapply (wp_slab (F := F) c A1 X 14 _ _ E _); isplitl [H1]; · iexact H1
  iintro H1
  sl_step
  rw [v11_0 X W B, v11_1 X W B, v11_2 X W B, v11_3 X W B, v11_4 X W B]
  iapply Hk
  iexact H1

theorem v12_0 (X : S50x1024x128.Idx → Elt F .f32) (W : FVec F S192x512 .bf16) (B : FVec F S1x512 .f32) :
    k2_pay59 W B (cAt X W B 14) (gAt X W B 14) (sg (sl0 (gAt X W B 14))) (sg (sl1 (gAt X W B 14))) (tanh (sl2 (gAt X W B 14))) (slab X 15)
      = (cAt X W B 16) := rfl

theorem v12_1 (X : S50x1024x128.Idx → Elt F .f32) (W : FVec F S192x512 .bf16) (B : FVec F S1x512 .f32) :
    k2_pay60 W B (cAt X W B 14) (gAt X W B 14) (sg (sl0 (gAt X W B 14))) (sg (sl1 (gAt X W B 14))) (tanh (sl2 (gAt X W B 14))) (slab X 15)
      = (hAt X W B 16) := rfl

theorem part12_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 16), (hAt X W B 16)⟩))
      ⊢ wp frame (wpE (defs₀ (F := F)) 𝒱₀ c none) E (k2_part12 i A1 h1 A2 h2 A3 h3 A4 h4 A5 h5 A6 h6 W B (cAt X W B 14) (gAt X W B 14) (sg (sl0 (gAt X W B 14))) (sg (sl1 (gAt X W B 14))) (tanh (sl2 (gAt X W B 14)))) Q := by
  rw [k2_part12_eq_skeleton]; unfold k2_part12_skel
  iintro ⟨H1, Hk⟩
  rw [wp_bind]; iapply (wp_slab (F := F) c A1 X 15 _ _ E _); isplitl [H1]; · iexact H1
  iintro H1
  sl_step
  rw [v12_0 X W B, v12_1 X W B]
  iapply Hk
  iexact H1

theorem v13_0 (X : S50x1024x128.Idx → Elt F .f32) (W : FVec F S192x512 .bf16) (B : FVec F S1x512 .f32) :
    k2_pay62 W B (cAt X W B 16) (hAt X W B 16) (slab X 16)
      = (cAt X W B 17) := rfl

theorem v13_1 (X : S50x1024x128.Idx → Elt F .f32) (W : FVec F S192x512 .bf16) (B : FVec F S1x512 .f32) :
    k2_pay63 W B (cAt X W B 16) (hAt X W B 16) (slab X 16) (slab X 17)
      = (gAt X W B 17) := rfl

theorem v13_2 (X : S50x1024x128.Idx → Elt F .f32) (W : FVec F S192x512 .bf16) (B : FVec F S1x512 .f32) :
    k2_pay64 W B (cAt X W B 16) (hAt X W B 16) (slab X 16) (slab X 17)
      = (mulf half (tanh (sl0 (gAt X W B 17)))) := rfl

theorem part13_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 17), (gAt X W B 17), (mulf half (tanh (sl0 (gAt X W B 17)))), (Scalar.ofBits .f32 0x3F000000#32 : F .f32)⟩))
      ⊢ wp frame (wpE (defs₀ (F := F)) 𝒱₀ c none) E (k2_part13 i A1 h1 A2 h2 A3 h3 A4 h4 A5 h5 A6 h6 W B (cAt X W B 16) (hAt X W B 16)) Q := by
  rw [k2_part13_eq_skeleton]; unfold k2_part13_skel
  iintro ⟨H1, Hk⟩
  rw [wp_bind]; iapply (wp_slab (F := F) c A1 X 16 _ _ E _); isplitl [H1]; · iexact H1
  iintro H1
  rw [wp_bind]; iapply (wp_slab (F := F) c A1 X 17 _ _ E _); isplitl [H1]; · iexact H1
  iintro H1
  dsimp only
  sl_step
  rw [v13_0 X W B, v13_1 X W B, v13_2 X W B]
  iapply Hk
  iexact H1

theorem v14_0 (X : S50x1024x128.Idx → Elt F .f32) (W : FVec F S192x512 .bf16) (B : FVec F S1x512 .f32) :
    k2_pay65 (cAt X W B 17) (gAt X W B 17) (mulf half (tanh (sl0 (gAt X W B 17)))) (Scalar.ofBits .f32 0x3F000000#32 : F .f32)
      = (cAt X W B 18) := rfl

theorem v14_1 (X : S50x1024x128.Idx → Elt F .f32) (W : FVec F S192x512 .bf16) (B : FVec F S1x512 .f32) :
    k2_pay67 W B (cAt X W B 17) (gAt X W B 17) (mulf half (tanh (sl0 (gAt X W B 17)))) (Scalar.ofBits .f32 0x3F000000#32 : F .f32) (slab X 18)
      = (sg (sl0 (gAt X W B 18))) := rfl

theorem v14_2 (X : S50x1024x128.Idx → Elt F .f32) (W : FVec F S192x512 .bf16) (B : FVec F S1x512 .f32) :
    k2_pay68 W B (cAt X W B 17) (gAt X W B 17) (mulf half (tanh (sl0 (gAt X W B 17)))) (Scalar.ofBits .f32 0x3F000000#32 : F .f32) (slab X 18)
      = (sg (sl1 (gAt X W B 18))) := rfl

theorem v14_3 (X : S50x1024x128.Idx → Elt F .f32) (W : FVec F S192x512 .bf16) (B : FVec F S1x512 .f32) :
    k2_pay69 W B (cAt X W B 17) (gAt X W B 17) (mulf half (tanh (sl0 (gAt X W B 17)))) (Scalar.ofBits .f32 0x3F000000#32 : F .f32) (slab X 18)
      = (tanh (sl2 (gAt X W B 18))) := rfl

theorem v14_4 (X : S50x1024x128.Idx → Elt F .f32) (W : FVec F S192x512 .bf16) (B : FVec F S1x512 .f32) :
    k2_pay70 W B (cAt X W B 17) (gAt X W B 17) (mulf half (tanh (sl0 (gAt X W B 17)))) (Scalar.ofBits .f32 0x3F000000#32 : F .f32) (slab X 18)
      = (tanh (sl3 (gAt X W B 18))) := rfl

theorem v14_5 (X : S50x1024x128.Idx → Elt F .f32) (W : FVec F S192x512 .bf16) (B : FVec F S1x512 .f32) :
    k2_pay71 (F := F)
      = half := rfl

theorem part14_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 18), (sg (sl0 (gAt X W B 18))), (sg (sl1 (gAt X W B 18))), (tanh (sl2 (gAt X W B 18))), (tanh (sl3 (gAt X W B 18))), half⟩))
      ⊢ wp frame (wpE (defs₀ (F := F)) 𝒱₀ c none) E (k2_part14 i A1 h1 A2 h2 A3 h3 A4 h4 A5 h5 A6 h6 W B (cAt X W B 17) (gAt X W B 17) (mulf half (tanh (sl0 (gAt X W B 17)))) (Scalar.ofBits .f32 0x3F000000#32 : F .f32)) Q := by
  rw [k2_part14_eq_skeleton]; unfold k2_part14_skel
  iintro ⟨H1, Hk⟩
  rw [wp_bind]; iapply (wp_slab (F := F) c A1 X 18 _ _ E _); isplitl [H1]; · iexact H1
  iintro H1
  sl_step
  rw [v14_0 X W B, v14_1 X W B, v14_2 X W B, v14_3 X W B, v14_4 X W B, v14_5 X W B]
  iapply Hk
  iexact H1

theorem v15_0 (X : S50x1024x128.Idx → Elt F .f32) (W : FVec F S192x512 .bf16) (B : FVec F S1x512 .f32) :
    k2_pay74 W B (cAt X W B 18) (sg (sl0 (gAt X W B 18))) (sg (sl1 (gAt X W B 18))) (tanh (sl2 (gAt X W B 18))) (tanh (sl3 (gAt X W B 18))) half (slab X 19)
      = (cAt X W B 20) := rfl

theorem v15_1 (X : S50x1024x128.Idx → Elt F .f32) (W : FVec F S192x512 .bf16) (B : FVec F S1x512 .f32) :
    k2_pay75 W B (cAt X W B 18) (sg (sl0 (gAt X W B 18))) (sg (sl1 (gAt X W B 18))) (tanh (sl2 (gAt X W B 18))) (tanh (sl3 (gAt X W B 18))) half (slab X 19)
      = (hAt X W B 20) := rfl

theorem v15_2 (X : S50x1024x128.Idx → Elt F .f32) (W : FVec F S192x512 .bf16) (B : FVec F S1x512 .f32) :
    k2_pay76 (slab X 20)
      = (xin (slab X 20)) := rfl

theorem part15_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 20), (hAt X W B 20), (xin (slab X 20))⟩))
      ⊢ wp frame (wpE (defs₀ (F := F)) 𝒱₀ c none) E (k2_part15 i A1 h1 A2 h2 A3 h3 A4 h4 A5 h5 A6 h6 W B (cAt X W B 18) (sg (sl0 (gAt X W B 18))) (sg (sl1 (gAt X W B 18))) (tanh (sl2 (gAt X W B 18))) (tanh (sl3 (gAt X W B 18))) half) Q := by
  rw [k2_part15_eq_skeleton]; unfold k2_part15_skel
  iintro ⟨H1, Hk⟩
  rw [wp_bind]; iapply (wp_slab (F := F) c A1 X 19 _ _ E _); isplitl [H1]; · iexact H1
  iintro H1
  rw [wp_bind]; iapply (wp_slab (F := F) c A1 X 20 _ _ E _); isplitl [H1]; · iexact H1
  iintro H1
  sl_step
  rw [v15_0 X W B, v15_1 X W B, v15_2 X W B]
  iapply Hk
  iexact H1

theorem v16_0 (X : S50x1024x128.Idx → Elt F .f32) (W : FVec F S192x512 .bf16) (B : FVec F S1x512 .f32) :
    k2_pay78 W B (cAt X W B 20) (hAt X W B 20) (xin (slab X 20))
      = (cAt X W B 21) := rfl

theorem v16_1 (X : S50x1024x128.Idx → Elt F .f32) (W : FVec F S192x512 .bf16) (B : FVec F S1x512 .f32) :
    k2_pay79 W B (cAt X W B 20) (hAt X W B 20) (xin (slab X 20)) (slab X 21)
      = (gAt X W B 21) := rfl

theorem v16_2 (X : S50x1024x128.Idx → Elt F .f32) (W : FVec F S192x512 .bf16) (B : FVec F S1x512 .f32) :
    k2_pay80 W B (cAt X W B 20) (hAt X W B 20) (xin (slab X 20)) (slab X 21)
      = (sg (sl0 (gAt X W B 21))) := rfl

theorem v16_3 (X : S50x1024x128.Idx → Elt F .f32) (W : FVec F S192x512 .bf16) (B : FVec F S1x512 .f32) :
    k2_pay81 W B (cAt X W B 20) (hAt X W B 20) (xin (slab X 20)) (slab X 21)
      = (tanh (sl1 (gAt X W B 21))) := rfl

theorem part16_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 21), (gAt X W B 21), (sg (sl0 (gAt X W B 21))), (tanh (sl1 (gAt X W B 21)))⟩))
      ⊢ wp frame (wpE (defs₀ (F := F)) 𝒱₀ c none) E (k2_part16 i A1 h1 A2 h2 A3 h3 A4 h4 A5 h5 A6 h6 W B (cAt X W B 20) (hAt X W B 20) (xin (slab X 20))) Q := by
  rw [k2_part16_eq_skeleton]; unfold k2_part16_skel
  iintro ⟨H1, Hk⟩
  rw [wp_bind]; iapply (wp_slab (F := F) c A1 X 21 _ _ E _); isplitl [H1]; · iexact H1
  iintro H1
  sl_step
  rw [v16_0 X W B, v16_1 X W B, v16_2 X W B, v16_3 X W B]
  iapply Hk
  iexact H1

theorem v17_0 (X : S50x1024x128.Idx → Elt F .f32) (W : FVec F S192x512 .bf16) (B : FVec F S1x512 .f32) :
    k2_pay82 (cAt X W B 21) (gAt X W B 21) (sg (sl0 (gAt X W B 21))) (tanh (sl1 (gAt X W B 21)))
      = (cAt X W B 22) := rfl

theorem v17_1 (X : S50x1024x128.Idx → Elt F .f32) (W : FVec F S192x512 .bf16) (B : FVec F S1x512 .f32) :
    k2_pay84 W B (cAt X W B 21) (gAt X W B 21) (sg (sl0 (gAt X W B 21))) (tanh (sl1 (gAt X W B 21))) (slab X 22)
      = (sg (sl0 (gAt X W B 22))) := rfl

theorem v17_2 (X : S50x1024x128.Idx → Elt F .f32) (W : FVec F S192x512 .bf16) (B : FVec F S1x512 .f32) :
    k2_pay85 W B (cAt X W B 21) (gAt X W B 21) (sg (sl0 (gAt X W B 21))) (tanh (sl1 (gAt X W B 21))) (slab X 22)
      = (sg (sl1 (gAt X W B 22))) := rfl

theorem v17_3 (X : S50x1024x128.Idx → Elt F .f32) (W : FVec F S192x512 .bf16) (B : FVec F S1x512 .f32) :
    k2_pay86 W B (cAt X W B 21) (gAt X W B 21) (sg (sl0 (gAt X W B 21))) (tanh (sl1 (gAt X W B 21))) (slab X 22)
      = (tanh (sl2 (gAt X W B 22))) := rfl

theorem v17_4 (X : S50x1024x128.Idx → Elt F .f32) (W : FVec F S192x512 .bf16) (B : FVec F S1x512 .f32) :
    k2_pay87 W B (cAt X W B 21) (gAt X W B 21) (sg (sl0 (gAt X W B 21))) (tanh (sl1 (gAt X W B 21))) (slab X 22)
      = (sg (sl3 (gAt X W B 22))) := rfl

theorem part17_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 22), (sg (sl0 (gAt X W B 22))), (sg (sl1 (gAt X W B 22))), (tanh (sl2 (gAt X W B 22))), (sg (sl3 (gAt X W B 22)))⟩))
      ⊢ wp frame (wpE (defs₀ (F := F)) 𝒱₀ c none) E (k2_part17 i A1 h1 A2 h2 A3 h3 A4 h4 A5 h5 A6 h6 W B (cAt X W B 21) (gAt X W B 21) (sg (sl0 (gAt X W B 21))) (tanh (sl1 (gAt X W B 21)))) Q := by
  rw [k2_part17_eq_skeleton]; unfold k2_part17_skel
  iintro ⟨H1, Hk⟩
  rw [wp_bind]; iapply (wp_slab (F := F) c A1 X 22 _ _ E _); isplitl [H1]; · iexact H1
  iintro H1
  sl_step
  rw [v17_0 X W B, v17_1 X W B, v17_2 X W B, v17_3 X W B, v17_4 X W B]
  iapply Hk
  iexact H1

theorem v18_0 (X : S50x1024x128.Idx → Elt F .f32) (W : FVec F S192x512 .bf16) (B : FVec F S1x512 .f32) :
    k2_pay90 W B (cAt X W B 22) (sg (sl0 (gAt X W B 22))) (sg (sl1 (gAt X W B 22))) (tanh (sl2 (gAt X W B 22))) (sg (sl3 (gAt X W B 22))) (slab X 23)
      = (cAt X W B 24) := rfl

theorem v18_1 (X : S50x1024x128.Idx → Elt F .f32) (W : FVec F S192x512 .bf16) (B : FVec F S1x512 .f32) :
    k2_pay91 W B (cAt X W B 22) (sg (sl0 (gAt X W B 22))) (sg (sl1 (gAt X W B 22))) (tanh (sl2 (gAt X W B 22))) (sg (sl3 (gAt X W B 22))) (slab X 23) (slab X 24)
      = (pre W (slab X 24) (hAt X W B 24)) := rfl

theorem part18_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 24), (pre W (slab X 24) (hAt X W B 24))⟩))
      ⊢ wp frame (wpE (defs₀ (F := F)) 𝒱₀ c none) E (k2_part18 i A1 h1 A2 h2 A3 h3 A4 h4 A5 h5 A6 h6 W B (cAt X W B 22) (sg (sl0 (gAt X W B 22))) (sg (sl1 (gAt X W B 22))) (tanh (sl2 (gAt X W B 22))) (sg (sl3 (gAt X W B 22)))) Q := by
  rw [k2_part18_eq_skeleton]; unfold k2_part18_skel
  iintro ⟨H1, Hk⟩
  rw [wp_bind]; iapply (wp_slab (F := F) c A1 X 23 _ _ E _); isplitl [H1]; · iexact H1
  iintro H1
  rw [wp_bind]; iapply (wp_slab (F := F) c A1 X 24 _ _ E _); isplitl [H1]; · iexact H1
  iintro H1
  sl_step
  rw [v18_0 X W B, v18_1 X W B]
  iapply Hk
  iexact H1

theorem v19_0 (X : S50x1024x128.Idx → Elt F .f32) (W : FVec F S192x512 .bf16) (B : FVec F S1x512 .f32) :
    k2_pay93 B (cAt X W B 24) (pre W (slab X 24) (hAt X W B 24))
      = (cAt X W B 25) := rfl

theorem v19_1 (X : S50x1024x128.Idx → Elt F .f32) (W : FVec F S192x512 .bf16) (B : FVec F S1x512 .f32) :
    k2_pay94 W B (cAt X W B 24) (pre W (slab X 24) (hAt X W B 24)) (slab X 25)
      = (gAt X W B 25) := rfl

theorem v19_2 (X : S50x1024x128.Idx → Elt F .f32) (W : FVec F S192x512 .bf16) (B : FVec F S1x512 .f32) :
    k2_pay95 W B (cAt X W B 24) (pre W (slab X 24) (hAt X W B 24)) (slab X 25)
      = (sg (sl0 (gAt X W B 25))) := rfl

theorem v19_3 (X : S50x1024x128.Idx → Elt F .f32) (W : FVec F S192x512 .bf16) (B : FVec F S1x512 .f32) :
    k2_pay96 W B (cAt X W B 24) (pre W (slab X 24) (hAt X W B 24)) (slab X 25)
      = (mulf half (tanh (sl1 (gAt X W B 25)))) := rfl

theorem part19_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 25), (gAt X W B 25), (sg (sl0 (gAt X W B 25))), (mulf half (tanh (sl1 (gAt X W B 25)))), (Scalar.ofBits .f32 0x3F000000#32 : F .f32)⟩))
      ⊢ wp frame (wpE (defs₀ (F := F)) 𝒱₀ c none) E (k2_part19 i A1 h1 A2 h2 A3 h3 A4 h4 A5 h5 A6 h6 W B (cAt X W B 24) (pre W (slab X 24) (hAt X W B 24))) Q := by
  rw [k2_part19_eq_skeleton]; unfold k2_part19_skel
  iintro ⟨H1, Hk⟩
  rw [wp_bind]; iapply (wp_slab (F := F) c A1 X 25 _ _ E _); isplitl [H1]; · iexact H1
  iintro H1
  dsimp only
  sl_step
  rw [v19_0 X W B, v19_1 X W B, v19_2 X W B, v19_3 X W B]
  iapply Hk
  iexact H1

theorem v20_0 (X : S50x1024x128.Idx → Elt F .f32) (W : FVec F S192x512 .bf16) (B : FVec F S1x512 .f32) :
    k2_pay99 W B (cAt X W B 25) (gAt X W B 25) (sg (sl0 (gAt X W B 25))) (mulf half (tanh (sl1 (gAt X W B 25)))) (Scalar.ofBits .f32 0x3F000000#32 : F .f32) (slab X 26)
      = (sg (sl3 (gAt X W B 26))) := rfl

theorem v20_1 (X : S50x1024x128.Idx → Elt F .f32) (W : FVec F S192x512 .bf16) (B : FVec F S1x512 .f32) :
    k2_pay100 W B (cAt X W B 25) (gAt X W B 25) (sg (sl0 (gAt X W B 25))) (mulf half (tanh (sl1 (gAt X W B 25)))) (Scalar.ofBits .f32 0x3F000000#32 : F .f32) (slab X 26)
      = (cAt X W B 27) := rfl

theorem v20_2 (X : S50x1024x128.Idx → Elt F .f32) (W : FVec F S192x512 .bf16) (B : FVec F S1x512 .f32) :
    k2_pay101 W B (cAt X W B 25) (gAt X W B 25) (sg (sl0 (gAt X W B 25))) (mulf half (tanh (sl1 (gAt X W B 25)))) (Scalar.ofBits .f32 0x3F000000#32 : F .f32) (slab X 26)
      = (tanh (cAt X W B 27)) := rfl

theorem part20_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(sg (sl3 (gAt X W B 26))), (cAt X W B 27), (tanh (cAt X W B 27))⟩))
      ⊢ wp frame (wpE (defs₀ (F := F)) 𝒱₀ c none) E (k2_part20 i A1 h1 A2 h2 A3 h3 A4 h4 A5 h5 A6 h6 W B (cAt X W B 25) (gAt X W B 25) (sg (sl0 (gAt X W B 25))) (mulf half (tanh (sl1 (gAt X W B 25)))) (Scalar.ofBits .f32 0x3F000000#32 : F .f32)) Q := by
  rw [k2_part20_eq_skeleton]; unfold k2_part20_skel
  iintro ⟨H1, Hk⟩
  rw [wp_bind]; iapply (wp_slab (F := F) c A1 X 26 _ _ E _); isplitl [H1]; · iexact H1
  iintro H1
  sl_step
  rw [v20_0 X W B, v20_1 X W B, v20_2 X W B]
  iapply Hk
  iexact H1

theorem v21_0 (X : S50x1024x128.Idx → Elt F .f32) (W : FVec F S192x512 .bf16) (B : FVec F S1x512 .f32) :
    k2_pay103 W B (sg (sl3 (gAt X W B 26))) (cAt X W B 27) (tanh (cAt X W B 27)) (slab X 27)
      = (cAt X W B 28) := rfl

theorem v21_1 (X : S50x1024x128.Idx → Elt F .f32) (W : FVec F S192x512 .bf16) (B : FVec F S1x512 .f32) :
    k2_pay104 W B (sg (sl3 (gAt X W B 26))) (cAt X W B 27) (tanh (cAt X W B 27)) (slab X 27) (slab X 28)
      = (gAt X W B 28) := rfl

theorem v21_2 (X : S50x1024x128.Idx → Elt F .f32) (W : FVec F S192x512 .bf16) (B : FVec F S1x512 .f32) :
    k2_pay105 W B (sg (sl3 (gAt X W B 26))) (cAt X W B 27) (tanh (cAt X W B 27)) (slab X 27) (slab X 28)
      = (tanh (sl0 (gAt X W B 28))) := rfl

theorem part21_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 28), (gAt X W B 28), (tanh (sl0 (gAt X W B 28)))⟩))
      ⊢ wp frame (wpE (defs₀ (F := F)) 𝒱₀ c none) E (k2_part21 i A1 h1 A2 h2 A3 h3 A4 h4 A5 h5 A6 h6 W B (sg (sl3 (gAt X W B 26))) (cAt X W B 27) (tanh (cAt X W B 27))) Q := by
  rw [k2_part21_eq_skeleton]; unfold k2_part21_skel
  iintro ⟨H1, Hk⟩
  rw [wp_bind]; iapply (wp_slab (F := F) c A1 X 27 _ _ E _); isplitl [H1]; · iexact H1
  iintro H1
  rw [wp_bind]; iapply (wp_slab (F := F) c A1 X 28 _ _ E _); isplitl [H1]; · iexact H1
  iintro H1
  sl_step
  rw [v21_0 X W B, v21_1 X W B, v21_2 X W B]
  iapply Hk
  iexact H1

theorem v22_0 (X : S50x1024x128.Idx → Elt F .f32) (W : FVec F S192x512 .bf16) (B : FVec F S1x512 .f32) :
    k2_pay106 (cAt X W B 28) (gAt X W B 28) (tanh (sl0 (gAt X W B 28)))
      = (cAt X W B 29) := rfl

theorem v22_1 (X : S50x1024x128.Idx → Elt F .f32) (W : FVec F S192x512 .bf16) (B : FVec F S1x512 .f32) :
    k2_pay107 W B (cAt X W B 28) (gAt X W B 28) (tanh (sl0 (gAt X W B 28))) (slab X 29)
      = (gAt X W B 29) := rfl

theorem v22_2 (X : S50x1024x128.Idx → Elt F .f32) (W : FVec F S192x512 .bf16) (B : FVec F S1x512 .f32) :
    k2_pay108 W B (cAt X W B 28) (gAt X W B 28) (tanh (sl0 (gAt X W B 28))) (slab X 29)
      = (sg (sl0 (gAt X W B 29))) := rfl

theorem v22_3 (X : S50x1024x128.Idx → Elt F .f32) (W : FVec F S192x512 .bf16) (B : FVec F S1x512 .f32) :
    k2_pay109 W B (cAt X W B 28) (gAt X W B 28) (tanh (sl0 (gAt X W B 28))) (slab X 29)
      = (sg (sl1 (gAt X W B 29))) := rfl

theorem v22_4 (X : S50x1024x128.Idx → Elt F .f32) (W : FVec F S192x512 .bf16) (B : FVec F S1x512 .f32) :
    k2_pay110 W B (cAt X W B 28) (gAt X W B 28) (tanh (sl0 (gAt X W B 28))) (slab X 29)
      = (tanh (sl2 (gAt X W B 29))) := rfl

theorem part22_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 29), (gAt X W B 29), (sg (sl0 (gAt X W B 29))), (sg (sl1 (gAt X W B 29))), (tanh (sl2 (gAt X W B 29)))⟩))
      ⊢ wp frame (wpE (defs₀ (F := F)) 𝒱₀ c none) E (k2_part22 i A1 h1 A2 h2 A3 h3 A4 h4 A5 h5 A6 h6 W B (cAt X W B 28) (gAt X W B 28) (tanh (sl0 (gAt X W B 28)))) Q := by
  rw [k2_part22_eq_skeleton]; unfold k2_part22_skel
  iintro ⟨H1, Hk⟩
  rw [wp_bind]; iapply (wp_slab (F := F) c A1 X 29 _ _ E _); isplitl [H1]; · iexact H1
  iintro H1
  sl_step
  rw [v22_0 X W B, v22_1 X W B, v22_2 X W B, v22_3 X W B, v22_4 X W B]
  iapply Hk
  iexact H1

theorem v23_0 (X : S50x1024x128.Idx → Elt F .f32) (W : FVec F S192x512 .bf16) (B : FVec F S1x512 .f32) :
    k2_pay113 W B (cAt X W B 29) (gAt X W B 29) (sg (sl0 (gAt X W B 29))) (sg (sl1 (gAt X W B 29))) (tanh (sl2 (gAt X W B 29))) (slab X 30)
      = (cAt X W B 31) := rfl

theorem v23_1 (X : S50x1024x128.Idx → Elt F .f32) (W : FVec F S192x512 .bf16) (B : FVec F S1x512 .f32) :
    k2_pay114 W B (cAt X W B 29) (gAt X W B 29) (sg (sl0 (gAt X W B 29))) (sg (sl1 (gAt X W B 29))) (tanh (sl2 (gAt X W B 29))) (slab X 30)
      = (hAt X W B 31) := rfl

theorem part23_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 31), (hAt X W B 31)⟩))
      ⊢ wp frame (wpE (defs₀ (F := F)) 𝒱₀ c none) E (k2_part23 i A1 h1 A2 h2 A3 h3 A4 h4 A5 h5 A6 h6 W B (cAt X W B 29) (gAt X W B 29) (sg (sl0 (gAt X W B 29))) (sg (sl1 (gAt X W B 29))) (tanh (sl2 (gAt X W B 29)))) Q := by
  rw [k2_part23_eq_skeleton]; unfold k2_part23_skel
  iintro ⟨H1, Hk⟩
  rw [wp_bind]; iapply (wp_slab (F := F) c A1 X 30 _ _ E _); isplitl [H1]; · iexact H1
  iintro H1
  sl_step
  rw [v23_0 X W B, v23_1 X W B]
  iapply Hk
  iexact H1

theorem v24_0 (X : S50x1024x128.Idx → Elt F .f32) (W : FVec F S192x512 .bf16) (B : FVec F S1x512 .f32) :
    k2_pay116 W B (cAt X W B 31) (hAt X W B 31) (slab X 31)
      = (cAt X W B 32) := rfl

theorem v24_1 (X : S50x1024x128.Idx → Elt F .f32) (W : FVec F S192x512 .bf16) (B : FVec F S1x512 .f32) :
    k2_pay117 W B (cAt X W B 31) (hAt X W B 31) (slab X 31) (slab X 32)
      = (gAt X W B 32) := rfl

theorem v24_2 (X : S50x1024x128.Idx → Elt F .f32) (W : FVec F S192x512 .bf16) (B : FVec F S1x512 .f32) :
    k2_pay118 W B (cAt X W B 31) (hAt X W B 31) (slab X 31) (slab X 32)
      = (mulf half (tanh (sl0 (gAt X W B 32)))) := rfl

theorem part24_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 32), (gAt X W B 32), (mulf half (tanh (sl0 (gAt X W B 32)))), (Scalar.ofBits .f32 0x3F000000#32 : F .f32)⟩))
      ⊢ wp frame (wpE (defs₀ (F := F)) 𝒱₀ c none) E (k2_part24 i A1 h1 A2 h2 A3 h3 A4 h4 A5 h5 A6 h6 W B (cAt X W B 31) (hAt X W B 31)) Q := by
  rw [k2_part24_eq_skeleton]; unfold k2_part24_skel
  iintro ⟨H1, Hk⟩
  rw [wp_bind]; iapply (wp_slab (F := F) c A1 X 31 _ _ E _); isplitl [H1]; · iexact H1
  iintro H1
  rw [wp_bind]; iapply (wp_slab (F := F) c A1 X 32 _ _ E _); isplitl [H1]; · iexact H1
  iintro H1
  dsimp only
  sl_step
  rw [v24_0 X W B, v24_1 X W B, v24_2 X W B]
  iapply Hk
  iexact H1

theorem v25_0 (X : S50x1024x128.Idx → Elt F .f32) (W : FVec F S192x512 .bf16) (B : FVec F S1x512 .f32) :
    k2_pay119 (cAt X W B 32) (gAt X W B 32) (mulf half (tanh (sl0 (gAt X W B 32)))) (Scalar.ofBits .f32 0x3F000000#32 : F .f32)
      = (cAt X W B 33) := rfl

theorem v25_1 (X : S50x1024x128.Idx → Elt F .f32) (W : FVec F S192x512 .bf16) (B : FVec F S1x512 .f32) :
    k2_pay121 W B (cAt X W B 32) (gAt X W B 32) (mulf half (tanh (sl0 (gAt X W B 32)))) (Scalar.ofBits .f32 0x3F000000#32 : F .f32) (slab X 33)
      = (sg (sl0 (gAt X W B 33))) := rfl

theorem v25_2 (X : S50x1024x128.Idx → Elt F .f32) (W : FVec F S192x512 .bf16) (B : FVec F S1x512 .f32) :
    k2_pay122 W B (cAt X W B 32) (gAt X W B 32) (mulf half (tanh (sl0 (gAt X W B 32)))) (Scalar.ofBits .f32 0x3F000000#32 : F .f32) (slab X 33)
      = (sg (sl1 (gAt X W B 33))) := rfl

theorem v25_3 (X : S50x1024x128.Idx → Elt F .f32) (W : FVec F S192x512 .bf16) (B : FVec F S1x512 .f32) :
    k2_pay123 W B (cAt X W B 32) (gAt X W B 32) (mulf half (tanh (sl0 (gAt X W B 32)))) (Scalar.ofBits .f32 0x3F000000#32 : F .f32) (slab X 33)
      = (tanh (sl2 (gAt X W B 33))) := rfl

theorem v25_4 (X : S50x1024x128.Idx → Elt F .f32) (W : FVec F S192x512 .bf16) (B : FVec F S1x512 .f32) :
    k2_pay124 W B (cAt X W B 32) (gAt X W B 32) (mulf half (tanh (sl0 (gAt X W B 32)))) (Scalar.ofBits .f32 0x3F000000#32 : F .f32) (slab X 33)
      = (tanh (sl3 (gAt X W B 33))) := rfl

theorem v25_5 (X : S50x1024x128.Idx → Elt F .f32) (W : FVec F S192x512 .bf16) (B : FVec F S1x512 .f32) :
    k2_pay125 (F := F)
      = half := rfl

theorem part25_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 33), (sg (sl0 (gAt X W B 33))), (sg (sl1 (gAt X W B 33))), (tanh (sl2 (gAt X W B 33))), (tanh (sl3 (gAt X W B 33))), half⟩))
      ⊢ wp frame (wpE (defs₀ (F := F)) 𝒱₀ c none) E (k2_part25 i A1 h1 A2 h2 A3 h3 A4 h4 A5 h5 A6 h6 W B (cAt X W B 32) (gAt X W B 32) (mulf half (tanh (sl0 (gAt X W B 32)))) (Scalar.ofBits .f32 0x3F000000#32 : F .f32)) Q := by
  rw [k2_part25_eq_skeleton]; unfold k2_part25_skel
  iintro ⟨H1, Hk⟩
  rw [wp_bind]; iapply (wp_slab (F := F) c A1 X 33 _ _ E _); isplitl [H1]; · iexact H1
  iintro H1
  sl_step
  rw [v25_0 X W B, v25_1 X W B, v25_2 X W B, v25_3 X W B, v25_4 X W B, v25_5 X W B]
  iapply Hk
  iexact H1

theorem v26_0 (X : S50x1024x128.Idx → Elt F .f32) (W : FVec F S192x512 .bf16) (B : FVec F S1x512 .f32) :
    k2_pay128 W B (cAt X W B 33) (sg (sl0 (gAt X W B 33))) (sg (sl1 (gAt X W B 33))) (tanh (sl2 (gAt X W B 33))) (tanh (sl3 (gAt X W B 33))) half (slab X 34)
      = (cAt X W B 35) := rfl

theorem v26_1 (X : S50x1024x128.Idx → Elt F .f32) (W : FVec F S192x512 .bf16) (B : FVec F S1x512 .f32) :
    k2_pay129 W B (cAt X W B 33) (sg (sl0 (gAt X W B 33))) (sg (sl1 (gAt X W B 33))) (tanh (sl2 (gAt X W B 33))) (tanh (sl3 (gAt X W B 33))) half (slab X 34)
      = (hAt X W B 35) := rfl

theorem v26_2 (X : S50x1024x128.Idx → Elt F .f32) (W : FVec F S192x512 .bf16) (B : FVec F S1x512 .f32) :
    k2_pay130 (slab X 35)
      = (xin (slab X 35)) := rfl

theorem part26_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 35), (hAt X W B 35), (xin (slab X 35))⟩))
      ⊢ wp frame (wpE (defs₀ (F := F)) 𝒱₀ c none) E (k2_part26 i A1 h1 A2 h2 A3 h3 A4 h4 A5 h5 A6 h6 W B (cAt X W B 33) (sg (sl0 (gAt X W B 33))) (sg (sl1 (gAt X W B 33))) (tanh (sl2 (gAt X W B 33))) (tanh (sl3 (gAt X W B 33))) half) Q := by
  rw [k2_part26_eq_skeleton]; unfold k2_part26_skel
  iintro ⟨H1, Hk⟩
  rw [wp_bind]; iapply (wp_slab (F := F) c A1 X 34 _ _ E _); isplitl [H1]; · iexact H1
  iintro H1
  rw [wp_bind]; iapply (wp_slab (F := F) c A1 X 35 _ _ E _); isplitl [H1]; · iexact H1
  iintro H1
  sl_step
  rw [v26_0 X W B, v26_1 X W B, v26_2 X W B]
  iapply Hk
  iexact H1

theorem v27_0 (X : S50x1024x128.Idx → Elt F .f32) (W : FVec F S192x512 .bf16) (B : FVec F S1x512 .f32) :
    k2_pay132 W B (cAt X W B 35) (hAt X W B 35) (xin (slab X 35))
      = (cAt X W B 36) := rfl

theorem v27_1 (X : S50x1024x128.Idx → Elt F .f32) (W : FVec F S192x512 .bf16) (B : FVec F S1x512 .f32) :
    k2_pay133 W B (cAt X W B 35) (hAt X W B 35) (xin (slab X 35)) (slab X 36)
      = (gAt X W B 36) := rfl

theorem v27_2 (X : S50x1024x128.Idx → Elt F .f32) (W : FVec F S192x512 .bf16) (B : FVec F S1x512 .f32) :
    k2_pay134 W B (cAt X W B 35) (hAt X W B 35) (xin (slab X 35)) (slab X 36)
      = (sg (sl0 (gAt X W B 36))) := rfl

theorem v27_3 (X : S50x1024x128.Idx → Elt F .f32) (W : FVec F S192x512 .bf16) (B : FVec F S1x512 .f32) :
    k2_pay135 W B (cAt X W B 35) (hAt X W B 35) (xin (slab X 35)) (slab X 36)
      = (tanh (sl1 (gAt X W B 36))) := rfl

theorem part27_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 36), (gAt X W B 36), (sg (sl0 (gAt X W B 36))), (tanh (sl1 (gAt X W B 36)))⟩))
      ⊢ wp frame (wpE (defs₀ (F := F)) 𝒱₀ c none) E (k2_part27 i A1 h1 A2 h2 A3 h3 A4 h4 A5 h5 A6 h6 W B (cAt X W B 35) (hAt X W B 35) (xin (slab X 35))) Q := by
  rw [k2_part27_eq_skeleton]; unfold k2_part27_skel
  iintro ⟨H1, Hk⟩
  rw [wp_bind]; iapply (wp_slab (F := F) c A1 X 36 _ _ E _); isplitl [H1]; · iexact H1
  iintro H1
  sl_step
  rw [v27_0 X W B, v27_1 X W B, v27_2 X W B, v27_3 X W B]
  iapply Hk
  iexact H1

theorem v28_0 (X : S50x1024x128.Idx → Elt F .f32) (W : FVec F S192x512 .bf16) (B : FVec F S1x512 .f32) :
    k2_pay136 (cAt X W B 36) (gAt X W B 36) (sg (sl0 (gAt X W B 36))) (tanh (sl1 (gAt X W B 36)))
      = (cAt X W B 37) := rfl

theorem v28_1 (X : S50x1024x128.Idx → Elt F .f32) (W : FVec F S192x512 .bf16) (B : FVec F S1x512 .f32) :
    k2_pay138 W B (cAt X W B 36) (gAt X W B 36) (sg (sl0 (gAt X W B 36))) (tanh (sl1 (gAt X W B 36))) (slab X 37)
      = (sg (sl0 (gAt X W B 37))) := rfl

theorem v28_2 (X : S50x1024x128.Idx → Elt F .f32) (W : FVec F S192x512 .bf16) (B : FVec F S1x512 .f32) :
    k2_pay139 W B (cAt X W B 36) (gAt X W B 36) (sg (sl0 (gAt X W B 36))) (tanh (sl1 (gAt X W B 36))) (slab X 37)
      = (sg (sl1 (gAt X W B 37))) := rfl

theorem v28_3 (X : S50x1024x128.Idx → Elt F .f32) (W : FVec F S192x512 .bf16) (B : FVec F S1x512 .f32) :
    k2_pay140 W B (cAt X W B 36) (gAt X W B 36) (sg (sl0 (gAt X W B 36))) (tanh (sl1 (gAt X W B 36))) (slab X 37)
      = (tanh (sl2 (gAt X W B 37))) := rfl

theorem v28_4 (X : S50x1024x128.Idx → Elt F .f32) (W : FVec F S192x512 .bf16) (B : FVec F S1x512 .f32) :
    k2_pay141 W B (cAt X W B 36) (gAt X W B 36) (sg (sl0 (gAt X W B 36))) (tanh (sl1 (gAt X W B 36))) (slab X 37)
      = (sg (sl3 (gAt X W B 37))) := rfl

theorem part28_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 37), (sg (sl0 (gAt X W B 37))), (sg (sl1 (gAt X W B 37))), (tanh (sl2 (gAt X W B 37))), (sg (sl3 (gAt X W B 37)))⟩))
      ⊢ wp frame (wpE (defs₀ (F := F)) 𝒱₀ c none) E (k2_part28 i A1 h1 A2 h2 A3 h3 A4 h4 A5 h5 A6 h6 W B (cAt X W B 36) (gAt X W B 36) (sg (sl0 (gAt X W B 36))) (tanh (sl1 (gAt X W B 36)))) Q := by
  rw [k2_part28_eq_skeleton]; unfold k2_part28_skel
  iintro ⟨H1, Hk⟩
  rw [wp_bind]; iapply (wp_slab (F := F) c A1 X 37 _ _ E _); isplitl [H1]; · iexact H1
  iintro H1
  sl_step
  rw [v28_0 X W B, v28_1 X W B, v28_2 X W B, v28_3 X W B, v28_4 X W B]
  iapply Hk
  iexact H1

theorem v29_0 (X : S50x1024x128.Idx → Elt F .f32) (W : FVec F S192x512 .bf16) (B : FVec F S1x512 .f32) :
    k2_pay144 W B (cAt X W B 37) (sg (sl0 (gAt X W B 37))) (sg (sl1 (gAt X W B 37))) (tanh (sl2 (gAt X W B 37))) (sg (sl3 (gAt X W B 37))) (slab X 38)
      = (cAt X W B 39) := rfl

theorem v29_1 (X : S50x1024x128.Idx → Elt F .f32) (W : FVec F S192x512 .bf16) (B : FVec F S1x512 .f32) :
    k2_pay145 W B (cAt X W B 37) (sg (sl0 (gAt X W B 37))) (sg (sl1 (gAt X W B 37))) (tanh (sl2 (gAt X W B 37))) (sg (sl3 (gAt X W B 37))) (slab X 38) (slab X 39)
      = (pre W (slab X 39) (hAt X W B 39)) := rfl

theorem part29_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 39), (pre W (slab X 39) (hAt X W B 39))⟩))
      ⊢ wp frame (wpE (defs₀ (F := F)) 𝒱₀ c none) E (k2_part29 i A1 h1 A2 h2 A3 h3 A4 h4 A5 h5 A6 h6 W B (cAt X W B 37) (sg (sl0 (gAt X W B 37))) (sg (sl1 (gAt X W B 37))) (tanh (sl2 (gAt X W B 37))) (sg (sl3 (gAt X W B 37)))) Q := by
  rw [k2_part29_eq_skeleton]; unfold k2_part29_skel
  iintro ⟨H1, Hk⟩
  rw [wp_bind]; iapply (wp_slab (F := F) c A1 X 38 _ _ E _); isplitl [H1]; · iexact H1
  iintro H1
  rw [wp_bind]; iapply (wp_slab (F := F) c A1 X 39 _ _ E _); isplitl [H1]; · iexact H1
  iintro H1
  sl_step
  rw [v29_0 X W B, v29_1 X W B]
  iapply Hk
  iexact H1

theorem v30_0 (X : S50x1024x128.Idx → Elt F .f32) (W : FVec F S192x512 .bf16) (B : FVec F S1x512 .f32) :
    k2_pay147 B (cAt X W B 39) (pre W (slab X 39) (hAt X W B 39))
      = (cAt X W B 40) := rfl

theorem v30_1 (X : S50x1024x128.Idx → Elt F .f32) (W : FVec F S192x512 .bf16) (B : FVec F S1x512 .f32) :
    k2_pay148 W B (cAt X W B 39) (pre W (slab X 39) (hAt X W B 39)) (slab X 40)
      = (gAt X W B 40) := rfl

theorem v30_2 (X : S50x1024x128.Idx → Elt F .f32) (W : FVec F S192x512 .bf16) (B : FVec F S1x512 .f32) :
    k2_pay149 W B (cAt X W B 39) (pre W (slab X 39) (hAt X W B 39)) (slab X 40)
      = (sg (sl0 (gAt X W B 40))) := rfl

theorem v30_3 (X : S50x1024x128.Idx → Elt F .f32) (W : FVec F S192x512 .bf16) (B : FVec F S1x512 .f32) :
    k2_pay150 W B (cAt X W B 39) (pre W (slab X 39) (hAt X W B 39)) (slab X 40)
      = (mulf half (tanh (sl1 (gAt X W B 40)))) := rfl

theorem part30_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 40), (gAt X W B 40), (sg (sl0 (gAt X W B 40))), (mulf half (tanh (sl1 (gAt X W B 40)))), (Scalar.ofBits .f32 0x3F000000#32 : F .f32)⟩))
      ⊢ wp frame (wpE (defs₀ (F := F)) 𝒱₀ c none) E (k2_part30 i A1 h1 A2 h2 A3 h3 A4 h4 A5 h5 A6 h6 W B (cAt X W B 39) (pre W (slab X 39) (hAt X W B 39))) Q := by
  rw [k2_part30_eq_skeleton]; unfold k2_part30_skel
  iintro ⟨H1, Hk⟩
  rw [wp_bind]; iapply (wp_slab (F := F) c A1 X 40 _ _ E _); isplitl [H1]; · iexact H1
  iintro H1
  dsimp only
  sl_step
  rw [v30_0 X W B, v30_1 X W B, v30_2 X W B, v30_3 X W B]
  iapply Hk
  iexact H1

theorem v31_0 (X : S50x1024x128.Idx → Elt F .f32) (W : FVec F S192x512 .bf16) (B : FVec F S1x512 .f32) :
    k2_pay153 W B (cAt X W B 40) (gAt X W B 40) (sg (sl0 (gAt X W B 40))) (mulf half (tanh (sl1 (gAt X W B 40)))) (Scalar.ofBits .f32 0x3F000000#32 : F .f32) (slab X 41)
      = (sg (sl3 (gAt X W B 41))) := rfl

theorem v31_1 (X : S50x1024x128.Idx → Elt F .f32) (W : FVec F S192x512 .bf16) (B : FVec F S1x512 .f32) :
    k2_pay154 W B (cAt X W B 40) (gAt X W B 40) (sg (sl0 (gAt X W B 40))) (mulf half (tanh (sl1 (gAt X W B 40)))) (Scalar.ofBits .f32 0x3F000000#32 : F .f32) (slab X 41)
      = (cAt X W B 42) := rfl

theorem v31_2 (X : S50x1024x128.Idx → Elt F .f32) (W : FVec F S192x512 .bf16) (B : FVec F S1x512 .f32) :
    k2_pay155 W B (cAt X W B 40) (gAt X W B 40) (sg (sl0 (gAt X W B 40))) (mulf half (tanh (sl1 (gAt X W B 40)))) (Scalar.ofBits .f32 0x3F000000#32 : F .f32) (slab X 41)
      = (tanh (cAt X W B 42)) := rfl

theorem part31_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(sg (sl3 (gAt X W B 41))), (cAt X W B 42), (tanh (cAt X W B 42))⟩))
      ⊢ wp frame (wpE (defs₀ (F := F)) 𝒱₀ c none) E (k2_part31 i A1 h1 A2 h2 A3 h3 A4 h4 A5 h5 A6 h6 W B (cAt X W B 40) (gAt X W B 40) (sg (sl0 (gAt X W B 40))) (mulf half (tanh (sl1 (gAt X W B 40)))) (Scalar.ofBits .f32 0x3F000000#32 : F .f32)) Q := by
  rw [k2_part31_eq_skeleton]; unfold k2_part31_skel
  iintro ⟨H1, Hk⟩
  rw [wp_bind]; iapply (wp_slab (F := F) c A1 X 41 _ _ E _); isplitl [H1]; · iexact H1
  iintro H1
  sl_step
  rw [v31_0 X W B, v31_1 X W B, v31_2 X W B]
  iapply Hk
  iexact H1

theorem v32_0 (X : S50x1024x128.Idx → Elt F .f32) (W : FVec F S192x512 .bf16) (B : FVec F S1x512 .f32) :
    k2_pay157 W B (sg (sl3 (gAt X W B 41))) (cAt X W B 42) (tanh (cAt X W B 42)) (slab X 42)
      = (cAt X W B 43) := rfl

theorem v32_1 (X : S50x1024x128.Idx → Elt F .f32) (W : FVec F S192x512 .bf16) (B : FVec F S1x512 .f32) :
    k2_pay158 W B (sg (sl3 (gAt X W B 41))) (cAt X W B 42) (tanh (cAt X W B 42)) (slab X 42) (slab X 43)
      = (gAt X W B 43) := rfl

theorem v32_2 (X : S50x1024x128.Idx → Elt F .f32) (W : FVec F S192x512 .bf16) (B : FVec F S1x512 .f32) :
    k2_pay159 W B (sg (sl3 (gAt X W B 41))) (cAt X W B 42) (tanh (cAt X W B 42)) (slab X 42) (slab X 43)
      = (tanh (sl0 (gAt X W B 43))) := rfl

theorem part32_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 43), (gAt X W B 43), (tanh (sl0 (gAt X W B 43)))⟩))
      ⊢ wp frame (wpE (defs₀ (F := F)) 𝒱₀ c none) E (k2_part32 i A1 h1 A2 h2 A3 h3 A4 h4 A5 h5 A6 h6 W B (sg (sl3 (gAt X W B 41))) (cAt X W B 42) (tanh (cAt X W B 42))) Q := by
  rw [k2_part32_eq_skeleton]; unfold k2_part32_skel
  iintro ⟨H1, Hk⟩
  rw [wp_bind]; iapply (wp_slab (F := F) c A1 X 42 _ _ E _); isplitl [H1]; · iexact H1
  iintro H1
  rw [wp_bind]; iapply (wp_slab (F := F) c A1 X 43 _ _ E _); isplitl [H1]; · iexact H1
  iintro H1
  sl_step
  rw [v32_0 X W B, v32_1 X W B, v32_2 X W B]
  iapply Hk
  iexact H1

theorem v33_0 (X : S50x1024x128.Idx → Elt F .f32) (W : FVec F S192x512 .bf16) (B : FVec F S1x512 .f32) :
    k2_pay160 (cAt X W B 43) (gAt X W B 43) (tanh (sl0 (gAt X W B 43)))
      = (cAt X W B 44) := rfl

theorem v33_1 (X : S50x1024x128.Idx → Elt F .f32) (W : FVec F S192x512 .bf16) (B : FVec F S1x512 .f32) :
    k2_pay161 W B (cAt X W B 43) (gAt X W B 43) (tanh (sl0 (gAt X W B 43))) (slab X 44)
      = (gAt X W B 44) := rfl

theorem v33_2 (X : S50x1024x128.Idx → Elt F .f32) (W : FVec F S192x512 .bf16) (B : FVec F S1x512 .f32) :
    k2_pay162 W B (cAt X W B 43) (gAt X W B 43) (tanh (sl0 (gAt X W B 43))) (slab X 44)
      = (sg (sl0 (gAt X W B 44))) := rfl

theorem v33_3 (X : S50x1024x128.Idx → Elt F .f32) (W : FVec F S192x512 .bf16) (B : FVec F S1x512 .f32) :
    k2_pay163 W B (cAt X W B 43) (gAt X W B 43) (tanh (sl0 (gAt X W B 43))) (slab X 44)
      = (sg (sl1 (gAt X W B 44))) := rfl

theorem v33_4 (X : S50x1024x128.Idx → Elt F .f32) (W : FVec F S192x512 .bf16) (B : FVec F S1x512 .f32) :
    k2_pay164 W B (cAt X W B 43) (gAt X W B 43) (tanh (sl0 (gAt X W B 43))) (slab X 44)
      = (tanh (sl2 (gAt X W B 44))) := rfl

theorem part33_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 44), (gAt X W B 44), (sg (sl0 (gAt X W B 44))), (sg (sl1 (gAt X W B 44))), (tanh (sl2 (gAt X W B 44)))⟩))
      ⊢ wp frame (wpE (defs₀ (F := F)) 𝒱₀ c none) E (k2_part33 i A1 h1 A2 h2 A3 h3 A4 h4 A5 h5 A6 h6 W B (cAt X W B 43) (gAt X W B 43) (tanh (sl0 (gAt X W B 43)))) Q := by
  rw [k2_part33_eq_skeleton]; unfold k2_part33_skel
  iintro ⟨H1, Hk⟩
  rw [wp_bind]; iapply (wp_slab (F := F) c A1 X 44 _ _ E _); isplitl [H1]; · iexact H1
  iintro H1
  sl_step
  rw [v33_0 X W B, v33_1 X W B, v33_2 X W B, v33_3 X W B, v33_4 X W B]
  iapply Hk
  iexact H1

theorem v34_0 (X : S50x1024x128.Idx → Elt F .f32) (W : FVec F S192x512 .bf16) (B : FVec F S1x512 .f32) :
    k2_pay167 W B (cAt X W B 44) (gAt X W B 44) (sg (sl0 (gAt X W B 44))) (sg (sl1 (gAt X W B 44))) (tanh (sl2 (gAt X W B 44))) (slab X 45)
      = (cAt X W B 46) := rfl

theorem v34_1 (X : S50x1024x128.Idx → Elt F .f32) (W : FVec F S192x512 .bf16) (B : FVec F S1x512 .f32) :
    k2_pay168 W B (cAt X W B 44) (gAt X W B 44) (sg (sl0 (gAt X W B 44))) (sg (sl1 (gAt X W B 44))) (tanh (sl2 (gAt X W B 44))) (slab X 45)
      = (hAt X W B 46) := rfl

theorem part34_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 46), (hAt X W B 46)⟩))
      ⊢ wp frame (wpE (defs₀ (F := F)) 𝒱₀ c none) E (k2_part34 i A1 h1 A2 h2 A3 h3 A4 h4 A5 h5 A6 h6 W B (cAt X W B 44) (gAt X W B 44) (sg (sl0 (gAt X W B 44))) (sg (sl1 (gAt X W B 44))) (tanh (sl2 (gAt X W B 44)))) Q := by
  rw [k2_part34_eq_skeleton]; unfold k2_part34_skel
  iintro ⟨H1, Hk⟩
  rw [wp_bind]; iapply (wp_slab (F := F) c A1 X 45 _ _ E _); isplitl [H1]; · iexact H1
  iintro H1
  sl_step
  rw [v34_0 X W B, v34_1 X W B]
  iapply Hk
  iexact H1

theorem v35_0 (X : S50x1024x128.Idx → Elt F .f32) (W : FVec F S192x512 .bf16) (B : FVec F S1x512 .f32) :
    k2_pay170 W B (cAt X W B 46) (hAt X W B 46) (slab X 46)
      = (cAt X W B 47) := rfl

theorem v35_1 (X : S50x1024x128.Idx → Elt F .f32) (W : FVec F S192x512 .bf16) (B : FVec F S1x512 .f32) :
    k2_pay171 W B (cAt X W B 46) (hAt X W B 46) (slab X 46) (slab X 47)
      = (gAt X W B 47) := rfl

theorem v35_2 (X : S50x1024x128.Idx → Elt F .f32) (W : FVec F S192x512 .bf16) (B : FVec F S1x512 .f32) :
    k2_pay172 W B (cAt X W B 46) (hAt X W B 46) (slab X 46) (slab X 47)
      = (mulf half (tanh (sl0 (gAt X W B 47)))) := rfl

theorem part35_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 47), (gAt X W B 47), (mulf half (tanh (sl0 (gAt X W B 47)))), (Scalar.ofBits .f32 0x3F000000#32 : F .f32)⟩))
      ⊢ wp frame (wpE (defs₀ (F := F)) 𝒱₀ c none) E (k2_part35 i A1 h1 A2 h2 A3 h3 A4 h4 A5 h5 A6 h6 W B (cAt X W B 46) (hAt X W B 46)) Q := by
  rw [k2_part35_eq_skeleton]; unfold k2_part35_skel
  iintro ⟨H1, Hk⟩
  rw [wp_bind]; iapply (wp_slab (F := F) c A1 X 46 _ _ E _); isplitl [H1]; · iexact H1
  iintro H1
  rw [wp_bind]; iapply (wp_slab (F := F) c A1 X 47 _ _ E _); isplitl [H1]; · iexact H1
  iintro H1
  dsimp only
  sl_step
  rw [v35_0 X W B, v35_1 X W B, v35_2 X W B]
  iapply Hk
  iexact H1

theorem v36_0 (X : S50x1024x128.Idx → Elt F .f32) (W : FVec F S192x512 .bf16) (B : FVec F S1x512 .f32) :
    k2_pay173 (cAt X W B 47) (gAt X W B 47) (mulf half (tanh (sl0 (gAt X W B 47)))) (Scalar.ofBits .f32 0x3F000000#32 : F .f32)
      = (cAt X W B 48) := rfl

theorem v36_1 (X : S50x1024x128.Idx → Elt F .f32) (W : FVec F S192x512 .bf16) (B : FVec F S1x512 .f32) :
    k2_pay175 W B (cAt X W B 47) (gAt X W B 47) (mulf half (tanh (sl0 (gAt X W B 47)))) (Scalar.ofBits .f32 0x3F000000#32 : F .f32) (slab X 48)
      = (sg (sl0 (gAt X W B 48))) := rfl

theorem v36_2 (X : S50x1024x128.Idx → Elt F .f32) (W : FVec F S192x512 .bf16) (B : FVec F S1x512 .f32) :
    k2_pay176 W B (cAt X W B 47) (gAt X W B 47) (mulf half (tanh (sl0 (gAt X W B 47)))) (Scalar.ofBits .f32 0x3F000000#32 : F .f32) (slab X 48)
      = (sg (sl1 (gAt X W B 48))) := rfl

theorem v36_3 (X : S50x1024x128.Idx → Elt F .f32) (W : FVec F S192x512 .bf16) (B : FVec F S1x512 .f32) :
    k2_pay177 W B (cAt X W B 47) (gAt X W B 47) (mulf half (tanh (sl0 (gAt X W B 47)))) (Scalar.ofBits .f32 0x3F000000#32 : F .f32) (slab X 48)
      = (tanh (sl2 (gAt X W B 48))) := rfl

theorem v36_4 (X : S50x1024x128.Idx → Elt F .f32) (W : FVec F S192x512 .bf16) (B : FVec F S1x512 .f32) :
    k2_pay178 W B (cAt X W B 47) (gAt X W B 47) (mulf half (tanh (sl0 (gAt X W B 47)))) (Scalar.ofBits .f32 0x3F000000#32 : F .f32) (slab X 48)
      = (tanh (sl3 (gAt X W B 48))) := rfl

theorem v36_5 (X : S50x1024x128.Idx → Elt F .f32) (W : FVec F S192x512 .bf16) (B : FVec F S1x512 .f32) :
    k2_pay179 (F := F)
      = half := rfl

theorem part36_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (E : Set ℕ) (Q : _ → sProp 𝕄) :
    iprop(owns (c : Thread nD τ) A1 fullShare X ∗ (iprop(owns (c : Thread nD τ) A1 fullShare X) -∗ Q ⟨(cAt X W B 48), (sg (sl0 (gAt X W B 48))), (sg (sl1 (gAt X W B 48))), (tanh (sl2 (gAt X W B 48))), (tanh (sl3 (gAt X W B 48))), half⟩))
      ⊢ wp frame (wpE (defs₀ (F := F)) 𝒱₀ c none) E (k2_part36 i A1 h1 A2 h2 A3 h3 A4 h4 A5 h5 A6 h6 W B (cAt X W B 47) (gAt X W B 47) (mulf half (tanh (sl0 (gAt X W B 47)))) (Scalar.ofBits .f32 0x3F000000#32 : F .f32)) Q := by
  rw [k2_part36_eq_skeleton]; unfold k2_part36_skel
  iintro ⟨H1, Hk⟩
  rw [wp_bind]; iapply (wp_slab (F := F) c A1 X 48 _ _ E _); isplitl [H1]; · iexact H1
  iintro H1
  sl_step
  rw [v36_0 X W B, v36_1 X W B, v36_2 X W B, v36_3 X W B, v36_4 X W B, v36_5 X W B]
  iapply Hk
  iexact H1

theorem v37_0 (X : S50x1024x128.Idx → Elt F .f32) (W : FVec F S192x512 .bf16) (B : FVec F S1x512 .f32) (P : Vec F S128x128 .f32) :
    k2_pay180 W B (cAt X W B 48) (sg (sl0 (gAt X W B 48))) (sg (sl1 (gAt X W B 48))) (tanh (sl2 (gAt X W B 48))) (tanh (sl3 (gAt X W B 48))) half (slab X 49) P
      = (logits P (hAt X W B 50)) := rfl

theorem part37_wp (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W : FVec F S192x512 .bf16) (B : FVec F S1x512 .f32) (P : Vec F S128x128 .f32) (E : Set ℕ) (Q : _ → sProp 𝕄) :
    iprop(owns (c : Thread nD τ) A1 fullShare X ∗ owns (c : Thread nD τ) A4 fullShare P ∗ (iprop(owns (c : Thread nD τ) A1 fullShare X ∗ owns (c : Thread nD τ) A4 fullShare P) -∗ Q (logits P (hAt X W B 50))))
      ⊢ wp frame (wpE (defs₀ (F := F)) 𝒱₀ c none) E (k2_part37 i A1 h1 A2 h2 A3 h3 A4 h4 A5 h5 A6 h6 W B (cAt X W B 48) (sg (sl0 (gAt X W B 48))) (sg (sl1 (gAt X W B 48))) (tanh (sl2 (gAt X W B 48))) (tanh (sl3 (gAt X W B 48))) half) Q := by
  rw [k2_part37_eq_skeleton]; unfold k2_part37_skel
  iintro ⟨H1, H4, Hk⟩
  rw [wp_bind]; iapply (wp_slab (F := F) c A1 X 49 _ _ E _); isplitl [H1]; · iexact H1
  iintro H1
  rw [wp_bind]; iapply (wp_all (F := F) c A4 P _ _ E _); isplitl [H4]; · iexact H4
  iintro H4
  sl_step
  rw [v37_0 X W B P]
  iapply Hk
  isplitl [H1]; · iexact H1
  iexact H4

/-! ## The whole body -/

/-- The body's end: the bias's load, a load of the result's buffer that nothing reads, the store. -/
theorem tail_wp (c : Dev nD) (A5 : Memref sig .tc .vmem S1x128 .f32) (A6 : Memref sig .tc .vmem S1024x128 .f32) (v : FVec F S1024x128 .f32)
    (b : Vec F S1x128 .f32) (Y : S1024x128.Idx → Elt F .f32) (E : Set ℕ) (Q : PUnit → sProp 𝕄) :
    iprop(owns (c : Thread nD τ) A5 fullShare b ∗ owns (c : Thread nD τ) A6 fullShare Y
        ∗ (iprop(owns (c : Thread nD τ) A5 fullShare b ∗ owns (c : Thread nD τ) A6 fullShare (k2_pay1 v b)) -∗ Q ⟨⟩))
      ⊢ wp frame (wpE (defs₀ (F := F)) 𝒱₀ c none) E (do
          let v1709 : Vec F S1x128 .f32 ← Prog.lift (.load A5 (Rect.unit (s := S1x128) ![0, 0] S1x128.size inb_S1x128_S1x128_0_0).toLoadRect (View.loadsAt_vmem h_S1x128))
          let v1724 : Vec F S1024x128 .f32 ← Prog.lift (.load A6 (Rect.unit (s := S1024x128) ![0, 0] S1024x128.size inb_S1024x128_S1024x128_0_0).toLoadRect (View.loadsAt_vmem h_S1024x128))
          Prog.lift (.store A6 (Rect.unit (s := S1024x128) ![0, 0] S1024x128.size inb_S1024x128_S1024x128_0_0) (k2_pay1 v v1709) Finset.univ (View.stores_vmem_bits_univ h_S1024x128 rfl) (.inl rfl))
          pure ⟨⟩) Q := by
  rw [wp_bind]
  iintro ⟨H5, H6, Hk⟩
  iapply (wp_all (F := F) c A5 b _ _ E _); isplitl [H5]; · iexact H5
  iintro H5
  unfold owns
  icases H6 with ⟨%f, %hf, H6⟩
  sl_exec
  sl_step
  iapply Hk
  isplitl [H5]; · iexact H5
  iexists _; isplitr; swap; · iexact H6
  ipureintro
  funext y
  have h := View.read_writes_cons_emb (Val := Elt F) A6.view f (Rect.unit (s := S1024x128) ![0, 0] S1024x128.size inb_S1024x128_S1024x128_0_0) (k2_pay1 v b) [] y
  rw [← h]
  refine congrArg _ (funext fun a => Fin.ext ?_)
  match a with
  | ⟨0, _⟩ => show (y 0 : ℕ) = 0 + 1 * (y 0 : ℕ); omega
  | ⟨1, _⟩ => show (y 1 : ℕ) = 0 + 1 * (y 1 : ℕ); omega

theorem lstm_run (c : Dev nD) (i : grid2.Coords) (A1 : Memref sig .tc .vmem S50x1024x128 .f32) (h1 : A1.IsWhole) (A2 : Memref sig .tc .vmem S192x512 .bf16) (h2 : A2.IsWhole)
    (A3 : Memref sig .tc .vmem S1x512 .f32) (h3 : A3.IsWhole) (A4 : Memref sig .tc .vmem S128x128 .f32) (h4 : A4.IsWhole) (A5 : Memref sig .tc .vmem S1x128 .f32) (h5 : A5.IsWhole)
    (A6 : Memref sig .tc .vmem S1024x128 .f32) (h6 : A6.IsWhole) (X : S50x1024x128.Idx → Elt F .f32) (W0 : Vec F S192x512 .bf16) (B0 : Vec F S1x512 .f32)
    (P : Vec F S128x128 .f32) (b : Vec F S1x128 .f32) (Y : S1024x128.Idx → Elt F .f32) (E : Set ℕ) (Q : PUnit → sProp 𝕄) :
    iprop(owns (c : Thread nD τ) A1 fullShare X ∗ owns (c : Thread nD τ) A2 fullShare W0 ∗ owns (c : Thread nD τ) A3 fullShare B0 ∗ owns (c : Thread nD τ) A4 fullShare P
        ∗ owns (c : Thread nD τ) A5 fullShare b ∗ owns (c : Thread nD τ) A6 fullShare Y
        ∗ (iprop(owns (c : Thread nD τ) A1 fullShare X ∗ owns (c : Thread nD τ) A2 fullShare W0 ∗ owns (c : Thread nD τ) A3 fullShare B0 ∗ owns (c : Thread nD τ) A4 fullShare P
            ∗ owns (c : Thread nD τ) A5 fullShare b ∗ owns (c : Thread nD τ) A6 fullShare (lstmOut X W0 B0 P b)) -∗ Q ⟨⟩))
      ⊢ wp frame (wpE (defs₀ (F := F)) 𝒱₀ c none) E (cc2__lstm_body i A1 h1 A2 h2 A3 h3 A4 h4 A5 h5 A6 h6) Q := by
  rw [cc2__lstm_body_eq_skeleton]; unfold cc2__lstm_body_skel
  iintro ⟨H1, H2, H3, H4, H5, H6, Hk⟩
  rw [wp_bind]; iapply (part1_wp c i A1 h1 A2 h2 A3 h3 A4 h4 A5 h5 A6 h6 X W0 B0 E _)
  isplitl [H1]; · iexact H1
  isplitl [H2]; · iexact H2
  isplitl [H3]; · iexact H3
  iintro ⟨H1, H2, H3⟩
  rw [wp_bind]; iapply (part2_wp c i A1 h1 A2 h2 A3 h3 A4 h4 A5 h5 A6 h6 X (k2_pay2 W0) (k2_pay3 B0) E _)
  isplitl [H1]; · iexact H1
  iintro H1
  rw [wp_bind]; iapply (part3_wp c i A1 h1 A2 h2 A3 h3 A4 h4 A5 h5 A6 h6 X (k2_pay2 W0) (k2_pay3 B0) E _)
  isplitl [H1]; · iexact H1
  iintro H1
  rw [wp_bind]; iapply (part4_wp c i A1 h1 A2 h2 A3 h3 A4 h4 A5 h5 A6 h6 X (k2_pay2 W0) (k2_pay3 B0) E _)
  isplitl [H1]; · iexact H1
  iintro H1
  rw [wp_bind]; iapply (part5_wp c i A1 h1 A2 h2 A3 h3 A4 h4 A5 h5 A6 h6 X (k2_pay2 W0) (k2_pay3 B0) E _)
  isplitl [H1]; · iexact H1
  iintro H1
  rw [wp_bind]; iapply (part6_wp c i A1 h1 A2 h2 A3 h3 A4 h4 A5 h5 A6 h6 X (k2_pay2 W0) (k2_pay3 B0) E _)
  isplitl [H1]; · iexact H1
  iintro H1
  rw [wp_bind]; iapply (part7_wp c i A1 h1 A2 h2 A3 h3 A4 h4 A5 h5 A6 h6 X (k2_pay2 W0) (k2_pay3 B0) E _)
  isplitl [H1]; · iexact H1
  iintro H1
  rw [wp_bind]; iapply (part8_wp c i A1 h1 A2 h2 A3 h3 A4 h4 A5 h5 A6 h6 X (k2_pay2 W0) (k2_pay3 B0) E _)
  isplitl [H1]; · iexact H1
  iintro H1
  rw [wp_bind]; iapply (part9_wp c i A1 h1 A2 h2 A3 h3 A4 h4 A5 h5 A6 h6 X (k2_pay2 W0) (k2_pay3 B0) E _)
  isplitl [H1]; · iexact H1
  iintro H1
  rw [wp_bind]; iapply (part10_wp c i A1 h1 A2 h2 A3 h3 A4 h4 A5 h5 A6 h6 X (k2_pay2 W0) (k2_pay3 B0) E _)
  isplitl [H1]; · iexact H1
  iintro H1
  rw [wp_bind]; iapply (part11_wp c i A1 h1 A2 h2 A3 h3 A4 h4 A5 h5 A6 h6 X (k2_pay2 W0) (k2_pay3 B0) E _)
  isplitl [H1]; · iexact H1
  iintro H1
  rw [wp_bind]; iapply (part12_wp c i A1 h1 A2 h2 A3 h3 A4 h4 A5 h5 A6 h6 X (k2_pay2 W0) (k2_pay3 B0) E _)
  isplitl [H1]; · iexact H1
  iintro H1
  rw [wp_bind]; iapply (part13_wp c i A1 h1 A2 h2 A3 h3 A4 h4 A5 h5 A6 h6 X (k2_pay2 W0) (k2_pay3 B0) E _)
  isplitl [H1]; · iexact H1
  iintro H1
  rw [wp_bind]; iapply (part14_wp c i A1 h1 A2 h2 A3 h3 A4 h4 A5 h5 A6 h6 X (k2_pay2 W0) (k2_pay3 B0) E _)
  isplitl [H1]; · iexact H1
  iintro H1
  rw [wp_bind]; iapply (part15_wp c i A1 h1 A2 h2 A3 h3 A4 h4 A5 h5 A6 h6 X (k2_pay2 W0) (k2_pay3 B0) E _)
  isplitl [H1]; · iexact H1
  iintro H1
  rw [wp_bind]; iapply (part16_wp c i A1 h1 A2 h2 A3 h3 A4 h4 A5 h5 A6 h6 X (k2_pay2 W0) (k2_pay3 B0) E _)
  isplitl [H1]; · iexact H1
  iintro H1
  rw [wp_bind]; iapply (part17_wp c i A1 h1 A2 h2 A3 h3 A4 h4 A5 h5 A6 h6 X (k2_pay2 W0) (k2_pay3 B0) E _)
  isplitl [H1]; · iexact H1
  iintro H1
  rw [wp_bind]; iapply (part18_wp c i A1 h1 A2 h2 A3 h3 A4 h4 A5 h5 A6 h6 X (k2_pay2 W0) (k2_pay3 B0) E _)
  isplitl [H1]; · iexact H1
  iintro H1
  rw [wp_bind]; iapply (part19_wp c i A1 h1 A2 h2 A3 h3 A4 h4 A5 h5 A6 h6 X (k2_pay2 W0) (k2_pay3 B0) E _)
  isplitl [H1]; · iexact H1
  iintro H1
  rw [wp_bind]; iapply (part20_wp c i A1 h1 A2 h2 A3 h3 A4 h4 A5 h5 A6 h6 X (k2_pay2 W0) (k2_pay3 B0) E _)
  isplitl [H1]; · iexact H1
  iintro H1
  rw [wp_bind]; iapply (part21_wp c i A1 h1 A2 h2 A3 h3 A4 h4 A5 h5 A6 h6 X (k2_pay2 W0) (k2_pay3 B0) E _)
  isplitl [H1]; · iexact H1
  iintro H1
  rw [wp_bind]; iapply (part22_wp c i A1 h1 A2 h2 A3 h3 A4 h4 A5 h5 A6 h6 X (k2_pay2 W0) (k2_pay3 B0) E _)
  isplitl [H1]; · iexact H1
  iintro H1
  rw [wp_bind]; iapply (part23_wp c i A1 h1 A2 h2 A3 h3 A4 h4 A5 h5 A6 h6 X (k2_pay2 W0) (k2_pay3 B0) E _)
  isplitl [H1]; · iexact H1
  iintro H1
  rw [wp_bind]; iapply (part24_wp c i A1 h1 A2 h2 A3 h3 A4 h4 A5 h5 A6 h6 X (k2_pay2 W0) (k2_pay3 B0) E _)
  isplitl [H1]; · iexact H1
  iintro H1
  rw [wp_bind]; iapply (part25_wp c i A1 h1 A2 h2 A3 h3 A4 h4 A5 h5 A6 h6 X (k2_pay2 W0) (k2_pay3 B0) E _)
  isplitl [H1]; · iexact H1
  iintro H1
  rw [wp_bind]; iapply (part26_wp c i A1 h1 A2 h2 A3 h3 A4 h4 A5 h5 A6 h6 X (k2_pay2 W0) (k2_pay3 B0) E _)
  isplitl [H1]; · iexact H1
  iintro H1
  rw [wp_bind]; iapply (part27_wp c i A1 h1 A2 h2 A3 h3 A4 h4 A5 h5 A6 h6 X (k2_pay2 W0) (k2_pay3 B0) E _)
  isplitl [H1]; · iexact H1
  iintro H1
  rw [wp_bind]; iapply (part28_wp c i A1 h1 A2 h2 A3 h3 A4 h4 A5 h5 A6 h6 X (k2_pay2 W0) (k2_pay3 B0) E _)
  isplitl [H1]; · iexact H1
  iintro H1
  rw [wp_bind]; iapply (part29_wp c i A1 h1 A2 h2 A3 h3 A4 h4 A5 h5 A6 h6 X (k2_pay2 W0) (k2_pay3 B0) E _)
  isplitl [H1]; · iexact H1
  iintro H1
  rw [wp_bind]; iapply (part30_wp c i A1 h1 A2 h2 A3 h3 A4 h4 A5 h5 A6 h6 X (k2_pay2 W0) (k2_pay3 B0) E _)
  isplitl [H1]; · iexact H1
  iintro H1
  rw [wp_bind]; iapply (part31_wp c i A1 h1 A2 h2 A3 h3 A4 h4 A5 h5 A6 h6 X (k2_pay2 W0) (k2_pay3 B0) E _)
  isplitl [H1]; · iexact H1
  iintro H1
  rw [wp_bind]; iapply (part32_wp c i A1 h1 A2 h2 A3 h3 A4 h4 A5 h5 A6 h6 X (k2_pay2 W0) (k2_pay3 B0) E _)
  isplitl [H1]; · iexact H1
  iintro H1
  rw [wp_bind]; iapply (part33_wp c i A1 h1 A2 h2 A3 h3 A4 h4 A5 h5 A6 h6 X (k2_pay2 W0) (k2_pay3 B0) E _)
  isplitl [H1]; · iexact H1
  iintro H1
  rw [wp_bind]; iapply (part34_wp c i A1 h1 A2 h2 A3 h3 A4 h4 A5 h5 A6 h6 X (k2_pay2 W0) (k2_pay3 B0) E _)
  isplitl [H1]; · iexact H1
  iintro H1
  rw [wp_bind]; iapply (part35_wp c i A1 h1 A2 h2 A3 h3 A4 h4 A5 h5 A6 h6 X (k2_pay2 W0) (k2_pay3 B0) E _)
  isplitl [H1]; · iexact H1
  iintro H1
  rw [wp_bind]; iapply (part36_wp c i A1 h1 A2 h2 A3 h3 A4 h4 A5 h5 A6 h6 X (k2_pay2 W0) (k2_pay3 B0) E _)
  isplitl [H1]; · iexact H1
  iintro H1
  rw [wp_bind]; iapply (part37_wp c i A1 h1 A2 h2 A3 h3 A4 h4 A5 h5 A6 h6 X (k2_pay2 W0) (k2_pay3 B0) P E _)
  isplitl [H1]; · iexact H1
  isplitl [H4]; · iexact H4
  iintro ⟨H1, H4⟩
  iapply (tail_wp (F := F) c A5 A6 (logits P (hAt X (k2_pay2 W0) (k2_pay3 B0) 50)) b Y E _)
  isplitl [H5]; · iexact H5
  isplitl [H6]; · iexact H6
  iintro ⟨H5, H6⟩
  iapply Hk
  isplitl [H1]; · iexact H1
  isplitl [H2]; · iexact H2
  isplitl [H3]; · iexact H3
  isplitl [H4]; · iexact H4
  isplitl [H5]; · iexact H5
  iexact H6

end Cert.Proof.Lookup

end
-- ==== Proof.Blocks.lean ====
/-
  THE SECOND TENSORCORE CALL AS A PIPELINE of four points: point `t` reads rows `1024 t …` of every step's gathered rows,
  and the four parameter arrays whole, and writes rows `1024 t …` of the result. The result's contents in closed form
  (`lstmAll`), the body obligation from the body's run, and the region.
-/
module

public import proofs.«01_k».proof.Proof.Widen
public import proofs.«01_k».proof.Proof.Lstm
public import Idealize.ShloMosaic.Lib.Pipeline.FrameBody

@[expose] public section

noncomputable section

namespace Cert.Proof.Lookup

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Idealize.ShloMosaic.ValueIdx (ix1 ix2 ix3)

variable {F : FTy → Type} [FloatOps F]

local notation "𝕄" => MM F

/-! ## The call's arrays and its result -/

/-- The gathered rows step by step, the two layers' weights one above the other, their bias, the head's weights and the
    head's bias, as the call finds them. -/
structure In2 (F : FTy → Type) where
  X : S50x4096x128.Idx → Elt F .f32
  W : S192x512.Idx → Elt F .bf16
  B : S1x512.Idx → Elt F .f32
  P : S128x128.Idx → Elt F .f32
  M : S1x128.Idx → Elt F .f32

/-- Block `t` of the gathered rows. -/
def blkX (X : S50x4096x128.Idx → Elt F .f32) (t : ℕ) : S50x1024x128.Idx → Elt F .f32 :=
  fun j => X (ix3 (j 0) (⟨t % 4 * 1024 + (j 1 : ℕ), by have := (j 1).isLt; have : (j 1 : ℕ) < 1024 := this; omega⟩ : Fin 4096) (j 2))

/-- What the call leaves in its result. -/
def lstmAll (a : In2 F) : S4096x128.Idx → Elt F .f32 := fun x =>
  lstmOut (blkX a.X ((x 0 : ℕ) / 1024)) a.W a.B a.P a.M (ix2 (⟨(x 0 : ℕ) % 1024, Nat.mod_lt _ (by decide)⟩ : Fin 1024) (x 1))

/-! ## The data of the pipeline -/

abbrev outT (c : Dev nD) : Type := Buf (Elt F) ((c : Thread nD τ).loc main_v25)

def Rl2 (a : In2 F) : (w : Fin cfg2.W) → Fin cfg2.N → ((cfg2.win w).block.Idx → Elt F (cfg2.win w).elt) → Prop := fun w t Y => match w with
  | ⟨0, _⟩ => True
  | ⟨1, _⟩ => True
  | ⟨2, _⟩ => True
  | ⟨3, _⟩ => True
  | ⟨4, _⟩ => True
  | ⟨5, _⟩ => Y = lstmOut (F := F) (blkX a.X t.val) a.W a.B a.P a.M

def dat2 (c : Dev nD) (a : In2 F) (O : outT (F := F) c) (n : ℕ) : Dat τ (Elt F) (HIx 1) ℕ UU ℕ cfg2 c where
  A w := match w with
    | ⟨0, _⟩ => a.X
    | ⟨1, _⟩ => a.W
    | ⟨2, _⟩ => a.B
    | ⟨3, _⟩ => a.P
    | ⟨4, _⟩ => a.M
    | ⟨5, _⟩ => O
  after w t := match w with
    | ⟨0, _⟩ => blkX a.X t.val
    | ⟨1, _⟩ => a.W
    | ⟨2, _⟩ => a.B
    | ⟨3, _⟩ => a.P
    | ⟨4, _⟩ => a.M
    | ⟨5, _⟩ => fun _ => Classical.arbitrary _
  Φ _ := Pipeline.scopedRest (Ix := HIx 1) (Name := ℕ) (U := UU) (Lvl := ℕ) (Val := Elt F) spec2 c
  q _ := fullShare
  owed _ := (K (F := F)).Otc c n
  recorded _ := recB (F := F) c n

/-- The result alone is held to a predicate. -/
def fgt2 : Fin cfg2.W → Bool := fun w => match w with
  | ⟨0, _⟩ => false
  | ⟨1, _⟩ => false
  | ⟨2, _⟩ => false
  | ⟨3, _⟩ => false
  | ⟨4, _⟩ => false
  | ⟨5, _⟩ => true

abbrev rdat2 (c : Dev nD) (a : In2 F) (O : outT (F := F) c) (n : ℕ) : RDat τ (Elt F) (HIx 1) ℕ UU ℕ cfg2 c :=
  (dat2 c a O n).toRRel fgt2 (Rl2 a)

/-! ## Where the blocks lie -/

theorem index2_0 (t : Fin cfg2.N) : win2_0.index t 0 = 0 ∧ win2_0.index t 1 = t.val ∧ win2_0.index t 2 = 0 := by
  revert t; decide +kernel
theorem index2_1 (t : Fin cfg2.N) : win2_1.index t 0 = 0 ∧ win2_1.index t 1 = 0 := by
  revert t; decide +kernel
theorem index2_2 (t : Fin cfg2.N) : win2_2.index t 0 = 0 ∧ win2_2.index t 1 = 0 := by
  revert t; decide +kernel
theorem index2_3 (t : Fin cfg2.N) : win2_3.index t 0 = 0 ∧ win2_3.index t 1 = 0 := by
  revert t; decide +kernel
theorem index2_4 (t : Fin cfg2.N) : win2_4.index t 0 = 0 ∧ win2_4.index t 1 = 0 := by
  revert t; decide +kernel
theorem index2_5 (t : Fin cfg2.N) : win2_5.index t 0 = t.val ∧ win2_5.index t 1 = 0 := by
  revert t; decide +kernel

theorem lt4 (t : Fin cfg2.N) : t.val < 4 := by have h := t.isLt; have e : cfg2.N = 4 := N_2; omega

/-! ### What the body finds -/

theorem block2_0 (c : Dev nD) (a : In2 F) (O : outT (F := F) c) (n : ℕ) (t : Fin cfg2.N) :
    (dat2 c a O n).blockOf (0 : Fin 6) t = blkX a.X t.val := by
  obtain ⟨i0, i1, i2⟩ := index2_0 t
  have h4 := lt4 t
  funext j
  show a.X ((win2_0.blk t).view.emb j) = _
  refine congrArg a.X (funext fun x => Fin.ext ?_)
  match x with
  | ⟨0, _⟩ => show win2_0.index t 0 * 50 + 1 * (j 0 : ℕ) = (j 0 : ℕ); rw [i0]; omega
  | ⟨1, _⟩ => show win2_0.index t 1 * 1024 + 1 * (j 1 : ℕ) = t.val % 4 * 1024 + (j 1 : ℕ); rw [i1, Nat.mod_eq_of_lt h4]; omega
  | ⟨2, _⟩ => show win2_0.index t 2 * 128 + 1 * (j 2 : ℕ) = (j 2 : ℕ); rw [i2]; omega

theorem block2_1 (c : Dev nD) (a : In2 F) (O : outT (F := F) c) (n : ℕ) (t : Fin cfg2.N) : (dat2 c a O n).blockOf (1 : Fin 6) t = a.W := by
  obtain ⟨i0, i1⟩ := index2_1 t
  funext j
  show a.W ((win2_1.blk t).view.emb j) = _
  refine congrArg a.W (funext fun x => Fin.ext ?_)
  match x with
  | ⟨0, _⟩ => show win2_1.index t 0 * 192 + 1 * (j 0 : ℕ) = (j 0 : ℕ); rw [i0]; omega
  | ⟨1, _⟩ => show win2_1.index t 1 * 512 + 1 * (j 1 : ℕ) = (j 1 : ℕ); rw [i1]; omega

theorem block2_2 (c : Dev nD) (a : In2 F) (O : outT (F := F) c) (n : ℕ) (t : Fin cfg2.N) : (dat2 c a O n).blockOf (2 : Fin 6) t = a.B := by
  obtain ⟨i0, i1⟩ := index2_2 t
  funext j
  show a.B ((win2_2.blk t).view.emb j) = _
  refine congrArg a.B (funext fun x => Fin.ext ?_)
  match x with
  | ⟨0, _⟩ => show win2_2.index t 0 * 1 + 1 * (j 0 : ℕ) = (j 0 : ℕ); rw [i0]; omega
  | ⟨1, _⟩ => show win2_2.index t 1 * 512 + 1 * (j 1 : ℕ) = (j 1 : ℕ); rw [i1]; omega

theorem block2_3 (c : Dev nD) (a : In2 F) (O : outT (F := F) c) (n : ℕ) (t : Fin cfg2.N) : (dat2 c a O n).blockOf (3 : Fin 6) t = a.P := by
  obtain ⟨i0, i1⟩ := index2_3 t
  funext j
  show a.P ((win2_3.blk t).view.emb j) = _
  refine congrArg a.P (funext fun x => Fin.ext ?_)
  match x with
  | ⟨0, _⟩ => show win2_3.index t 0 * 128 + 1 * (j 0 : ℕ) = (j 0 : ℕ); rw [i0]; omega
  | ⟨1, _⟩ => show win2_3.index t 1 * 128 + 1 * (j 1 : ℕ) = (j 1 : ℕ); rw [i1]; omega

theorem block2_4 (c : Dev nD) (a : In2 F) (O : outT (F := F) c) (n : ℕ) (t : Fin cfg2.N) : (dat2 c a O n).blockOf (4 : Fin 6) t = a.M := by
  obtain ⟨i0, i1⟩ := index2_4 t
  funext j
  show a.M ((win2_4.blk t).view.emb j) = _
  refine congrArg a.M (funext fun x => Fin.ext ?_)
  match x with
  | ⟨0, _⟩ => show win2_4.index t 0 * 1 + 1 * (j 0 : ℕ) = (j 0 : ℕ); rw [i0]; omega
  | ⟨1, _⟩ => show win2_4.index t 1 * 128 + 1 * (j 1 : ℕ) = (j 1 : ℕ); rw [i1]; omega

theorem before2_0 (c : Dev nD) (a : In2 F) (O : outT (F := F) c) (n : ℕ) (t : Fin cfg2.N) (d) :
    (dat2 c a O n).before (0 : Fin 6) t d = blkX a.X t.val :=
  (Dat.before_in_eq_fetched (dat2 c a O n) (0 : Fin 6) rfl (fun _ => rfl) (fun _ _ _ => rfl) (fun t => (block2_0 c a O n t).symm) t d).trans (block2_0 c a O n t)
theorem before2_1 (c : Dev nD) (a : In2 F) (O : outT (F := F) c) (n : ℕ) (t : Fin cfg2.N) (d) : (dat2 c a O n).before (1 : Fin 6) t d = a.W :=
  (Dat.before_in_eq_fetched (dat2 c a O n) (1 : Fin 6) rfl (fun _ => rfl) (fun _ _ _ => rfl) (fun t => (block2_1 c a O n t).symm) t d).trans (block2_1 c a O n t)
theorem before2_2 (c : Dev nD) (a : In2 F) (O : outT (F := F) c) (n : ℕ) (t : Fin cfg2.N) (d) : (dat2 c a O n).before (2 : Fin 6) t d = a.B :=
  (Dat.before_in_eq_fetched (dat2 c a O n) (2 : Fin 6) rfl (fun _ => rfl) (fun _ _ _ => rfl) (fun t => (block2_2 c a O n t).symm) t d).trans (block2_2 c a O n t)
theorem before2_3 (c : Dev nD) (a : In2 F) (O : outT (F := F) c) (n : ℕ) (t : Fin cfg2.N) (d) : (dat2 c a O n).before (3 : Fin 6) t d = a.P :=
  (Dat.before_in_eq_fetched (dat2 c a O n) (3 : Fin 6) rfl (fun _ => rfl) (fun _ _ _ => rfl) (fun t => (block2_3 c a O n t).symm) t d).trans (block2_3 c a O n t)
theorem before2_4 (c : Dev nD) (a : In2 F) (O : outT (F := F) c) (n : ℕ) (t : Fin cfg2.N) (d) : (dat2 c a O n).before (4 : Fin 6) t d = a.M :=
  (Dat.before_in_eq_fetched (dat2 c a O n) (4 : Fin 6) rfl (fun _ => rfl) (fun _ _ _ => rfl) (fun t => (block2_4 c a O n t).symm) t d).trans (block2_4 c a O n t)

/-! ## The body obligation -/

theorem lstm_body (c : Dev nD) (a : In2 F) (O : outT (F := F) c) (n : ℕ) :
    BodyObligationRel (dat2 c a O n) (defs₀ (F := F)) 𝒱₀ (none : HIx 1) Set.univ fgt2 (Rl2 a) := fun t => by
  rw [bigSep_W2, bigSep_W2]
  simp only [show fgt2 0 = false from rfl, show fgt2 1 = false from rfl, show fgt2 2 = false from rfl, show fgt2 3 = false from rfl,
    show fgt2 4 = false from rfl, show fgt2 5 = true from rfl]
  rw [show (dat2 c a O n).Φ t.succ = (dat2 c a O n).Φ t.castSucc from rfl,
    show (dat2 c a O n).owesAt none t.succ = (dat2 c a O n).owesAt none t.castSucc from rfl]
  iintro ⟨HΦ, Ho, ⟨%d0, H0⟩, ⟨%d1, H1⟩, ⟨%d2, H2⟩, ⟨%d3, H3⟩, ⟨%d4, H4⟩, ⟨%Y, -, H5⟩⟩
  rw [before2_0 c a O n t d0, before2_1 c a O n t d1, before2_2 c a O n t d2, before2_3 c a O n t d3, before2_4 c a O n t d4]
  iapply (lstm_run (F := F) c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (win2_5.stage (cfg2.slots t 5)) (hstage2_5 ((cfg2.slots t 5).cast nbuf2_5))
    (blkX a.X t.val) a.W a.B a.P a.M Y Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; isplitr; swap; · iexact H5
  ipureintro; rfl

/-! ## What the array holds at the end -/

theorem lstm_step (a : In2 F) (t : Fin cfg2.N) (G₀ : S4096x128.Idx → Elt F .f32) (Y : S1024x128.Idx → Elt F .f32)
    (h₀ : ∀ x : S4096x128.Idx, (x 0 : ℕ) < 1024 * t.val → G₀ x = lstmAll a x) (hY : Y = lstmOut (F := F) (blkX a.X t.val) a.W a.B a.P a.M) :
    ∀ x : S4096x128.Idx, (x 0 : ℕ) < 1024 * (t.val + 1) →
      (win2_5.blk t).view.write (Elt F) G₀ (win2_5.cut (grid2.coords t) Y) Finset.univ x = lstmAll a x := by
  obtain ⟨i0, i1⟩ := index2_5 t
  have h4 := lt4 t
  intro x hx
  by_cases hlt : (x 0 : ℕ) < 1024 * t.val
  · rw [View.write_of_not_mem]; · exact h₀ x hlt
    rw [View.setOn_univ]
    show x ∉ ((View.whole main_v25).slice (win2_5.rect t)).set
    rw [View.set_slice_whole, Rect.mem_set_unit]
    intro h
    have h0 : win2_5.index t 0 * 1024 ≤ (x 0 : ℕ) := (h 0).1
    rw [i0] at h0; omega
  · let r : Fin 1024 := ⟨(x 0 : ℕ) - 1024 * t.val, by omega⟩
    let j : S1024x128.Idx := ix2 r (x 1)
    have hj : x = (win2_5.blk t).view.emb j := funext fun b => Fin.ext (match b with
      | ⟨0, _⟩ => by show (x 0 : ℕ) = win2_5.index t 0 * 1024 + 1 * ((x 0 : ℕ) - 1024 * t.val); rw [i0]; omega
      | ⟨1, _⟩ => by show (x 1 : ℕ) = win2_5.index t 1 * 128 + 1 * (x 1 : ℕ); rw [i1]; omega)
    have hw : (win2_5.blk t).view.write (Elt F) G₀ (win2_5.cut (grid2.coords t) Y) Finset.univ ((win2_5.blk t).view.emb j) = Y j := by
      rw [View.write_emb_of_mem _ _ (Finset.mem_univ j)]; rfl
    rw [← hj] at hw
    rw [hw, hY]
    unfold lstmAll
    have hd : (x 0 : ℕ) / 1024 = t.val := by omega
    have hr : (⟨(x 0 : ℕ) % 1024, Nat.mod_lt _ (by decide)⟩ : Fin 1024) = r := Fin.ext (by show (x 0 : ℕ) % 1024 = (x 0 : ℕ) - 1024 * t.val; omega)
    rw [hd, hr]

theorem lstm_at (c : Dev nD) (a : In2 F) (O : outT (F := F) c) (n : ℕ) : ∀ (u : ℕ), u ≤ cfg2.N → ∀ G,
    (rdat2 c a O n).ArrAt (5 : Fin 6) u G → ∀ x : S4096x128.Idx, (x 0 : ℕ) < 1024 * u → (G : S4096x128.Idx → Elt F .f32) x = lstmAll a x
  | 0, _, G, _ => fun x hx => absurd hx (by omega)
  | u + 1, hu, G, h => by
    have h' := h
    rw [show u + 1 = (⟨u, hu⟩ : Fin cfg2.N).val + 1 from rfl, RDat.ArrAt_succ, if_pos (flush2_5 _)] at h'
    obtain ⟨G₀, Y, hG₀, hY, rfl⟩ := h'
    exact lstm_step a ⟨u, hu⟩ G₀ Y (lstm_at c a O n u (Nat.le_of_succ_le hu) G₀ hG₀) (Dat.toRRel_leaves (dat2 c a O n) rfl hY)

theorem lstm_end (c : Dev nD) (a : In2 F) (O : outT (F := F) c) (n : ℕ) (G)
    (h : (rdat2 c a O n).ArrAt (5 : Fin 6) cfg2.N G) : G = (lstmAll a : outT (F := F) c) :=
  funext fun x => lstm_at c a O n cfg2.N le_rfl G h x (by
    show ((x : S4096x128.Idx) 0 : ℕ) < 1024 * grid2.N
    rw [N_2]; exact ((x : S4096x128.Idx) 0).isLt)

/-! ## The region -/

abbrev rdats2 (a : Dev nD → In2 F) (O : (c : Dev nD) → outT (F := F) c) (n : ℕ) :
    (p : Fin 2) → (c : Dev nD) → RDat τ (Elt F) (HIx 1) ℕ UU ℕ (Pipeline.pin (pcfgs (F := F)) adm p) c :=
  RDat.familyOf (pcfgs (F := F)) adm 1 fun c => rdat2 c (a c) (O c) n

theorem rdats2_self (a : Dev nD → In2 F) (O : (c : Dev nD) → outT (F := F) c) (n : ℕ) (c : Dev nD) :
    rdats2 a O n 1 c = rdat2 c (a c) (O c) n := RDat.familyOf_self _ _ _ _ _

/-- The call's five operands at `a`, its result at `O`. -/
abbrev held2 (c : Dev nD) (a : In2 F) (O : outT (F := F) c) : sProp 𝕄 :=
  iprop(((c : Thread nD τ).loc main_v5 ↦{fullShare} (a.X : Buf (Elt F) ((c : Thread nD τ).loc main_v5)))
    ∗ ((c : Thread nD τ).loc main_v12 ↦{fullShare} (a.W : Buf (Elt F) ((c : Thread nD τ).loc main_v12)))
    ∗ ((c : Thread nD τ).loc main_v15 ↦{fullShare} (a.B : Buf (Elt F) ((c : Thread nD τ).loc main_v15)))
    ∗ ((c : Thread nD τ).loc main_v19 ↦{fullShare} (a.P : Buf (Elt F) ((c : Thread nD τ).loc main_v19)))
    ∗ ((c : Thread nD τ).loc main_v24 ↦{fullShare} (a.M : Buf (Elt F) ((c : Thread nD τ).loc main_v24)))
    ∗ ((c : Thread nD τ).loc main_v25 ↦{fullShare} O))

set_option maxHeartbeats 1000000 in
set_option backward.isDefEq.respectTransparency.types false in
def reg2 (a : Dev nD → In2 F) (O : (c : Dev nD) → outT (F := F) c) (n : ℕ) :
    Pipeline.RDat.RegionSeg (pcfgs (F := F)) adm (rdats2 a O n) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := by rw [rdats2_self]; exact (lstm_body c (a c) (O c) n).toRRel
  hwaits c := Pipeline.RDat.cellsWaits_intro cfgs (rdats2 a O n) (none : HIx 1) 1 c fun w s t => by
    rw [rdats2_self]; exact (K (F := F)).mayWait_none _ (otc_none c n)
  pre c := iprop(held2 c (a c) (O c) ∗ owesB (F := F) c n)
  post c := iprop(held2 c (a c) (lstmAll (a c)) ∗ owesB (F := F) c n)
  X _ := BI.emp
  Y _ := BI.emp
  Z _ := BI.emp
  hentry c := by
    rw [Pipeline.ownSems0_none]
    have hA := Pipeline.RDat.arrays_eq (pcfgs (F := F)) adm (rdats2 a O n) 1 c (launch2).arr_whole
      (fun w => by rw [rdats2_self]; exact RDat.share_full _ (fun _ => rfl) w) (rdats2 a O n 1 c).A
    rw [hA, show (bigSep Finset.univ fun w => (((c.tc : Thread nD τ).loc (Pipeline.arrRef (Pipeline.pin (pcfgs (F := F)) adm 1).spec w)) ↦{fullShare} (rdats2 a O n 1 c).A w : sProp 𝕄))
      = held2 c (a c) (O c) from by
        rw [rdats2_self]; exact bigSep_W2 _]
    iintro ⟨⟨H, HO⟩, -, -⟩
    imodintro
    isplitl [H]; · iexact H
    isplitr; · unfold Pipeline.prefHeld; rw [show (Finset.univ : Finset (Fin 0)) = ∅ from rfl, BI.bigSep_empty]; iempintro
    isplitl [HO]
    · rw [rdats2_self]
      iapply (owesB_in (F := F) c n _ (fun _ h => Or.inl h)); iexact HO
    isplitr <;> iempintro
  hin c := by
    rw [rdats2_self]
    change _ ⊢ Pipeline.scopedRest (Ix := HIx 1) (Name := ℕ) (U := UU) (Lvl := ℕ) (Val := Elt F) spec2 c
    iintro ⟨-, -, Hr⟩; iexact Hr
  hout c := by
    rw [Pipeline.ownSems0_none, rdats2_self]
    change Pipeline.scopedRest (Ix := HIx 1) (Name := ℕ) (U := UU) (Lvl := ℕ) (Val := Elt F) spec2 c ⊢ _
    iintro Hr
    isplitr; · iempintro
    isplitr; · iempintro
    iexact Hr
  hexit c := by
    have hA := Pipeline.RDat.arraysAt_eq (pcfgs (F := F)) adm (rdats2 a O n) 1 c (launch2).arr_whole
      (fun w => by rw [rdats2_self]; exact RDat.share_full _ (fun _ => rfl) w) (Pipeline.pin (pcfgs (F := F)) adm 1).N
    rw [hA,
      show (bigSep Finset.univ fun w => iprop(∃ G, ⌜(rdats2 a O n 1 c).ArrAt w (Pipeline.pin (pcfgs (F := F)) adm 1).N G⌝ ∗ (((c.tc : Thread nD τ).loc (Pipeline.arrRef (Pipeline.pin (pcfgs (F := F)) adm 1).spec w)) ↦{fullShare} G : sProp 𝕄)))
      = iprop((∃ G, ⌜(rdat2 c (a c) (O c) n).ArrAt (0 : Fin 6) cfg2.N G⌝ ∗ ((c : Thread nD τ).loc main_v5 ↦{fullShare} G))
        ∗ (∃ G, ⌜(rdat2 c (a c) (O c) n).ArrAt (1 : Fin 6) cfg2.N G⌝ ∗ ((c : Thread nD τ).loc main_v12 ↦{fullShare} G))
        ∗ (∃ G, ⌜(rdat2 c (a c) (O c) n).ArrAt (2 : Fin 6) cfg2.N G⌝ ∗ ((c : Thread nD τ).loc main_v15 ↦{fullShare} G))
        ∗ (∃ G, ⌜(rdat2 c (a c) (O c) n).ArrAt (3 : Fin 6) cfg2.N G⌝ ∗ ((c : Thread nD τ).loc main_v19 ↦{fullShare} G))
        ∗ (∃ G, ⌜(rdat2 c (a c) (O c) n).ArrAt (4 : Fin 6) cfg2.N G⌝ ∗ ((c : Thread nD τ).loc main_v24 ↦{fullShare} G))
        ∗ (∃ G, ⌜(rdat2 c (a c) (O c) n).ArrAt (5 : Fin 6) cfg2.N G⌝ ∗ ((c : Thread nD τ).loc main_v25 ↦{fullShare} G))) from by
        rw [rdats2_self]; exact bigSep_W2 _]
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    imodintro
    rw [RDat.ArrAt_in _ _ rfl] at h0 h1 h2 h3 h4
    have h5' := lstm_end c (a c) (O c) n G5 h5
    subst h0 h1 h2 h3 h4 h5'
    isplitl [H0 H1 H2 H3 H4 H5]
    · isplitl [H0]; · iexact H0
      isplitl [H1]; · iexact H1
      isplitl [H2]; · iexact H2
      isplitl [H3]; · iexact H3
      isplitl [H4]; · iexact H4
      iexact H5
    rw [rdats2_self]
    iapply (owesB_out (F := F) c n _ (Set.union_subset (fun _ h => h) (recB_waits c n _))); iexact HO

set_option backward.isDefEq.respectTransparency.types false in
/-- The call, in @main. -/
theorem wp_lstm (c : Dev nD) (a : Dev nD → In2 F) (O : (c : Dev nD) → outT (F := F) c) (n : ℕ) (E : PUnit → sProp 𝕄) :
    iprop((iprop(boundary (c.tc : Thread nD τ) ∗ (reg2 a O n).post c) -∗ E ⟨⟩)
        ∗ boundary (c.tc : Thread nD τ) ∗ (reg2 a O n).pre c ∗ levAts (K (F := F)).L (K (F := F)).lev
        ∗ Pipeline.cellsGhost cfgs EP 1 c ∗ Pipeline.toksInit cfgs EP 1 c)
      ⊢ wp frame (wpE (D (F := F)) (𝒱₀.lift) (c.tc : Thread nD τ) none) Set.univ (Prog.lift (.customCall (Pipeline.entry 1) ())) E := by
  have h := Pipeline.RDat.RegionSeg.wp (pcfgs (F := F)) adm (rdats2 a O n) (none : HIx 1) cellOf_inj EP defs₀ 𝒱₀
    (K (F := F)).L (K (F := F)).lev (reg2 a O n) c none (fun u hu => absurd hu (by simp)) (fun x => Prog.ret x) E
  refine BIBase.Entails.trans (sep_mono (wand_mono .rfl ?_) .rfl) h
  rw [wp_ret]; iintro H; imodintro; iexact H

end Cert.Proof.Lookup

end
-- ==== Proof.Host.lean ====
/-
  THE HOST'S OPERATIONS around the three calls, as lists, the sets of arrays they run over, and the whole run's contents:
  @main's arrays before the first call (`V1`), after the gather (`V2`), before the recurrence (`V3`), at the end (`V5`).
-/
module

public import proofs.«01_k».proof.Proof.Tiles
public import proofs.«01_k».proof.Proof.Blocks
public import Idealize.ShloMosaic.Lib.Pipeline.Frame

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

open Idealize.ShloMosaic.StableHlo (held held_split held_sub_split held_congr wp_hlo_within)
open Idealize.ShloMosaic.Pipeline (ucRefs sub_ucRefs)

variable {F : FTy → Type} [FloatOps F]

local notation "𝕄" => MM F

/-- What @main does before the calls. -/
abbrev opsA : List (HloOp τ sig (Elt F)) := [
  StableHlo.nullary main_cst (fun i => FloatOps.ofBits .f32 (lit0 (S512.rowMajor i))),
  StableHlo.unary main_arg0 main_v0 ((transpose S50x4096 [1, 0] · transposes_S4096x50_S50x4096_1_0) : (⟨S4096x50, .i32⟩ : BufTy).Contents (Elt F) → (⟨S50x4096, .i32⟩ : BufTy).Contents (Elt F)),
  StableHlo.reshape main_v0 main_v1 (rfl : (.i32 : EltTy) = .i32) shapeCasts_S50x4096_S204800,
  StableHlo.unary main_arg1 main_v2 ((transpose S64x1000000 [1, 0] · transposes_S1000000x64_S64x1000000_1_0) : (⟨S1000000x64, .f32⟩ : BufTy).Contents (Elt F) → (⟨S64x1000000, .f32⟩ : BufTy).Contents (Elt F))]

/-- What it does between the gather and the recurrence. -/
abbrev opsB : List (HloOp τ sig (Elt F)) := [
  StableHlo.reshape main_v4 main_v5 (rfl : (.f32 : EltTy) = .f32) shapeCasts_S204800x128_S50x4096x128,
  StableHlo.unary main_arg2 main_v6 ((transpose S64x512 [1, 0] · transposes_S512x64_S64x512_1_0) : (⟨S512x64, .f32⟩ : BufTy).Contents (Elt F) → (⟨S64x512, .f32⟩ : BufTy).Contents (Elt F)),
  StableHlo.unary main_arg3 main_v7 ((transpose S128x512 [1, 0] · transposes_S512x128_S128x512_1_0) : (⟨S512x128, .f32⟩ : BufTy).Contents (Elt F) → (⟨S128x512, .f32⟩ : BufTy).Contents (Elt F)),
  StableHlo.binary main_v6 main_v7 main_v8 ((fun a b => concatenate S192x512 0 [⟨S64x512, a⟩, ⟨S128x512, b⟩] concatenates_S64x512_S128x512_S192x512_d0) : (⟨S64x512, .f32⟩ : BufTy).Contents (Elt F) → (⟨S128x512, .f32⟩ : BufTy).Contents (Elt F) → (⟨S192x512, .f32⟩ : BufTy).Contents (Elt F)),
  StableHlo.unary main_cst main_v9 (broadcastInDim S1x512 ![1] bcast_S512_S1x512_1 : (⟨S512, .f32⟩ : BufTy).Contents (Elt F) → (⟨S1x512, .f32⟩ : BufTy).Contents (Elt F)),
  StableHlo.unary main_v9 main_v10 (broadcastInDim S192x512 ![0, 1] bcast_S1x512_S192x512_0_1 : (⟨S1x512, .f32⟩ : BufTy).Contents (Elt F) → (⟨S192x512, .f32⟩ : BufTy).Contents (Elt F)),
  StableHlo.binary main_v8 main_v10 main_v11 (mulf : (⟨S192x512, .f32⟩ : BufTy).Contents (Elt F) → (⟨S192x512, .f32⟩ : BufTy).Contents (Elt F) → (⟨S192x512, .f32⟩ : BufTy).Contents (Elt F)),
  StableHlo.unary main_v11 main_v12 ((truncf .bf16 · bitsLt_bf16_f32) : (⟨S192x512, .f32⟩ : BufTy).Contents (Elt F) → (⟨S192x512, .bf16⟩ : BufTy).Contents (Elt F)),
  StableHlo.binary main_arg4 main_arg5 main_v13 (addf : (⟨S512, .f32⟩ : BufTy).Contents (Elt F) → (⟨S512, .f32⟩ : BufTy).Contents (Elt F) → (⟨S512, .f32⟩ : BufTy).Contents (Elt F)),
  StableHlo.binary main_v13 main_cst main_v14 (mulf : (⟨S512, .f32⟩ : BufTy).Contents (Elt F) → (⟨S512, .f32⟩ : BufTy).Contents (Elt F) → (⟨S512, .f32⟩ : BufTy).Contents (Elt F)),
  StableHlo.reshape main_v14 main_v15 (rfl : (.f32 : EltTy) = .f32) shapeCasts_S512_S1x512,
  StableHlo.nullary main_cst_0 (constant S_ .f32 0x00000000#32),
  StableHlo.unary main_cst_0 main_v16 (broadcastInDim S128x128 ![] bcast_S_S128x128 : (⟨S_, .f32⟩ : BufTy).Contents (Elt F) → (⟨S128x128, .f32⟩ : BufTy).Contents (Elt F)),
  StableHlo.unary main_arg6 main_v17 ((transpose S128x6 [1, 0] · transposes_S6x128_S128x6_1_0) : (⟨S6x128, .f32⟩ : BufTy).Contents (Elt F) → (⟨S128x6, .f32⟩ : BufTy).Contents (Elt F)),
  StableHlo.nullary main_c (constantI S_ 32 0#32),
  StableHlo.unary main_c main_v18 (broadcastInDim S1 ![] bcast_S_S1 : (⟨S_, .i32⟩ : BufTy).Contents (Elt F) → (⟨S1, .i32⟩ : BufTy).Contents (Elt F)),
  StableHlo.ternary main_v16 main_v18 main_v17 main_v19 ((fun x i u => Host.scatter scatter_S128x128_S1_S128x6_01_n_1_0 (fun _ b => b) x i u) : (⟨S128x128, .f32⟩ : BufTy).Contents (Elt F) → (⟨S1, .i32⟩ : BufTy).Contents (Elt F) → (⟨S128x6, .f32⟩ : BufTy).Contents (Elt F) → (⟨S128x128, .f32⟩ : BufTy).Contents (Elt F)),
  StableHlo.nullary main_cst_1 (constant S_ .f32 0xFF800000#32),
  StableHlo.unary main_cst_1 main_v20 (broadcastInDim S1x128 ![] bcast_S_S1x128 : (⟨S_, .f32⟩ : BufTy).Contents (Elt F) → (⟨S1x128, .f32⟩ : BufTy).Contents (Elt F)),
  StableHlo.nullary main_c_2 (constantI S_ 32 0#32),
  StableHlo.unary main_c_2 main_v21 (broadcastInDim S1 ![] bcast_S_S1 : (⟨S_, .i32⟩ : BufTy).Contents (Elt F) → (⟨S1, .i32⟩ : BufTy).Contents (Elt F)),
  StableHlo.nullary main_c_3 (constantI S_ 32 0#32),
  StableHlo.unary main_c_3 main_v22 (broadcastInDim S1 ![] bcast_S_S1 : (⟨S_, .i32⟩ : BufTy).Contents (Elt F) → (⟨S1, .i32⟩ : BufTy).Contents (Elt F)),
  StableHlo.binary main_v21 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v20 main_v23 main_arg7 main_v24 ((fun x i u => Host.scatter scatter_S1x128_S2_S6_0_0_01_0 (fun _ b => b) x i u) : (⟨S1x128, .f32⟩ : BufTy).Contents (Elt F) → (⟨S2, .i32⟩ : BufTy).Contents (Elt F) → (⟨S6, .f32⟩ : BufTy).Contents (Elt F) → (⟨S1x128, .f32⟩ : BufTy).Contents (Elt F))]

/-- And after it. -/
abbrev opC : HloOp τ sig (Elt F) := StableHlo.unary main_v25 main_v26 ((extractStridedSlice S4096x6 ![0, 0] · slices_S4096x128_S4096x6_0_0) : (⟨S4096x128, .f32⟩ : BufTy).Contents (Elt F) → (⟨S4096x6, .f32⟩ : BufTy).Contents (Elt F))

/-- @main, its stretches of host operations gathered into lists. -/
theorem main_eq (d : Dev nD) : main (F := F) d = (StableHlo.seq opsA >>= fun _ => Prog.lift (.customCall (SparseCore.inner (Pipeline.entry 0)) ()) >>= fun _ =>
    (sc (F := F)).run d 0 >>= fun _ => StableHlo.seq opsB >>= fun _ => Prog.lift (.customCall (SparseCore.inner (Pipeline.entry 1)) ()) >>= fun _ =>
    (hlo rfl opC fun _ => .ret (⟨⟩ : PUnit)) >>= fun _ => pure ⟨⟩) := by
  simp only [StableHlo.seq_bind_seqK]
  rfl

/-! ## The arrays -/

abbrev rf (b : Ref sig .tc) : DevRef τ sig := Proc.devRef .tc b

/-- The arrays of the gather, those before the recurrence and those kept to the end. -/
abbrev C3 : Finset (DevRef τ sig) := {rf main_v1, rf main_v2, rf main_v3}
abbrev C4 : Finset (DevRef τ sig) := {rf main_v1, rf main_v2, rf main_v3, rf main_v4}
abbrev C5 : Finset (DevRef τ sig) := {rf main_v5, rf main_v12, rf main_v15, rf main_v19, rf main_v24}
abbrev C6 : Finset (DevRef τ sig) := {rf main_v5, rf main_v12, rf main_v15, rf main_v19, rf main_v24, rf main_v25}
abbrev R2 : Finset (DevRef τ sig) := ucRefs τ sig \ C3
abbrev R3 : Finset (DevRef τ sig) := R2 \ C5
/-- The arguments and the result. -/
abbrev T9 : Finset (DevRef τ sig) := {rf main_arg0, rf main_arg1, rf main_arg2, rf main_arg3, rf main_arg4, rf main_arg5, rf main_arg6, rf main_arg7, rf main_v26}

theorem mem_uc (b : Ref sig .tc) (h : (rf b).isScoped = false) : rf b ∈ ucRefs τ sig :=
  Finset.mem_filter.mpr ⟨StableHlo.devRef_mem_tcRefs b, by rw [h]; exact Bool.false_ne_true⟩

theorem C4_sub : C4 ⊆ ucRefs τ sig := by
  intro b hb
  simp only [Finset.mem_insert, Finset.mem_singleton] at hb
  rcases hb with rfl | rfl | rfl | rfl <;> exact mem_uc _ (by decide)

theorem v4_sub : ({rf main_v4} : Finset (DevRef τ sig)) ⊆ R2 := by
  intro b hb
  rw [Finset.mem_singleton] at hb
  subst hb
  exact Finset.mem_sdiff.mpr ⟨mem_uc _ (by decide), by decide⟩

theorem R2_less : R2 \ {rf main_v4} = ucRefs τ sig \ C4 := by
  rw [sdiff_sdiff_left]; rfl

theorem C6_sub : C6 ⊆ R2 := by
  intro b hb
  simp only [Finset.mem_insert, Finset.mem_singleton] at hb
  rcases hb with rfl | rfl | rfl | rfl | rfl | rfl <;> exact Finset.mem_sdiff.mpr ⟨mem_uc _ (by decide), by decide⟩

theorem v25_sub : ({rf main_v25} : Finset (DevRef τ sig)) ⊆ R3 := by
  intro b hb
  rw [Finset.mem_singleton] at hb
  subst hb
  exact Finset.mem_sdiff.mpr ⟨Finset.mem_sdiff.mpr ⟨mem_uc _ (by decide), by decide⟩, by decide⟩

theorem R3_less : R3 \ {rf main_v25} = R2 \ C6 := by
  rw [sdiff_sdiff_left]; rfl

theorem T9_sub : T9 ⊆ R3 := by
  intro b hb
  simp only [Finset.mem_insert, Finset.mem_singleton] at hb
  rcases hb with rfl | rfl | rfl | rfl | rfl | rfl | rfl | rfl | rfl <;>
    exact Finset.mem_sdiff.mpr ⟨Finset.mem_sdiff.mpr ⟨mem_uc _ (by decide), by decide⟩, by decide⟩

theorem in_R2 (op : HloOp τ sig (Elt F)) (h : op.bufs ⊆ StableHlo.tcRefs τ sig) (h' : ∀ b ∈ op.bufs, b ∉ C3) : op.bufs ⊆ R2 :=
  fun b hb => Finset.mem_sdiff.mpr ⟨sub_ucRefs op h hb, h' b hb⟩

theorem opsA_sub : ∀ op ∈ (opsA : List (HloOp τ sig (Elt F))), op.bufs ⊆ ucRefs τ sig := by
  refine List.forall_iff_forall_mem.mp ⟨?_, ?_, ?_, ?_⟩ <;> exact sub_ucRefs _ (by simp)

theorem opsA_fresh : ∀ op ∈ (opsA : List (HloOp τ sig (Elt F))), op.fresh = ∅ := by
  refine List.forall_iff_forall_mem.mp ⟨?_, ?_, ?_, ?_⟩ <;> rfl

set_option maxRecDepth 8192 in
theorem opsB_sub : ∀ op ∈ (opsB : List (HloOp τ sig (Elt F))), op.bufs ⊆ R2 := by
  refine List.forall_iff_forall_mem.mp ⟨?_, ?_, ?_, ?_, ?_, ?_, ?_, ?_, ?_, ?_, ?_, ?_, ?_, ?_, ?_, ?_, ?_, ?_, ?_, ?_, ?_, ?_, ?_, ?_, ?_⟩ <;>
    exact in_R2 _ (by simp) (by simp only [StableHlo.nullary_bufs, StableHlo.unary_bufs, StableHlo.binary_bufs, StableHlo.ternary_bufs, StableHlo.reshape_bufs]; decide)

theorem opsB_fresh : ∀ op ∈ (opsB : List (HloOp τ sig (Elt F))), op.fresh = ∅ := by
  refine List.forall_iff_forall_mem.mp ⟨?_, ?_, ?_, ?_, ?_, ?_, ?_, ?_, ?_, ?_, ?_, ?_, ?_, ?_, ?_, ?_, ?_, ?_, ?_, ?_, ?_, ?_, ?_, ?_, ?_⟩ <;> rfl

theorem opC_sub : (opC (F := F)).bufs ⊆ R3 := by
  intro b hb
  have h : b ∈ R2 := in_R2 (opC (F := F)) (by simp) (by simp only [StableHlo.nullary_bufs, StableHlo.unary_bufs, StableHlo.binary_bufs, StableHlo.ternary_bufs, StableHlo.reshape_bufs]; decide) hb
  have h' : ∀ b ∈ (opC (F := F)).bufs, b ∉ C5 := by simp only [StableHlo.unary_bufs]; decide
  exact Finset.mem_sdiff.mpr ⟨h, h' b hb⟩

/-! ## The contents -/

variable (m : (ℓ : Loc nD τ sig) → Buf (Elt F) ℓ)

def V0 (d : Dev nD) : Valuation τ sig (Elt F) := fun b => m (d, b)
def V1 (d : Dev nD) : Valuation τ sig (Elt F) := StableHlo.after opsA (V0 m d)
/-- The table turned, the flat list of row numbers, and what the result's array holds before the gather. -/
def tabA (d : Dev nD) : S64x1000000.Idx → Elt F .f32 := V1 m d (rf main_v2)
def listA (d : Dev nD) : S204800.Idx → Elt F .i32 := V1 m d (rf main_v1)
def outA (d : Dev nD) : S204800x128.Idx → Elt F .f32 := V1 m d (rf main_v4)
def wideA (d : Dev nD) : S1000000x128.Idx → Elt F .f32 := V1 m d (rf main_v3)

/-- After the gather left `g`; before the recurrence; after it; at the end. -/
def V2 (d : Dev nD) (g : S204800x128.Idx → Elt F .f32) : Valuation τ sig (Elt F) := Function.update (V1 m d) (rf main_v4) g
def V3 (d : Dev nD) (g : S204800x128.Idx → Elt F .f32) : Valuation τ sig (Elt F) := StableHlo.after opsB (V2 m d g)
def inA (d : Dev nD) (g : S204800x128.Idx → Elt F .f32) : In2 F where
  X := V3 m d g (rf main_v5)
  W := V3 m d g (rf main_v12)
  B := V3 m d g (rf main_v15)
  P := V3 m d g (rf main_v19)
  M := V3 m d g (rf main_v24)
def V4 (d : Dev nD) (g : S204800x128.Idx → Elt F .f32) : Valuation τ sig (Elt F) := Function.update (V3 m d g) (rf main_v25) (lstmAll (inA m d g))
def V5 (d : Dev nD) (g : S204800x128.Idx → Elt F .f32) : Valuation τ sig (Elt F) := (opC (F := F)).result (V4 m d g)

omit [FloatOps F] in
theorem held_C4 (d : Dev nD) (W : Valuation τ sig (Elt F)) : (held (T d) C4 W : sProp 𝕄)
    = iprop(((SparseCore.T d).loc main_v1 ↦{fullShare} W (rf main_v1)) ∗ ((SparseCore.T d).loc main_v2 ↦{fullShare} W (rf main_v2))
        ∗ ((SparseCore.T d).loc main_v3 ↦{fullShare} W (rf main_v3)) ∗ ((SparseCore.T d).loc main_v4 ↦{fullShare} W (rf main_v4))) := by
  unfold held C4
  rw [SparseCore.bigSep_insert' (by decide), SparseCore.bigSep_insert' (by decide), SparseCore.bigSep_insert' (by decide), bigSep_singleton]

omit [FloatOps F] in
theorem held_one (d : Dev nD) (b : Ref sig .tc) (W : Valuation τ sig (Elt F)) :
    (held (T d) {rf b} W : sProp 𝕄) = ((SparseCore.T d).loc b ↦{fullShare} W (rf b)) := by
  unfold held; rw [bigSep_singleton]

omit [FloatOps F] in
theorem held_C6 (d : Dev nD) (W : Valuation τ sig (Elt F)) : (held (T d) C6 W : sProp 𝕄)
    = iprop(((SparseCore.T d).loc main_v5 ↦{fullShare} W (rf main_v5)) ∗ ((SparseCore.T d).loc main_v12 ↦{fullShare} W (rf main_v12))
        ∗ ((SparseCore.T d).loc main_v15 ↦{fullShare} W (rf main_v15)) ∗ ((SparseCore.T d).loc main_v19 ↦{fullShare} W (rf main_v19))
        ∗ ((SparseCore.T d).loc main_v24 ↦{fullShare} W (rf main_v24)) ∗ ((SparseCore.T d).loc main_v25 ↦{fullShare} W (rf main_v25))) := by
  unfold held C6
  rw [SparseCore.bigSep_insert' (by decide), SparseCore.bigSep_insert' (by decide), SparseCore.bigSep_insert' (by decide), SparseCore.bigSep_insert' (by decide),
    SparseCore.bigSep_insert' (by decide), bigSep_singleton]

/-- With the gathered rows back. -/
theorem held_R2 (d : Dev nD) (g : S204800x128.Idx → Elt F .f32) :
    (held (T d) R2 (V2 m d g) : sProp 𝕄) = iprop((oLoc d ↦{fullShare} (g : Buf (Elt F) (oLoc d))) ∗ held (T d) (ucRefs τ sig \ C4) (V1 m d)) := by
  rw [held_sub_split (T d) v4_sub, held_one, R2_less, held_congr (T d) (V' := V1 m d)]
  · rw [show V2 m d g (rf main_v4) = g from Function.update_self _ _ _]
  · intro b hb
    exact Function.update_of_ne (fun e => (Finset.mem_sdiff.mp hb).2 (by rw [e]; decide)) _ _

/-- With the recurrence's result in place. -/
theorem held_R3 (d : Dev nD) (g : S204800x128.Idx → Elt F .f32) :
    (held (T d) R3 (V4 m d g) : sProp 𝕄)
      = iprop(((SparseCore.T d).loc main_v25 ↦{fullShare} (lstmAll (inA m d g) : Buf (Elt F) ((SparseCore.T d).loc main_v25))) ∗ held (T d) (R2 \ C6) (V3 m d g)) := by
  rw [held_sub_split (T d) v25_sub, held_one, R3_less, held_congr (T d) (V' := V3 m d g)]
  · rw [show V4 m d g (rf main_v25) = lstmAll (inA m d g) from Function.update_self _ _ _]
  · intro b hb
    exact Function.update_of_ne (fun e => (Finset.mem_sdiff.mp hb).2 (by rw [e]; decide)) _ _

theorem held_T9 (d : Dev nD) (g : S204800x128.Idx → Elt F .f32) : (held (T d) R3 (V5 m d g) : sProp 𝕄) ⊢ held (T d) T9 (V5 m d g) := by
  rw [held_sub_split (T d) T9_sub]; exact sep_elim_left

/-- The arguments end as they began. -/
theorem V5_arg (d : Dev nD) (g : S204800x128.Idx → Elt F .f32) (b : Ref sig .tc)
    (hA : ∀ op ∈ (opsA : List (HloOp τ sig (Elt F))), rf b ∉ op.writes) (hB : ∀ op ∈ (opsB : List (HloOp τ sig (Elt F))), rf b ∉ op.writes)
    (hC : rf b ∉ (opC (F := F)).writes) (h4 : rf b ≠ rf main_v4) (h25 : rf b ≠ rf main_v25) : V5 m d g (rf b) = m (d, rf b) := by
  unfold V5
  rw [(opC (F := F)).result_of_not_mem _ hC]
  unfold V4
  rw [Function.update_of_ne h25]
  unfold V3
  rw [StableHlo.after_of_forall_not_mem _ _ hB]
  unfold V2
  rw [Function.update_of_ne h4]
  unfold V1
  rw [StableHlo.after_of_forall_not_mem _ _ hA]
  rfl

end Cert.Proof.Lookup

end
-- ==== Proof.Main.lean ====
/-
  THE RUN OF THE PROGRAM: @main's host operations, the call that widens the table, the SparseCore's gather, the call that
  runs the recurrence, and the last cut; and what the whole program leaves in memory. Every subcore's task and the two
  TensorCore calls were proved before; here they are joined, and the launch theorem gives the run of all threads.
-/
module

public import proofs.«01_k».proof.Proof.Host

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

open Idealize.ShloMosaic.StableHlo (held held_split held_sub_split held_congr wp_hlo_within)
open Idealize.ShloMosaic.Pipeline (ucRefs)

variable {F : FTy → Type} [FloatOps F]

local notation "𝕄" => MM F

/-! ## The two TensorCore calls, in @main -/

local notation "𝔻" => (SparseCore.Cfg.defs (K (F := F)) (D (F := F)))

theorem call_widen (c : Dev nD) (A0 : (c : Dev nD) → srcT (F := F) c) (A1 : (c : Dev nD) → wideT (F := F) c) (n : ℕ) (E : PUnit → sProp 𝕄) :
    iprop((iprop(boundary (c.tc : Thread nD τ) ∗ (reg0 A0 A1 n).post c) -∗ E ⟨⟩)
        ∗ boundary (c.tc : Thread nD τ) ∗ (reg0 A0 A1 n).pre c ∗ levAts (K (F := F)).L (K (F := F)).lev
        ∗ Pipeline.cellsGhost cfgs EP 0 c ∗ Pipeline.toksInit cfgs EP 0 c)
      ⊢ wp frame (wpE 𝔻 𝒱 (T c) none) Set.univ (Prog.lift (.customCall (SparseCore.inner (Pipeline.entry 0)) ())) E :=
  (wp_widen c A0 A1 n E).trans ((K (F := F)).wp_liftProg (D (F := F)) 𝒱 (T c) Set.univ none (Prog.lift (.customCall (Pipeline.entry 0) ())) E)

theorem reg0_pre (c : Dev nD) (A0 : (c : Dev nD) → srcT (F := F) c) (A1 : (c : Dev nD) → wideT (F := F) c) (n : ℕ) : ((reg0 A0 A1 n).pre c : sProp 𝕄)
    = iprop(((c.tc : Thread nD τ).loc main_v2 ↦{fullShare} A0 c) ∗ ((c.tc : Thread nD τ).loc main_v3 ↦{fullShare} A1 c) ∗ owesB (F := F) c n) := rfl
theorem reg0_post (c : Dev nD) (A0 : (c : Dev nD) → srcT (F := F) c) (A1 : (c : Dev nD) → wideT (F := F) c) (n : ℕ) : ((reg0 A0 A1 n).post c : sProp 𝕄)
    = iprop(((c.tc : Thread nD τ).loc main_v2 ↦{fullShare} A0 c)
    ∗ (∃ g : wideT (F := F) c, ⌜WideOK (F := F) (A0 c) 1000000 g⌝ ∗ ((c.tc : Thread nD τ).loc main_v3 ↦{fullShare} g)) ∗ owesB (F := F) c n) := rfl
theorem reg2_pre (c : Dev nD) (a : Dev nD → In2 F) (O : (c : Dev nD) → outT (F := F) c) (n : ℕ) :
    ((reg2 a O n).pre c : sProp 𝕄) = iprop(held2 c (a c) (O c) ∗ owesB (F := F) c n) := rfl
theorem reg2_post (c : Dev nD) (a : Dev nD → In2 F) (O : (c : Dev nD) → outT (F := F) c) (n : ℕ) :
    ((reg2 a O n).post c : sProp 𝕄) = iprop(held2 c (a c) (lstmAll (a c)) ∗ owesB (F := F) c n) := rfl

theorem call_lstm (c : Dev nD) (a : Dev nD → In2 F) (O : (c : Dev nD) → outT (F := F) c) (n : ℕ) (E : PUnit → sProp 𝕄) :
    iprop((iprop(boundary (c.tc : Thread nD τ) ∗ (reg2 a O n).post c) -∗ E ⟨⟩)
        ∗ boundary (c.tc : Thread nD τ) ∗ (reg2 a O n).pre c ∗ levAts (K (F := F)).L (K (F := F)).lev
        ∗ Pipeline.cellsGhost cfgs EP 1 c ∗ Pipeline.toksInit cfgs EP 1 c)
      ⊢ wp frame (wpE 𝔻 𝒱 (T c) none) Set.univ (Prog.lift (.customCall (SparseCore.inner (Pipeline.entry 1)) ())) E :=
  (wp_lstm c a O n E).trans ((K (F := F)).wp_liftProg (D (F := F)) 𝒱 (T c) Set.univ none (Prog.lift (.customCall (Pipeline.entry 1) ())) E)

/-- What the TensorCore holds between the SparseCore calls, apart from what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_eq (d : Dev nD) (n : ℕ) : ((K (F := F)).tcSt EH d n : sProp 𝕄) = iprop(owesB (F := F) d n ∗ tcRest d n) := rfl

/-! ## The launch element of the certificate's ghost state -/

abbrev uP : UP := initOf (Pipeline.cells cfgs cellOf_inj) (Pipeline.launchToks cfgs cellOf_inj)
def u₀ : UU := (initOf (K (F := F)).hsCells (K (F := F)).hsToks, (uP, 1))

/-- The two pipelines' rounds. -/
def G (d : Dev nD) : sProp 𝕄 :=
  iprop((bigSep Finset.univ fun p : Fin 2 => Pipeline.cellsGhost cfgs EP p d) ∗ (bigSep Finset.univ fun p : Fin 2 => Pipeline.toksInit cfgs EP p d))

theorem G_eq (d : Dev nD) : (G d : sProp 𝕄) = iprop((Pipeline.cellsGhost cfgs EP 0 d ∗ Pipeline.cellsGhost cfgs EP 1 d)
    ∗ (Pipeline.toksInit cfgs EP 0 d ∗ Pipeline.toksInit cfgs EP 1 d)) := by
  unfold G
  rw [show (Finset.univ : Finset (Fin 2)) = {0, 1} by decide, SparseCore.bigSep_insert' (by decide), SparseCore.bigSep_insert' (by decide), bigSep_singleton, bigSep_singleton]

variable (m : (ℓ : Loc nD τ sig) → Buf (Elt F) ℓ) (ρ : Dev nD → PrngReg)

abbrev PP : (K (F := F)).Pay (nD := nD) (Val := Elt F) (Name := ℕ) (U := UU) := P (tabA m) (listA m) (outA m)

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 1 => (PP m).x q thr) := by
  unfold u₀
  iintro Hu
  ihave H := (ownU_pair (initOf (K (F := F)).hsCells (K (F := F)).hsToks) ((uP, 1) : UP × Counters)) $$ Hu
  icases H with ⟨HH, HR⟩
  ihave H := (own_pair_emb (embR : Emb (UP × Counters) 𝕄) uP (1 : Counters)) $$ HR
  icases H with ⟨HP, -⟩
  imod (Pipeline.fund_ghost cfgs (EP : Emb UP 𝕄) cellOf_inj) $$ HP with ⟨Hc, Ht⟩
  imodintro
  isplitl [HH]; · iexact HH
  isplitl [Hc Ht]
  · rw [show (bigSep Finset.univ (G : Dev nD → sProp 𝕄)) = iprop((bigSep Finset.univ fun d : Dev nD => bigSep Finset.univ fun p : Fin 2 => Pipeline.cellsGhost cfgs EP p d)
      ∗ (bigSep Finset.univ fun d : Dev nD => bigSep Finset.univ fun p : Fin 2 => Pipeline.toksInit cfgs EP p d)) from bigSep_sep' _ _ _]
    isplitl [Hc]; · iexact Hc
    iexact Ht
  rw [show (bigSep Finset.univ fun thr : Thread nD τ => bigSep Finset.univ fun q : Fin 1 => (PP m).x q thr) = iprop(emp) from
    (bigSep_congr fun _ _ => bigSep_univ_of_subsingleton (0 : Fin 1)).trans (bigSep_emp_const _)]
  iempintro

/-! ## @main on the TensorCore -/

/-- What @main leaves: some gathered rows, right as far as they are known, and the arrays at the end. -/
abbrev FIN (d : Dev nD) : sProp 𝕄 :=
  iprop(∃ g : S204800x128.Idx → Elt F .f32, ⌜RowsOK (tabA m d) (listA m d) g⌝ ∗ held (T d) T9 (V5 m d g))

theorem unscoped_held (d : Dev nD) : (unscopedBufs d (fun b => m ((SparseCore.T d).loc b)) : sProp 𝕄) = held (T d) (ucRefs τ sig) (V0 m d) :=
  Pipeline.unscopedBufs_held d (V0 m d)

set_option backward.isDefEq.respectTransparency.types false in
set_option maxHeartbeats 1000000 in
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq, G_eq]
  iintro ⟨#Hctx, Hst, ⟨Hb, Hheld, Hts, -⟩, ⟨⟨Hc0, Hc1⟩, ⟨Ht0, Ht1⟩⟩⟩
  ihave #Hlev := ((K (F := F)).ctx_levAts κ) $$ Hctx
  -- the operations before the calls
  iapply (StableHlo.wp_seq 𝒱 none Set.univ d (ucRefs τ sig) _ opsA opsA_sub opsA_fresh (V0 m d)) $$ [Hb Hheld]
  · isplitl [Hb] <;> iassumption
  iintro ⟨Hb, Hheld⟩
  ihave Hheld := (Entails.of_eq (show (held (T d) (ucRefs τ sig) (StableHlo.after opsA (V0 m d)) : sProp 𝕄)
    = iprop(held (T d) C4 (V1 m d) ∗ held (T d) (ucRefs τ sig \ C4) (V1 m d)) from held_sub_split (T d) C4_sub _)) $$ Hheld
  icases Hheld with ⟨H4, HR⟩
  ihave H4 := (Entails.of_eq (held_C4 d (V1 m d))) $$ H4
  icases H4 with ⟨H1, H2, H3, H4⟩
  -- the table widened
  rw [wp_bind]
  ihave Hst := (Entails.of_eq (tcSt_eq (F := F) d 0)) $$ Hst
  icases Hst with ⟨Ho, Hst⟩
  iapply (call_widen d (tabA m) (wideA m) 0)
  rw [reg0_pre, reg0_post]
  isplitr [Hb H2 H3 Ho Hc0 Ht0]
  swap
  · isplitl [Hb]; · iexact Hb
    isplitl [H2 H3 Ho]
    · isplitl [H2]; · iexact H2
      isplitl [H3]; · iexact H3
      iexact Ho
    isplitr; · iexact Hlev
    isplitl [Hc0]; · iexact Hc0
    iexact Ht0
  iintro ⟨Hb, -, ⟨%tb, %htb, H3⟩, Ho⟩
  -- the gather
  rw [wp_bind]
  iapply ((K (F := F)).wp_run (D (F := F)) 𝒱 (EH := EH) (P := PP m) κ d 0)
  isplitr; · iexact Hctx
  isplitl [Ho Hst]
  · iapply (Entails.of_eq (tcSt_eq (F := F) d 0).symm)
    isplitl [Ho]; · iexact Ho
    iexact Hst
  isplitl [H3 H1 H4]
  · iapply (st_intro (tabA m) (listA m) (outA m) d tb htb)
    isplitl [H3]; · iexact H3
    isplitl [H1]; · iexact H1
    iexact H4
  iintro ⟨Hst, Hdn⟩
  ihave Hdn := (dn_elim (tabA m) (listA m) (outA m) d) $$ Hdn
  icases Hdn with ⟨%g, %hg, Hg⟩
  ihave Hheld := (Entails.of_eq (held_R2 m d g).symm) $$ [Hg HR]
  · isplitl [Hg] <;> iassumption
  -- the operations before the recurrence
  iapply (StableHlo.wp_seq 𝒱 none Set.univ d R2 _ opsB opsB_sub opsB_fresh (V2 m d g)) $$ [Hb Hheld]
  · isplitl [Hb] <;> iassumption
  iintro ⟨Hb, Hheld⟩
  ihave Hheld := (Entails.of_eq (show (held (T d) R2 (StableHlo.after opsB (V2 m d g)) : sProp 𝕄)
    = iprop(held (T d) C6 (V3 m d g) ∗ held (T d) (R2 \ C6) (V3 m d g)) from held_sub_split (T d) C6_sub _)) $$ Hheld
  icases Hheld with ⟨H6, HR⟩
  ihave H6 := (Entails.of_eq (held_C6 d (V3 m d g))) $$ H6
  icases H6 with ⟨H5, H12, H15, H19, H24, H25⟩
  -- the recurrence
  rw [wp_bind]
  ihave Hst := (Entails.of_eq (show ((K (F := F)).tcSt EH d ((0 : Fin 1).val + 1) : sProp 𝕄) = _ from tcSt_eq (F := F) d 1)) $$ Hst
  icases Hst with ⟨Ho, Hst⟩
  iapply (call_lstm d (fun d => inA m d g) (fun d => V3 m d g (rf main_v25)) 1)
  rw [reg2_pre, reg2_post]
  isplitr [Hb H5 H12 H15 H19 H24 H25 Ho Hc1 Ht1]
  swap
  · isplitl [Hb]; · iexact Hb
    isplitl [H5 H12 H15 H19 H24 H25 Ho]
    · isplitr [Ho]
      · isplitl [H5]; · iexact H5
        isplitl [H12]; · iexact H12
        isplitl [H15]; · iexact H15
        isplitl [H19]; · iexact H19
        isplitl [H24]; · iexact H24
        iexact H25
      iexact Ho
    isplitr; · iexact Hlev
    isplitl [Hc1]; · iexact Hc1
    iexact Ht1
  iintro ⟨Hb, ⟨-, -, -, -, -, H25⟩, Ho⟩
  ihave Hheld := (Entails.of_eq (held_R3 m d g).symm) $$ [H25 HR]
  · isplitl [H25] <;> iassumption
  -- the last cut
  rw [wp_bind]
  iapply (wp_hlo_within 𝒱 (SparseCore.T d) none Set.univ (op := opC) (S := R3) opC_sub (V := V4 m d g)) $$ [Hb Hheld]
  · isplitl [Hb] <;> iassumption
  iintro ⟨Hb, Hheld⟩
  rw [wp_ret]; imodintro
  rw [wp_pure]; imodintro
  isplitl [Ho Hst]
  · rw [tcSt_eq]; isplitl [Ho] <;> iassumption
  isplitl [Hheld]
  · iexists g; isplitr; · ipureintro; exact hg
    iapply (held_T9 m d g); iexact Hheld
  isplitl [Hb] <;> iassumption

/-! ## The run -/

def fq (d : Dev nD) (s' : Phys nD τ sig (Elt F)) : Prop :=
  ∃ g : S204800x128.Idx → Elt F .f32, RowsOK (tabA m d) (listA m d) g ∧ ∀ b ∈ T9, s'.mem.mem (d, b) = V5 m d g b

omit [FloatOps F] in
theorem held_agree (d : Dev nD) (s' : Phys nD τ sig (Elt F)) (V : Valuation τ sig (Elt F)) (S : Finset (DevRef τ sig)) :
    iprop(held (T d) S V ∗ SI s') ⊢ (⌜∀ b ∈ S, s'.mem.mem (d, b) = V b⌝ : sProp 𝕄) := by
  induction S using Finset.induction_on with
  | empty => iintro -; ipureintro; exact fun b hb => absurd hb (Finset.notMem_empty _)
  | insert b S hb ih =>
    unfold held at ih ⊢
    rw [SparseCore.bigSep_insert' hb]
    iintro ⟨⟨Hb, HS⟩, HSI⟩
    ihave H := (persistent_entails_right (SI_pointsTo_agree (st := s') (ℓ := ((d, b) : Loc nD τ sig)) (I := Finset.univ) (q := fullShare) (f := V b))) $$ [HSI Hb]
    · isplitl [HSI] <;> iassumption
    icases H with ⟨%h1, HSI, -⟩
    ihave H := ih $$ [HS HSI]
    · isplitl [HS] <;> iassumption
    icases H with %h2
    ipureintro
    intro b' hb'
    rcases Finset.mem_insert.mp hb' with rfl | h
    · exact funext fun i => h1 i (Finset.mem_univ i)
    · exact h2 b' h

theorem hfin (d : Dev nD) (s' : Phys nD τ sig (Elt F)) : iprop(FIN m d ∗ SI s') ⊢ (⌜fq m d s'⌝ : sProp 𝕄) := by
  iintro ⟨⟨%g, %hg, H⟩, HSI⟩
  ihave H := (held_agree d s' (V5 m d g) T9) $$ [H HSI]
  · isplitl [H] <;> iassumption
  icases H with %h
  ipureintro; exact ⟨g, hg, h⟩

/-- What the program leaves: on every device the arrays at the end, from some gathered rows right as far as they are known;
    and every semaphore at zero. -/
def QC : PUnit × MemSt nD τ sig (Elt F) → Prop := fun r =>
  (∀ d : Dev nD, ∃ g : S204800x128.Idx → Elt F .f32, RowsOK (tabA m d) (listA m d) g ∧ ∀ b ∈ T9, r.2.mem (d, b) = V5 m d g b) ∧ r.2.sem = fun _ => 0

theorem run_main [∀ e, Nonempty (Elt F e)] (hix : ∀ d, Named (F := F) (listA m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabA m) (listA m) (outA m) hix)
    (fun q _ => match q with | 0 => SparseCore.Cfg.VecSplit.of_plain (vecSplit (tabA m) (listA m) (outA m)))
    m ρ main G (FIN m) (u₀ (F := F)) (sep_elim_left.trans (hu₀ m)) (hmain m ρ) (fq m) (hfin m) (QC m) (fun _ h hz => ⟨h, hz⟩)

end Cert.Proof.Lookup

end
-- ==== Proof.Same.lean ====
/-
  ONE PROGRAM, PRINTED TWICE. No rewrite was applied, so the program as printed for the machine's words and the one
  printed for extended reals have the same text; here the two are shown equal over any floats.
-/
module

public import proofs.«01_k».proof.Proof.Gen.Kernel
public import proofs.«01_k».proof.Proof.Gen.KernelIdeal

@[expose] public section

noncomputable section

namespace Cert.Proof.Lookup

open Idealize.ShloMosaic

variable {F : FTy → Type} [FloatOps F]

/-- The table of gate factors. -/
theorem same_lit0 : Cert.Kernel.lit0 = Cert.KernelIdeal.lit0 := by
  funext i; revert i; decide

theorem same_gather : Cert.Kernel.cc1_gather_k (F := F) = Cert.KernelIdeal.cc1_gather_k := rfl

/-- A TensorCore kernel's body at a vector subcore, where nothing runs it. -/
theorem vec0_ideal (c s) (a : Cert.KernelIdeal.Λ₀.Args 0) :
    Cert.KernelIdeal.defs₀ (F := F) (.scVector c s) 0 a = .op (.call (0 : Cert.KernelIdeal.Λ₀.Label) a) .ret := rfl
theorem vec0_words (c s) (a : Cert.Kernel.Λ₀.Args 0) :
    Cert.Kernel.defs₀ (F := F) (.scVector c s) 0 a = .op (.call (0 : Cert.Kernel.Λ₀.Label) a) .ret := rfl
theorem vec0 (c s) (a : Cert.Kernel.Λ₀.Args 0) : Cert.Kernel.defs₀ (F := F) (.scVector c s) 0 a = Cert.KernelIdeal.defs₀ (F := F) (.scVector c s) 0 a :=
  (vec0_words c s a).trans (vec0_ideal c s a).symm

/-- A TensorCore kernel's body at a vector subcore, where nothing runs it. -/
theorem vec2_ideal (c s) (a : Cert.KernelIdeal.Λ₀.Args 2) :
    Cert.KernelIdeal.defs₀ (F := F) (.scVector c s) 2 a = .op (.call (2 : Cert.KernelIdeal.Λ₀.Label) a) .ret := rfl
theorem vec2_words (c s) (a : Cert.Kernel.Λ₀.Args 2) :
    Cert.Kernel.defs₀ (F := F) (.scVector c s) 2 a = .op (.call (2 : Cert.Kernel.Λ₀.Label) a) .ret := rfl
theorem vec2 (c s) (a : Cert.Kernel.Λ₀.Args 2) : Cert.Kernel.defs₀ (F := F) (.scVector c s) 2 a = Cert.KernelIdeal.defs₀ (F := F) (.scVector c s) 2 a :=
  (vec2_words c s a).trans (vec2_ideal c s a).symm

theorem vec1_ideal (c s) (a : Cert.KernelIdeal.Λ₀.Args 1) :
    Cert.KernelIdeal.defs₀ (F := F) (.scVector c s) 1 a
      = SparseCore.onTile Cert.KernelIdeal.Facts₀.hcore1 Cert.KernelIdeal.Facts₀.hsub1 (fun c s => Cert.KernelIdeal.cc1_gather_k
          (fun | 0 => c | 1 => s | ⟨_ + 2, h⟩ => absurd h (Nat.not_lt.2 (Nat.le_add_left _ _)))
          (Memref.whole Cert.KernelIdeal.main_v3_scv) (Memref.isWhole_whole _) (Memref.whole Cert.KernelIdeal.main_v1_scv) (Memref.isWhole_whole _)
          (Memref.whole Cert.KernelIdeal.main_v4_scv) (Memref.isWhole_whole _) (Memref.whole Cert.KernelIdeal.cc1_scratch0) (Memref.isWhole_whole _)
          (Memref.whole Cert.KernelIdeal.cc1_scratch1) (Memref.isWhole_whole _) Cert.KernelIdeal.cc1_scratch2 Cert.KernelIdeal.cc1_scoped0 Cert.KernelIdeal.cc1_scoped1) ⟨⟩ c s := rfl
theorem vec1_words (c s) (a : Cert.Kernel.Λ₀.Args 1) :
    Cert.Kernel.defs₀ (F := F) (.scVector c s) 1 a
      = SparseCore.onTile Cert.Kernel.Facts₀.hcore1 Cert.Kernel.Facts₀.hsub1 (fun c s => Cert.Kernel.cc1_gather_k
          (fun | 0 => c | 1 => s | ⟨_ + 2, h⟩ => absurd h (Nat.not_lt.2 (Nat.le_add_left _ _)))
          (Memref.whole Cert.Kernel.main_v3_scv) (Memref.isWhole_whole _) (Memref.whole Cert.Kernel.main_v1_scv) (Memref.isWhole_whole _)
          (Memref.whole Cert.Kernel.main_v4_scv) (Memref.isWhole_whole _) (Memref.whole Cert.Kernel.cc1_scratch0) (Memref.isWhole_whole _)
          (Memref.whole Cert.Kernel.cc1_scratch1) (Memref.isWhole_whole _) Cert.Kernel.cc1_scratch2 Cert.Kernel.cc1_scoped0 Cert.Kernel.cc1_scoped1) ⟨⟩ c s := rfl
/-- The gather's body. -/
theorem vec1 (c s) (a : Cert.Kernel.Λ₀.Args 1) : Cert.Kernel.defs₀ (F := F) (.scVector c s) 1 a = Cert.KernelIdeal.defs₀ (F := F) (.scVector c s) 1 a := by
  refine (vec1_words c s a).trans (Eq.trans ?_ (vec1_ideal c s a).symm)
  rw [same_gather]
  rfl

/-- The kernels' bodies. -/
theorem same_bodies : Cert.Kernel.defs₀ (F := F) = Cert.KernelIdeal.defs₀ := by
  funext p ℓ a
  cases p with
  | tc => match ℓ, a with
    | 0, _ => rfl
    | 1, _ => rfl
    | 2, _ => rfl
  | scScalar c => match ℓ, a with
    | 0, _ => rfl
    | 1, _ => rfl
    | 2, _ => rfl
  | scVector c s => match ℓ, a with
    | 0, a => exact vec0 c s a
    | 1, a => exact vec1 c s a
    | 2, a => exact vec2 c s a

theorem same_defs : Cert.Kernel.defs (F := F) = Cert.KernelIdeal.defs := by
  unfold Cert.Kernel.defs
  rw [same_bodies]
  rfl

theorem same_main : Cert.Kernel.main (F := F) = Cert.KernelIdeal.main := by
  unfold Cert.Kernel.main
  rw [same_lit0]
  rfl

theorem same_threads : Cert.Kernel.threads (F := F) = Cert.KernelIdeal.threads := by
  unfold Cert.Kernel.threads
  rw [same_main]
  rfl

end Cert.Proof.Lookup

end
-- ==== Proof.RefRun.lean ====
/-
  THE REFERENCE'S RUN: @main is two stretches of host operations, one counted loop of 50 trips and two stretches after it.
  Every execution ends with every array at the fold of these (`run_fold`); one trip's values from any contents are
  `trip_‹array›`, the step is `STEP`, and the arguments are written by none of it. Follows the module generated for the
  reference, whose last theorem, the value of the operations after the loop, is proved in RefOut.lean instead, in two parts.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.RefRun

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 23 host operations of @_take (main_call0), in order. -/
abbrev hostOps0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4096x50, .i32⟩) (broadcastInDim S4096x50 ![] bcast_S_S4096x50),
    StableHlo.TRef.binary (.of main_arg0 : StableHlo.TRef sig ⟨S4096x50, .i32⟩) (.of main_call0_v0 : StableHlo.TRef sig ⟨S4096x50, .i32⟩) (.of main_call0_v1 : StableHlo.TRef sig ⟨S4096x50, .i1⟩) (cmpi .slt),
    StableHlo.TRef.nullary (.of main_call0_c_0 : StableHlo.TRef sig ⟨S_, .i32⟩) (constantI S_ 32 1000000#32),
    StableHlo.TRef.unary (.of main_call0_c_0 : StableHlo.TRef sig ⟨S_, .i32⟩) (.of main_call0_v2 : StableHlo.TRef sig ⟨S4096x50, .i32⟩) (broadcastInDim S4096x50 ![] bcast_S_S4096x50),
    StableHlo.TRef.binary (.of main_arg0 : StableHlo.TRef sig ⟨S4096x50, .i32⟩) (.of main_call0_v2 : StableHlo.TRef sig ⟨S4096x50, .i32⟩) (.of main_call0_v3 : StableHlo.TRef sig ⟨S4096x50, .i32⟩) addi,
    StableHlo.TRef.ternary (.of main_call0_v1 : StableHlo.TRef sig ⟨S4096x50, .i1⟩) (.of main_call0_v3 : StableHlo.TRef sig ⟨S4096x50, .i32⟩) (.of main_arg0 : StableHlo.TRef sig ⟨S4096x50, .i32⟩) (.of main_call0_v4 : StableHlo.TRef sig ⟨S4096x50, .i32⟩) select,
    StableHlo.TRef.unary main_call0_call0.v0 (.of main_call0_v5 : StableHlo.TRef sig ⟨S4096x50x1, .i32⟩) (broadcastInDim S4096x50x1 ![0, 1] bcast_S4096x50_S4096x50x1_0_1),
    StableHlo.TRef.nullary (.of main_call0_c_1 : StableHlo.TRef sig ⟨S1, .i32⟩) (constantI S1 32 999999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4096x50x1, .i32⟩) (broadcastInDim S4096x50x1 ![] bcast_S_S4096x50x1),
    StableHlo.TRef.binary (.of main_call0_v5 : StableHlo.TRef sig ⟨S4096x50x1, .i32⟩) (.of main_call0_v6 : StableHlo.TRef sig ⟨S4096x50x1, .i32⟩) (.of main_call0_v7 : StableHlo.TRef sig ⟨S4096x50x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S4096x50x1, .i32⟩) (broadcastInDim S4096x50x1 ![0, 1, 2] bcast_S1x1x1_S4096x50x1_0_1_2),
    StableHlo.TRef.binary (.of main_call0_v5 : StableHlo.TRef sig ⟨S4096x50x1, .i32⟩) (.of main_call0_v9 : StableHlo.TRef sig ⟨S4096x50x1, .i32⟩) (.of main_call0_v10 : StableHlo.TRef sig ⟨S4096x50x1, .i1⟩) (cmpi .sle),
    StableHlo.TRef.binary (.of main_call0_v7 : StableHlo.TRef sig ⟨S4096x50x1, .i1⟩) (.of main_call0_v10 : StableHlo.TRef sig ⟨S4096x50x1, .i1⟩) (.of main_call0_v11 : StableHlo.TRef sig ⟨S4096x50x1, .i1⟩) andi,
    StableHlo.TRef.nullary (.of main_call0_c_3 : StableHlo.TRef sig ⟨S_, .i1⟩) (constantI S_ 1 1#1),
    StableHlo.TRef.binary (.of main_call0_v11 : StableHlo.TRef sig ⟨S4096x50x1, .i1⟩) (.of main_call0_c_3 : StableHlo.TRef sig ⟨S_, .i1⟩) (.of main_call0_v12 : StableHlo.TRef sig ⟨S4096x50, .i1⟩) (fun x v => Host.reduce IntOp.andi x v reducesTo_S4096x50x1_S4096x50_d2 h_S_),
    StableHlo.TRef.binary (.of main_arg1 : StableHlo.TRef sig ⟨S1000000x64, .f32⟩) (.of main_call0_v5 : StableHlo.TRef sig ⟨S4096x50x1, .i32⟩) (.of main_call0_v13 : StableHlo.TRef sig ⟨S4096x50x64, .f32⟩) (fun x i => Host.gather gather_S1000000x64_S4096x50x1_S4096x50x64_2_0_n_n_0_2_164 x i),
    StableHlo.TRef.unary (.of main_call0_v12 : StableHlo.TRef sig ⟨S4096x50, .i1⟩) (.of main_call0_v14 : StableHlo.TRef sig ⟨S4096x50x64, .i1⟩) (broadcastInDim S4096x50x64 ![0, 1] bcast_S4096x50_S4096x50x64_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S4096x50x64, .f32⟩) (broadcastInDim S4096x50x64 ![] bcast_S_S4096x50x64),
    StableHlo.TRef.ternary (.of main_call0_v14 : StableHlo.TRef sig ⟨S4096x50x64, .i1⟩) (.of main_call0_v13 : StableHlo.TRef sig ⟨S4096x50x64, .f32⟩) (.of main_call0_v15 : StableHlo.TRef sig ⟨S4096x50x64, .f32⟩) (.of main_v0 : StableHlo.TRef sig ⟨S4096x50x64, .f32⟩) select ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 14 host operations of @main, in order. -/
abbrev hostOps0_1 : List (HloOp τ sig (Elt F)) :=
  [ StableHlo.nullary main_cst (constant S_ .f32 0x00000000#32),
    StableHlo.unary main_cst main_v1 (broadcastInDim S4096x128 ![] bcast_S_S4096x128 : (⟨S_, .f32⟩ : BufTy).Contents (Elt F) → (⟨S4096x128, .f32⟩ : BufTy).Contents (Elt F)),
    StableHlo.nullary main_cst_0 (constant S_ .f32 0x00000000#32),
    StableHlo.unary main_cst_0 main_v2 (broadcastInDim S4096x128 ![] bcast_S_S4096x128 : (⟨S_, .f32⟩ : BufTy).Contents (Elt F) → (⟨S4096x128, .f32⟩ : BufTy).Contents (Elt F)),
    StableHlo.unary main_v0 main_v3 ((transpose S50x4096x64 [1, 0, 2] · transposes_S4096x50x64_S50x4096x64_1_0_2) : (⟨S4096x50x64, .f32⟩ : BufTy).Contents (Elt F) → (⟨S50x4096x64, .f32⟩ : BufTy).Contents (Elt F)),
    StableHlo.nullary main_c (constantI S_ 32 0#32),
    StableHlo.unary main_v3 main_v4_0 id,
    StableHlo.unary main_arg2 main_v4_1 id,
    StableHlo.unary main_arg3 main_v4_2 id,
    StableHlo.unary main_arg4 main_v4_3 id,
    StableHlo.unary main_arg5 main_v4_4 id,
    StableHlo.unary main_c main_v4_5 id,
    StableHlo.unary main_v1 main_v4_6 id,
    StableHlo.unary main_v2 main_v4_7 id ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_2 : List (HloOp τ sig (Elt F)) :=
  [ StableHlo.unary main_arg6 main_v5 ((transpose S128x6 [1, 0] · transposes_S6x128_S128x6_1_0) : (⟨S6x128, .f32⟩ : BufTy).Contents (Elt F) → (⟨S128x6, .f32⟩ : BufTy).Contents (Elt F)),
    StableHlo.binary main_v4_6 main_v5 main_v6 ((fun l r => Host.dotGeneral dot_S4096x128_S128x6_S4096x6_1_0_0_1_n_n none l r) : (⟨S4096x128, .f32⟩ : BufTy).Contents (Elt F) → (⟨S128x6, .f32⟩ : BufTy).Contents (Elt F) → (⟨S4096x6, .f32⟩ : BufTy).Contents (Elt F)),
    StableHlo.unary main_arg7 main_v7 (broadcastInDim S1x6 ![1] bcast_S6_S1x6_1 : (⟨S6, .f32⟩ : BufTy).Contents (Elt F) → (⟨S1x6, .f32⟩ : BufTy).Contents (Elt F)),
    StableHlo.unary main_v7 main_v8 (broadcastInDim S4096x6 ![0, 1] bcast_S1x6_S4096x6_0_1 : (⟨S1x6, .f32⟩ : BufTy).Contents (Elt F) → (⟨S4096x6, .f32⟩ : BufTy).Contents (Elt F)),
    StableHlo.binary main_v6 main_v8 main_v9 (addf : (⟨S4096x6, .f32⟩ : BufTy).Contents (Elt F) → (⟨S4096x6, .f32⟩ : BufTy).Contents (Elt F) → (⟨S4096x6, .f32⟩ : BufTy).Contents (Elt F)) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
/-- 15 host operations of @log_softmax (main_call2), in order. -/
abbrev hostOps0_3 : List (HloOp τ sig (Elt F)) :=
  [ StableHlo.TRef.nullary (.of main_call2_cst : StableHlo.TRef sig ⟨S_, .f32⟩) (constant S_ .f32 0xFF800000#32),
    StableHlo.TRef.binary (.of main_v9 : StableHlo.TRef sig ⟨S4096x6, .f32⟩) (.of main_call2_cst : StableHlo.TRef sig ⟨S_, .f32⟩) (.of main_call2_v0 : StableHlo.TRef sig ⟨S4096, .f32⟩) (fun x v => Host.reduce FloatOps.maximumf x v reducesTo_S4096x6_S4096_d1 h_S_),
    StableHlo.TRef.nullary (.of main_call2_cst_0 : StableHlo.TRef sig ⟨S_, .f32⟩) (constant S_ .f32 0xFF800000#32),
    StableHlo.TRef.unary (.of main_call2_cst_0 : StableHlo.TRef sig ⟨S_, .f32⟩) (.of main_call2_v1 : StableHlo.TRef sig ⟨S4096, .f32⟩) (broadcastInDim S4096 ![] bcast_S_S4096),
    StableHlo.TRef.binary (.of main_call2_v1 : StableHlo.TRef sig ⟨S4096, .f32⟩) (.of main_call2_v0 : StableHlo.TRef sig ⟨S4096, .f32⟩) (.of main_call2_v2 : StableHlo.TRef sig ⟨S4096, .f32⟩) maximumf,
    StableHlo.TRef.unary (.of main_call2_v2 : StableHlo.TRef sig ⟨S4096, .f32⟩) (.of main_call2_v3 : StableHlo.TRef sig ⟨S4096x1, .f32⟩) (broadcastInDim S4096x1 ![0] bcast_S4096_S4096x1_0),
    StableHlo.TRef.unary (.of main_call2_v3 : StableHlo.TRef sig ⟨S4096x1, .f32⟩) (.of main_call2_v4 : StableHlo.TRef sig ⟨S4096x6, .f32⟩) (broadcastInDim S4096x6 ![0, 1] bcast_S4096x1_S4096x6_0_1),
    StableHlo.TRef.binary (.of main_v9 : StableHlo.TRef sig ⟨S4096x6, .f32⟩) (.of main_call2_v4 : StableHlo.TRef sig ⟨S4096x6, .f32⟩) (.of main_call2_v5 : StableHlo.TRef sig ⟨S4096x6, .f32⟩) subf,
    StableHlo.TRef.unary (.of main_call2_v5 : StableHlo.TRef sig ⟨S4096x6, .f32⟩) (.of main_call2_v6 : StableHlo.TRef sig ⟨S4096x6, .f32⟩) Host.exp,
    StableHlo.TRef.nullary (.of main_call2_cst_1 : StableHlo.TRef sig ⟨S_, .f32⟩) (constant S_ .f32 0x00000000#32),
    StableHlo.TRef.binary (.of main_call2_v6 : StableHlo.TRef sig ⟨S4096x6, .f32⟩) (.of main_call2_cst_1 : StableHlo.TRef sig ⟨S_, .f32⟩) (.of main_call2_v7 : StableHlo.TRef sig ⟨S4096, .f32⟩) (fun x v => Host.reduceAdd x v reducesTo_S4096x6_S4096_d1 h_S_),
    StableHlo.TRef.unary (.of main_call2_v7 : StableHlo.TRef sig ⟨S4096, .f32⟩) (.of main_call2_v8 : StableHlo.TRef sig ⟨S4096x1, .f32⟩) (broadcastInDim S4096x1 ![0] bcast_S4096_S4096x1_0),
    StableHlo.TRef.unary (.of main_call2_v8 : StableHlo.TRef sig ⟨S4096x1, .f32⟩) (.of main_call2_v9 : StableHlo.TRef sig ⟨S4096x1, .f32⟩) Host.log,
    StableHlo.TRef.unary (.of main_call2_v9 : StableHlo.TRef sig ⟨S4096x1, .f32⟩) (.of main_call2_v10 : StableHlo.TRef sig ⟨S4096x6, .f32⟩) (broadcastInDim S4096x6 ![0, 1] bcast_S4096x1_S4096x6_0_1),
    StableHlo.TRef.binary (.of main_call2_v5 : StableHlo.TRef sig ⟨S4096x6, .f32⟩) (.of main_call2_v10 : StableHlo.TRef sig ⟨S4096x6, .f32⟩) (.of main_v10 : StableHlo.TRef sig ⟨S4096x6, .f32⟩) subf ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    StableHlo.seq hostOps0_1,
    HostLoop.enter 0,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons]
  chain_rfl

-- no `main_segs` (the loop-free kit's `Seg.run` equation) for this @main: it has a host loop; a certificate takes `main_chain` (Lib/Pipeline/RegionsLoop.lean)

/-- 4 host operations of @dynamic_index_in_dim (main_while0b_call1), in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v4_0 : StableHlo.TRef sig ⟨S50x4096x64, .f32⟩) ![(.of main_v4_5 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x4096x64, .f32⟩) (fun x i => Host.dynamicSlice S1x4096x64 x (fun k => (i k (Shape.Idx.first h_S_)).toInt) sliceFits_S50x4096x64_S1x4096x64),
    StableHlo.TRef.reshape (.of main_while0b_call1_v0 : StableHlo.TRef sig ⟨S1x4096x64, .f32⟩) (.of main_while0b_v11 : StableHlo.TRef sig ⟨S4096x64, .f32⟩) (rfl : (.f32 : EltTy) = .f32) shapeCasts_S1x4096x64_S4096x64 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 50 host operations of host loop 0's body region, in order. -/
abbrev while0Ops0_1 : List (HloOp τ sig (Elt F)) :=
  ( StableHlo.unary main_v4_1 main_while0b_v12 ((transpose S64x512 [1, 0] · transposes_S512x64_S64x512_1_0) : (⟨S512x64, .f32⟩ : BufTy).Contents (Elt F) → (⟨S64x512, .f32⟩ : BufTy).Contents (Elt F))
  :: StableHlo.binary main_while0b_v11 main_while0b_v12 main_while0b_v13 ((fun l r => Host.dotGeneral dot_S4096x64_S64x512_S4096x512_1_0_0_1_n_n none l r) : (⟨S4096x64, .f32⟩ : BufTy).Contents (Elt F) → (⟨S64x512, .f32⟩ : BufTy).Contents (Elt F) → (⟨S4096x512, .f32⟩ : BufTy).Contents (Elt F))
  :: StableHlo.unary main_v4_2 main_while0b_v14 ((transpose S128x512 [1, 0] · transposes_S512x128_S128x512_1_0) : (⟨S512x128, .f32⟩ : BufTy).Contents (Elt F) → (⟨S128x512, .f32⟩ : BufTy).Contents (Elt F))
  :: StableHlo.binary main_v4_6 main_while0b_v14 main_while0b_v15 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F))
  :: StableHlo.binary main_while0b_v13 main_while0b_v15 main_while0b_v16 (addf : (⟨S4096x512, .f32⟩ : BufTy).Contents (Elt F) → (⟨S4096x512, .f32⟩ : BufTy).Contents (Elt F) → (⟨S4096x512, .f32⟩ : BufTy).Contents (Elt F))
  :: StableHlo.unary main_v4_3 main_while0b_v17 (broadcastInDim S1x512 ![1] bcast_S512_S1x512_1 : (⟨S512, .f32⟩ : BufTy).Contents (Elt F) → (⟨S1x512, .f32⟩ : BufTy).Contents (Elt F))
  :: StableHlo.unary main_while0b_v17 main_while0b_v18 (broadcastInDim S4096x512 ![0, 1] bcast_S1x512_S4096x512_0_1 : (⟨S1x512, .f32⟩ : BufTy).Contents (Elt F) → (⟨S4096x512, .f32⟩ : BufTy).Contents (Elt F))
  :: StableHlo.binary main_while0b_v16 main_while0b_v18 main_while0b_v19 (addf : (⟨S4096x512, .f32⟩ : BufTy).Contents (Elt F) → (⟨S4096x512, .f32⟩ : BufTy).Contents (Elt F) → (⟨S4096x512, .f32⟩ : BufTy).Contents (Elt F))
  :: StableHlo.unary main_v4_4 main_while0b_v20 (broadcastInDim S1x512 ![1] bcast_S512_S1x512_1 : (⟨S512, .f32⟩ : BufTy).Contents (Elt F) → (⟨S1x512, .f32⟩ : BufTy).Contents (Elt F))
  :: StableHlo.unary main_while0b_v20 main_while0b_v21 (broadcastInDim S4096x512 ![0, 1] bcast_S1x512_S4096x512_0_1 : (⟨S1x512, .f32⟩ : BufTy).Contents (Elt F) → (⟨S4096x512, .f32⟩ : BufTy).Contents (Elt F))
  :: StableHlo.binary main_while0b_v19 main_while0b_v21 main_while0b_v22 (addf : (⟨S4096x512, .f32⟩ : BufTy).Contents (Elt F) → (⟨S4096x512, .f32⟩ : BufTy).Contents (Elt F) → (⟨S4096x512, .f32⟩ : BufTy).Contents (Elt F))
  :: StableHlo.unary main_while0b_v22 main_while0b_v23 ((extractStridedSlice S4096x128 ![0, 0] · slices_S4096x512_S4096x128_0_0) : (⟨S4096x512, .f32⟩ : BufTy).Contents (Elt F) → (⟨S4096x128, .f32⟩ : BufTy).Contents (Elt F))
  :: StableHlo.unary main_while0b_v22 main_while0b_v24 ((extractStridedSlice S4096x128 ![0, 128] · slices_S4096x512_S4096x128_0_128) : (⟨S4096x512, .f32⟩ : BufTy).Contents (Elt F) → (⟨S4096x128, .f32⟩ : BufTy).Contents (Elt F))
  :: StableHlo.unary main_while0b_v22 main_while0b_v25 ((extractStridedSlice S4096x128 ![0, 256] · slices_S4096x512_S4096x128_0_256) : (⟨S4096x512, .f32⟩ : BufTy).Contents (Elt F) → (⟨S4096x128, .f32⟩ : BufTy).Contents (Elt F))
  :: StableHlo.unary main_while0b_v22 main_while0b_v26 ((extractStridedSlice S4096x128 ![0, 384] · slices_S4096x512_S4096x128_0_384) : (⟨S4096x512, .f32⟩ : BufTy).Contents (Elt F) → (⟨S4096x128, .f32⟩ : BufTy).Contents (Elt F))
  :: StableHlo.unary main_while0b_v23 main_while0b_v27 (Host.negf : (⟨S4096x128, .f32⟩ : BufTy).Contents (Elt F) → (⟨S4096x128, .f32⟩ : BufTy).Contents (Elt F))
  :: StableHlo.unary main_while0b_v27 main_while0b_v28 (Host.exp : (⟨S4096x128, .f32⟩ : BufTy).Contents (Elt F) → (⟨S4096x128, .f32⟩ : BufTy).Contents (Elt F))
  :: StableHlo.nullary main_while0b_cst_8 (constant S_ .f32 0x3F800000#32)
  :: StableHlo.unary main_while0b_cst_8 main_while0b_v29 (broadcastInDim S4096x128 ![] bcast_S_S4096x128 : (⟨S_, .f32⟩ : BufTy).Contents (Elt F) → (⟨S4096x128, .f32⟩ : BufTy).Contents (Elt F))
  :: StableHlo.binary main_while0b_v29 main_while0b_v28 main_while0b_v30 (addf : (⟨S4096x128, .f32⟩ : BufTy).Contents (Elt F) → (⟨S4096x128, .f32⟩ : BufTy).Contents (Elt F) → (⟨S4096x128, .f32⟩ : BufTy).Contents (Elt F))
  :: StableHlo.nullary main_while0b_cst_9 (constant S_ .f32 0x3F800000#32)
  :: StableHlo.unary main_while0b_cst_9 main_while0b_v31 (broadcastInDim S4096x128 ![] bcast_S_S4096x128 : (⟨S_, .f32⟩ : BufTy).Contents (Elt F) → (⟨S4096x128, .f32⟩ : BufTy).Contents (Elt F))
  :: StableHlo.binary main_while0b_v31 main_while0b_v30 main_while0b_v32 (Host.divf : (⟨S4096x128, .f32⟩ : BufTy).Contents (Elt F) → (⟨S4096x128, .f32⟩ : BufTy).Contents (Elt F) → (⟨S4096x128, .f32⟩ : BufTy).Contents (Elt F))
  :: StableHlo.unary main_while0b_v24 main_while0b_v33 (Host.negf : (⟨S4096x128, .f32⟩ : BufTy).Contents (Elt F) → (⟨S4096x128, .f32⟩ : BufTy).Contents (Elt F))
  :: StableHlo.unary main_while0b_v33 main_while0b_v34 (Host.exp : (⟨S4096x128, .f32⟩ : BufTy).Contents (Elt F) → (⟨S4096x128, .f32⟩ : BufTy).Contents (Elt F))
  :: StableHlo.nullary main_while0b_cst_10 (constant S_ .f32 0x3F800000#32)
  :: StableHlo.unary main_while0b_cst_10 main_while0b_v35 (broadcastInDim S4096x128 ![] bcast_S_S4096x128 : (⟨S_, .f32⟩ : BufTy).Contents (Elt F) → (⟨S4096x128, .f32⟩ : BufTy).Contents (Elt F))
  :: StableHlo.binary main_while0b_v35 main_while0b_v34 main_while0b_v36 (addf : (⟨S4096x128, .f32⟩ : BufTy).Contents (Elt F) → (⟨S4096x128, .f32⟩ : BufTy).Contents (Elt F) → (⟨S4096x128, .f32⟩ : BufTy).Contents (Elt F))
  :: StableHlo.nullary main_while0b_cst_11 (constant S_ .f32 0x3F800000#32)
  :: StableHlo.unary main_while0b_cst_11 main_while0b_v37 (broadcastInDim S4096x128 ![] bcast_S_S4096x128 : (⟨S_, .f32⟩ : BufTy).Contents (Elt F) → (⟨S4096x128, .f32⟩ : BufTy).Contents (Elt F))
  :: StableHlo.binary main_while0b_v37 main_while0b_v36 main_while0b_v38 (Host.divf : (⟨S4096x128, .f32⟩ : BufTy).Contents (Elt F) → (⟨S4096x128, .f32⟩ : BufTy).Contents (Elt F) → (⟨S4096x128, .f32⟩ : BufTy).Contents (Elt F))
  :: StableHlo.unary main_while0b_v25 main_while0b_v39 (Host.tanh : (⟨S4096x128, .f32⟩ : BufTy).Contents (Elt F) → (⟨S4096x128, .f32⟩ : BufTy).Contents (Elt F))
  :: StableHlo.unary main_while0b_v26 main_while0b_v40 (Host.negf : (⟨S4096x128, .f32⟩ : BufTy).Contents (Elt F) → (⟨S4096x128, .f32⟩ : BufTy).Contents (Elt F))
  :: StableHlo.unary main_while0b_v40 main_while0b_v41 (Host.exp : (⟨S4096x128, .f32⟩ : BufTy).Contents (Elt F) → (⟨S4096x128, .f32⟩ : BufTy).Contents (Elt F))
  :: StableHlo.nullary main_while0b_cst_12 (constant S_ .f32 0x3F800000#32)
  :: StableHlo.unary main_while0b_cst_12 main_while0b_v42 (broadcastInDim S4096x128 ![] bcast_S_S4096x128 : (⟨S_, .f32⟩ : BufTy).Contents (Elt F) → (⟨S4096x128, .f32⟩ : BufTy).Contents (Elt F))
  :: StableHlo.binary main_while0b_v42 main_while0b_v41 main_while0b_v43 (addf : (⟨S4096x128, .f32⟩ : BufTy).Contents (Elt F) → (⟨S4096x128, .f32⟩ : BufTy).Contents (Elt F) → (⟨S4096x128, .f32⟩ : BufTy).Contents (Elt F))
  :: StableHlo.nullary main_while0b_cst_13 (constant S_ .f32 0x3F800000#32)
  :: StableHlo.unary main_while0b_cst_13 main_while0b_v44 (broadcastInDim S4096x128 ![] bcast_S_S4096x128 : (⟨S_, .f32⟩ : BufTy).Contents (Elt F) → (⟨S4096x128, .f32⟩ : BufTy).Contents (Elt F))
  :: StableHlo.binary main_while0b_v44 main_while0b_v43 main_while0b_v45 (Host.divf : (⟨S4096x128, .f32⟩ : BufTy).Contents (Elt F) → (⟨S4096x128, .f32⟩ : BufTy).Contents (Elt F) → (⟨S4096x128, .f32⟩ : BufTy).Contents (Elt F))
  :: StableHlo.binary main_while0b_v38 main_v4_7 main_while0b_v46 (mulf : (⟨S4096x128, .f32⟩ : BufTy).Contents (Elt F) → (⟨S4096x128, .f32⟩ : BufTy).Contents (Elt F) → (⟨S4096x128, .f32⟩ : BufTy).Contents (Elt F))
  :: StableHlo.binary main_while0b_v32 main_while0b_v39 main_while0b_v47 (mulf : (⟨S4096x128, .f32⟩ : BufTy).Contents (Elt F) → (⟨S4096x128, .f32⟩ : BufTy).Contents (Elt F) → (⟨S4096x128, .f32⟩ : BufTy).Contents (Elt F))
  :: StableHlo.binary main_while0b_v46 main_while0b_v47 main_while0b_v48 (addf : (⟨S4096x128, .f32⟩ : BufTy).Contents (Elt F) → (⟨S4096x128, .f32⟩ : BufTy).Contents (Elt F) → (⟨S4096x128, .f32⟩ : BufTy).Contents (Elt F))
  :: StableHlo.unary main_while0b_v48 main_while0b_v49 (Host.tanh : (⟨S4096x128, .f32⟩ : BufTy).Contents (Elt F) → (⟨S4096x128, .f32⟩ : BufTy).Contents (Elt F))
  :: StableHlo.binary main_while0b_v45 main_while0b_v49 main_while0b_v50 (mulf : (⟨S4096x128, .f32⟩ : BufTy).Contents (Elt F) → (⟨S4096x128, .f32⟩ : BufTy).Contents (Elt F) → (⟨S4096x128, .f32⟩ : BufTy).Contents (Elt F))
  :: StableHlo.nullary main_while0b_c_14 (constantI S_ 32 1#32)
  :: StableHlo.binary main_v4_5 main_while0b_c_14 main_while0b_v51 (addi : (⟨S_, .i32⟩ : BufTy).Contents (Elt F) → (⟨S_, .i32⟩ : BufTy).Contents (Elt F) → (⟨S_, .i32⟩ : BufTy).Contents (Elt F))
  :: StableHlo.unary main_while0b_v51 main_v4_5 id
  :: StableHlo.unary main_while0b_v50 main_v4_6 id
  :: StableHlo.unary main_while0b_v48 main_v4_7 id
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons]
  chain_rfl

end Cert.Proof.RefRun

namespace Cert.Proof.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_cst, main_v1, main_cst_0, main_v2, main_v3, main_c, main_v4_0, main_v4_1, main_v4_2, main_v4_3, main_v4_4, main_v4_5, main_v4_6, main_v4_7]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_c, main_while0b_call1_c_0, main_while0b_call1_v0, main_while0b_v11]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v12, main_while0b_v13, main_while0b_v14, main_while0b_v15, main_while0b_v16, main_while0b_v17, main_while0b_v18, main_while0b_v19, main_while0b_v20, main_while0b_v21, main_while0b_v22, main_while0b_v23, main_while0b_v24, main_while0b_v25, main_while0b_v26, main_while0b_v27, main_while0b_v28, main_while0b_cst_8, main_while0b_v29, main_while0b_v30, main_while0b_cst_9, main_while0b_v31, main_while0b_v32, main_while0b_v33, main_while0b_v34, main_while0b_cst_10, main_while0b_v35, main_while0b_v36, main_while0b_cst_11, main_while0b_v37, main_while0b_v38, main_while0b_v39, main_while0b_v40, main_while0b_v41, main_while0b_cst_12, main_while0b_v42, main_while0b_v43, main_while0b_cst_13, main_while0b_v44, main_while0b_v45, main_while0b_v46, main_while0b_v47, main_while0b_v48, main_while0b_v49, main_while0b_v50, main_while0b_c_14, main_while0b_v51, main_v4_5, main_v4_6, main_v4_7]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_2` writes, in order. -/
abbrev hostOps0_2_W : List (Ref sig .tc) := [main_v5, main_v6, main_v7, main_v8, main_v9]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v10]
theorem hostOps0_3_writes : (hostOps0_3 : List (HloOp τ sig (Elt F))).Forall fun op => op.writes ⊆ (hostOps0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_8 (constantI S_ 32 50#32),
    StableHlo.binary main_v4_5 main_while0c_c_8 main_while0c_v11 (cmpi .slt) ]

/-- @main's stretches before the loop, the loop body's, and @main's after the loop. -/
abbrev preI : List (List (HloOp τ sig (Elt F))) := [hostOps0, hostOps0_1]
abbrev bodyI : List (List (HloOp τ sig (Elt F))) := [while0Ops0, while0Ops0_1]
abbrev postI : List (List (HloOp τ sig (Elt F))) := [hostOps0_2, hostOps0_3]

theorem hpre : Plain (preI (F := F)) := .cons hostOps0_sub (hf := List.forall_iff_forall_mem.mp hostOps0_fresh) (.cons hostOps0_1_sub (hf := List.forall_iff_forall_mem.mp hostOps0_1_fresh) (.nil))
theorem hbodyI : Plain (bodyI (F := F)) := .cons while0Ops0_sub (hf := List.forall_iff_forall_mem.mp while0Ops0_fresh) (.cons while0Ops0_1_sub (hf := List.forall_iff_forall_mem.mp while0Ops0_1_fresh) (.nil))
theorem hpost : Plain (postI (F := F)) := .cons hostOps0_2_sub (hf := List.forall_iff_forall_mem.mp hostOps0_2_fresh) (.cons hostOps0_3_sub (hf := List.forall_iff_forall_mem.mp hostOps0_3_fresh) (.nil))

/-- The reference each operation of `condOps` writes, in order. -/
abbrev condOps_W : List (Ref sig .tc) := [main_while0c_c_8, main_while0c_v11]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_5`) is written by one stretch of the body, `while0Ops0_1`: not by the condition, nor by the
    body's other stretches. -/
theorem ctr_cond (V : Valuation τ sig (Elt F)) : after condOps V (Proc.devRef .tc main_v4_5) = V (Proc.devRef .tc main_v4_5) :=
  after_of_writes_sub condOps V condOps_writes (by decide +kernel)
theorem ctr_while0Ops0 (V : Valuation τ sig (Elt F)) : after while0Ops0 V (Proc.devRef .tc main_v4_5) = V (Proc.devRef .tc main_v4_5) :=
  after_of_writes_sub while0Ops0 V while0Ops0_writes (by decide +kernel)

/-- The body's operations 1 … 3 of 54. -/
abbrev trip_w0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v4_0 : StableHlo.TRef sig ⟨S50x4096x64, .f32⟩) ![(.of main_v4_5 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x4096x64, .f32⟩) (fun x i => Host.dynamicSlice S1x4096x64 x (fun k => (i k (Shape.Idx.first h_S_)).toInt) sliceFits_S50x4096x64_S1x4096x64) ]

/-- The body's operations 4 … 4 of 54. -/
abbrev trip_w1 : List (HloOp τ sig (Elt F)) :=
  [ StableHlo.TRef.reshape (.of main_while0b_call1_v0 : StableHlo.TRef sig ⟨S1x4096x64, .f32⟩) (.of main_while0b_v11 : StableHlo.TRef sig ⟨S4096x64, .f32⟩) (rfl : (.f32 : EltTy) = .f32) shapeCasts_S1x4096x64_S4096x64 ]

/-- The body's operations 5 … 28 of 54. -/
abbrev trip_w2 : List (HloOp τ sig (Elt F)) :=
  [ StableHlo.unary main_v4_1 main_while0b_v12 ((transpose S64x512 [1, 0] · transposes_S512x64_S64x512_1_0) : (⟨S512x64, .f32⟩ : BufTy).Contents (Elt F) → (⟨S64x512, .f32⟩ : BufTy).Contents (Elt F)),
    StableHlo.binary main_while0b_v11 main_while0b_v12 main_while0b_v13 ((fun l r => Host.dotGeneral dot_S4096x64_S64x512_S4096x512_1_0_0_1_n_n none l r) : (⟨S4096x64, .f32⟩ : BufTy).Contents (Elt F) → (⟨S64x512, .f32⟩ : BufTy).Contents (Elt F) → (⟨S4096x512, .f32⟩ : BufTy).Contents (Elt F)),
    StableHlo.unary main_v4_2 main_while0b_v14 ((transpose S128x512 [1, 0] · transposes_S512x128_S128x512_1_0) : (⟨S512x128, .f32⟩ : BufTy).Contents (Elt F) → (⟨S128x512, .f32⟩ : BufTy).Contents (Elt F)),
    StableHlo.binary main_v4_6 main_while0b_v14 main_while0b_v15 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    StableHlo.binary main_while0b_v13 main_while0b_v15 main_while0b_v16 (addf : (⟨S4096x512, .f32⟩ : BufTy).Contents (Elt F) → (⟨S4096x512, .f32⟩ : BufTy).Contents (Elt F) → (⟨S4096x512, .f32⟩ : BufTy).Contents (Elt F)),
    StableHlo.unary main_v4_3 main_while0b_v17 (broadcastInDim S1x512 ![1] bcast_S512_S1x512_1 : (⟨S512, .f32⟩ : BufTy).Contents (Elt F) → (⟨S1x512, .f32⟩ : BufTy).Contents (Elt F)),
    StableHlo.unary main_while0b_v17 main_while0b_v18 (broadcastInDim S4096x512 ![0, 1] bcast_S1x512_S4096x512_0_1 : (⟨S1x512, .f32⟩ : BufTy).Contents (Elt F) → (⟨S4096x512, .f32⟩ : BufTy).Contents (Elt F)),
    StableHlo.binary main_while0b_v16 main_while0b_v18 main_while0b_v19 (addf : (⟨S4096x512, .f32⟩ : BufTy).Contents (Elt F) → (⟨S4096x512, .f32⟩ : BufTy).Contents (Elt F) → (⟨S4096x512, .f32⟩ : BufTy).Contents (Elt F)),
    StableHlo.unary main_v4_4 main_while0b_v20 (broadcastInDim S1x512 ![1] bcast_S512_S1x512_1 : (⟨S512, .f32⟩ : BufTy).Contents (Elt F) → (⟨S1x512, .f32⟩ : BufTy).Contents (Elt F)),
    StableHlo.unary main_while0b_v20 main_while0b_v21 (broadcastInDim S4096x512 ![0, 1] bcast_S1x512_S4096x512_0_1 : (⟨S1x512, .f32⟩ : BufTy).Contents (Elt F) → (⟨S4096x512, .f32⟩ : BufTy).Contents (Elt F)),
    StableHlo.binary main_while0b_v19 main_while0b_v21 main_while0b_v22 (addf : (⟨S4096x512, .f32⟩ : BufTy).Contents (Elt F) → (⟨S4096x512, .f32⟩ : BufTy).Contents (Elt F) → (⟨S4096x512, .f32⟩ : BufTy).Contents (Elt F)),
    StableHlo.unary main_while0b_v22 main_while0b_v23 ((extractStridedSlice S4096x128 ![0, 0] · slices_S4096x512_S4096x128_0_0) : (⟨S4096x512, .f32⟩ : BufTy).Contents (Elt F) → (⟨S4096x128, .f32⟩ : BufTy).Contents (Elt F)),
    StableHlo.unary main_while0b_v22 main_while0b_v24 ((extractStridedSlice S4096x128 ![0, 128] · slices_S4096x512_S4096x128_0_128) : (⟨S4096x512, .f32⟩ : BufTy).Contents (Elt F) → (⟨S4096x128, .f32⟩ : BufTy).Contents (Elt F)),
    StableHlo.unary main_while0b_v22 main_while0b_v25 ((extractStridedSlice S4096x128 ![0, 256] · slices_S4096x512_S4096x128_0_256) : (⟨S4096x512, .f32⟩ : BufTy).Contents (Elt F) → (⟨S4096x128, .f32⟩ : BufTy).Contents (Elt F)),
    StableHlo.unary main_while0b_v22 main_while0b_v26 ((extractStridedSlice S4096x128 ![0, 384] · slices_S4096x512_S4096x128_0_384) : (⟨S4096x512, .f32⟩ : BufTy).Contents (Elt F) → (⟨S4096x128, .f32⟩ : BufTy).Contents (Elt F)),
    StableHlo.unary main_while0b_v23 main_while0b_v27 (Host.negf : (⟨S4096x128, .f32⟩ : BufTy).Contents (Elt F) → (⟨S4096x128, .f32⟩ : BufTy).Contents (Elt F)),
    StableHlo.unary main_while0b_v27 main_while0b_v28 (Host.exp : (⟨S4096x128, .f32⟩ : BufTy).Contents (Elt F) → (⟨S4096x128, .f32⟩ : BufTy).Contents (Elt F)),
    StableHlo.nullary main_while0b_cst_8 (constant S_ .f32 0x3F800000#32),
    StableHlo.unary main_while0b_cst_8 main_while0b_v29 (broadcastInDim S4096x128 ![] bcast_S_S4096x128 : (⟨S_, .f32⟩ : BufTy).Contents (Elt F) → (⟨S4096x128, .f32⟩ : BufTy).Contents (Elt F)),
    StableHlo.binary main_while0b_v29 main_while0b_v28 main_while0b_v30 (addf : (⟨S4096x128, .f32⟩ : BufTy).Contents (Elt F) → (⟨S4096x128, .f32⟩ : BufTy).Contents (Elt F) → (⟨S4096x128, .f32⟩ : BufTy).Contents (Elt F)),
    StableHlo.nullary main_while0b_cst_9 (constant S_ .f32 0x3F800000#32),
    StableHlo.unary main_while0b_cst_9 main_while0b_v31 (broadcastInDim S4096x128 ![] bcast_S_S4096x128 : (⟨S_, .f32⟩ : BufTy).Contents (Elt F) → (⟨S4096x128, .f32⟩ : BufTy).Contents (Elt F)),
    StableHlo.binary main_while0b_v31 main_while0b_v30 main_while0b_v32 (Host.divf : (⟨S4096x128, .f32⟩ : BufTy).Contents (Elt F) → (⟨S4096x128, .f32⟩ : BufTy).Contents (Elt F) → (⟨S4096x128, .f32⟩ : BufTy).Contents (Elt F)),
    StableHlo.unary main_while0b_v24 main_while0b_v33 (Host.negf : (⟨S4096x128, .f32⟩ : BufTy).Contents (Elt F) → (⟨S4096x128, .f32⟩ : BufTy).Contents (Elt F)) ]

/-- The body's operations 29 … 49 of 54. -/
abbrev trip_w3 : List (HloOp τ sig (Elt F)) :=
  [ StableHlo.unary main_while0b_v33 main_while0b_v34 (Host.exp : (⟨S4096x128, .f32⟩ : BufTy).Contents (Elt F) → (⟨S4096x128, .f32⟩ : BufTy).Contents (Elt F)),
    StableHlo.nullary main_while0b_cst_10 (constant S_ .f32 0x3F800000#32),
    StableHlo.unary main_while0b_cst_10 main_while0b_v35 (broadcastInDim S4096x128 ![] bcast_S_S4096x128 : (⟨S_, .f32⟩ : BufTy).Contents (Elt F) → (⟨S4096x128, .f32⟩ : BufTy).Contents (Elt F)),
    StableHlo.binary main_while0b_v35 main_while0b_v34 main_while0b_v36 (addf : (⟨S4096x128, .f32⟩ : BufTy).Contents (Elt F) → (⟨S4096x128, .f32⟩ : BufTy).Contents (Elt F) → (⟨S4096x128, .f32⟩ : BufTy).Contents (Elt F)),
    StableHlo.nullary main_while0b_cst_11 (constant S_ .f32 0x3F800000#32),
    StableHlo.unary main_while0b_cst_11 main_while0b_v37 (broadcastInDim S4096x128 ![] bcast_S_S4096x128 : (⟨S_, .f32⟩ : BufTy).Contents (Elt F) → (⟨S4096x128, .f32⟩ : BufTy).Contents (Elt F)),
    StableHlo.binary main_while0b_v37 main_while0b_v36 main_while0b_v38 (Host.divf : (⟨S4096x128, .f32⟩ : BufTy).Contents (Elt F) → (⟨S4096x128, .f32⟩ : BufTy).Contents (Elt F) → (⟨S4096x128, .f32⟩ : BufTy).Contents (Elt F)),
    StableHlo.unary main_while0b_v25 main_while0b_v39 (Host.tanh : (⟨S4096x128, .f32⟩ : BufTy).Contents (Elt F) → (⟨S4096x128, .f32⟩ : BufTy).Contents (Elt F)),
    StableHlo.unary main_while0b_v26 main_while0b_v40 (Host.negf : (⟨S4096x128, .f32⟩ : BufTy).Contents (Elt F) → (⟨S4096x128, .f32⟩ : BufTy).Contents (Elt F)),
    StableHlo.unary main_while0b_v40 main_while0b_v41 (Host.exp : (⟨S4096x128, .f32⟩ : BufTy).Contents (Elt F) → (⟨S4096x128, .f32⟩ : BufTy).Contents (Elt F)),
    StableHlo.nullary main_while0b_cst_12 (constant S_ .f32 0x3F800000#32),
    StableHlo.unary main_while0b_cst_12 main_while0b_v42 (broadcastInDim S4096x128 ![] bcast_S_S4096x128 : (⟨S_, .f32⟩ : BufTy).Contents (Elt F) → (⟨S4096x128, .f32⟩ : BufTy).Contents (Elt F)),
    StableHlo.binary main_while0b_v42 main_while0b_v41 main_while0b_v43 (addf : (⟨S4096x128, .f32⟩ : BufTy).Contents (Elt F) → (⟨S4096x128, .f32⟩ : BufTy).Contents (Elt F) → (⟨S4096x128, .f32⟩ : BufTy).Contents (Elt F)),
    StableHlo.nullary main_while0b_cst_13 (constant S_ .f32 0x3F800000#32),
    StableHlo.unary main_while0b_cst_13 main_while0b_v44 (broadcastInDim S4096x128 ![] bcast_S_S4096x128 : (⟨S_, .f32⟩ : BufTy).Contents (Elt F) → (⟨S4096x128, .f32⟩ : BufTy).Contents (Elt F)),
    StableHlo.binary main_while0b_v44 main_while0b_v43 main_while0b_v45 (Host.divf : (⟨S4096x128, .f32⟩ : BufTy).Contents (Elt F) → (⟨S4096x128, .f32⟩ : BufTy).Contents (Elt F) → (⟨S4096x128, .f32⟩ : BufTy).Contents (Elt F)),
    StableHlo.binary main_while0b_v38 main_v4_7 main_while0b_v46 (mulf : (⟨S4096x128, .f32⟩ : BufTy).Contents (Elt F) → (⟨S4096x128, .f32⟩ : BufTy).Contents (Elt F) → (⟨S4096x128, .f32⟩ : BufTy).Contents (Elt F)),
    StableHlo.binary main_while0b_v32 main_while0b_v39 main_while0b_v47 (mulf : (⟨S4096x128, .f32⟩ : BufTy).Contents (Elt F) → (⟨S4096x128, .f32⟩ : BufTy).Contents (Elt F) → (⟨S4096x128, .f32⟩ : BufTy).Contents (Elt F)),
    StableHlo.binary main_while0b_v46 main_while0b_v47 main_while0b_v48 (addf : (⟨S4096x128, .f32⟩ : BufTy).Contents (Elt F) → (⟨S4096x128, .f32⟩ : BufTy).Contents (Elt F) → (⟨S4096x128, .f32⟩ : BufTy).Contents (Elt F)),
    StableHlo.unary main_while0b_v48 main_while0b_v49 (Host.tanh : (⟨S4096x128, .f32⟩ : BufTy).Contents (Elt F) → (⟨S4096x128, .f32⟩ : BufTy).Contents (Elt F)),
    StableHlo.binary main_while0b_v45 main_while0b_v49 main_while0b_v50 (mulf : (⟨S4096x128, .f32⟩ : BufTy).Contents (Elt F) → (⟨S4096x128, .f32⟩ : BufTy).Contents (Elt F) → (⟨S4096x128, .f32⟩ : BufTy).Contents (Elt F)) ]

/-- The body's operations 50 … 54 of 54: the counter's step and the copies back into the carried buffers. -/
abbrev while0Ops0_1_step : List (HloOp τ sig (Elt F)) :=
  [ StableHlo.nullary main_while0b_c_14 (constantI S_ 32 1#32),
    StableHlo.binary main_v4_5 main_while0b_c_14 main_while0b_v51 (addi : (⟨S_, .i32⟩ : BufTy).Contents (Elt F) → (⟨S_, .i32⟩ : BufTy).Contents (Elt F) → (⟨S_, .i32⟩ : BufTy).Contents (Elt F)),
    StableHlo.unary main_while0b_v51 main_v4_5 id,
    StableHlo.unary main_while0b_v50 main_v4_6 id,
    StableHlo.unary main_while0b_v48 main_v4_7 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order, then the step. -/
theorem while0Ops0_1_cut : (while0Ops0_1 : List (HloOp τ sig (Elt F))) = trip_w2 ++ (trip_w3 ++ (while0Ops0_1_step)) := rfl

/-- The buffers that window `trip_w0`'s operations write. -/
abbrev trip_w0_W : List (Ref sig .tc) := [main_while0b_call1_c, main_while0b_call1_c_0, main_while0b_call1_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v11]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_v12, main_while0b_v13, main_while0b_v14, main_while0b_v15, main_while0b_v16, main_while0b_v17, main_while0b_v18, main_while0b_v19, main_while0b_v20, main_while0b_v21, main_while0b_v22, main_while0b_v23, main_while0b_v24, main_while0b_v25, main_while0b_v26, main_while0b_v27, main_while0b_v28, main_while0b_cst_8, main_while0b_v29, main_while0b_v30, main_while0b_cst_9, main_while0b_v31, main_while0b_v32, main_while0b_v33]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v34, main_while0b_cst_10, main_while0b_v35, main_while0b_v36, main_while0b_cst_11, main_while0b_v37, main_while0b_v38, main_while0b_v39, main_while0b_v40, main_while0b_v41, main_while0b_cst_12, main_while0b_v42, main_while0b_v43, main_while0b_cst_13, main_while0b_v44, main_while0b_v45, main_while0b_v46, main_while0b_v47, main_while0b_v48, main_while0b_v49, main_while0b_v50]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w2 (V : Valuation τ sig (Elt F)) : after trip_w2 V (Proc.devRef .tc main_v4_5) = V (Proc.devRef .tc main_v4_5) :=
  after_of_writes_sub trip_w2 V trip_w2_writes (by decide +kernel)
theorem ctr_trip_w3 (V : Valuation τ sig (Elt F)) : after trip_w3 V (Proc.devRef .tc main_v4_5) = V (Proc.devRef .tc main_v4_5) :=
  after_of_writes_sub trip_w3 V trip_w3_writes (by decide +kernel)

set_option maxRecDepth 100000 in
/-- `while0Ops0_1_step` leaves the counter one step on. -/
theorem ctr_while0Ops0_1_step (Y : Valuation τ sig (Elt F)) :
    after while0Ops0_1_step Y (Proc.devRef .tc main_v4_5) = addi (Y (Proc.devRef .tc main_v4_5)) (constantI S_ 32 1#32) := by
  after_results
  rfl

set_option maxRecDepth 100000 in
/-- `while0Ops0_1` leaves the counter one step on: its windows do not write the counter, and `while0Ops0_1_step` steps it. -/
theorem ctr_step (X : Valuation τ sig (Elt F)) :
    after while0Ops0_1 X (Proc.devRef .tc main_v4_5) = addi (X (Proc.devRef .tc main_v4_5)) (constantI S_ 32 1#32) := by
  simp only [while0Ops0_1_cut, after_append]
  rw [ctr_while0Ops0_1_step, ctr_trip_w3, ctr_trip_w2]

/-- The counter is the loop's lower bound at the loop's entry: its last writer before the loop read back. -/
theorem ctr_entry (c : Dev nD) : entryContents preI m c (Proc.devRef .tc main_v4_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 50 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_5 HostLoop.idx0)
        (HloOp.result _ (atK m k c) main_while0c_c_8 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 50 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 50 m ρ (cond_spec m)

/-! ## One trip's values -/

set_option maxRecDepth 8192 in
/-- `main_while0b_v22`'s composed term of the carried buffers (named: it is used 4 times). -/
def res_main_while0b_v22 (V0 : Valuation τ sig (Elt F)) : (Proc.devRef .tc main_while0b_v22 : DevRef τ sig).ty.Contents (Elt F) :=
  addf (addf (addf (Host.dotGeneral dot_S4096x64_S64x512_S4096x512_1_0_0_1_n_n none (shapeCast S4096x64 (Host.dynamicSlice S1x4096x64 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S50x4096x64_S1x4096x64) shapeCasts_S1x4096x64_S4096x64) (transpose S64x512 [1, 0] (V0 (Proc.devRef .tc main_v4_1)) transposes_S512x64_S64x512_1_0)) (Host.dotGeneral dot_S4096x128_S128x512_S4096x512_1_0_0_1_n_n none (V0 (Proc.devRef .tc main_v4_6)) (transpose S128x512 [1, 0] (V0 (Proc.devRef .tc main_v4_2)) transposes_S512x128_S128x512_1_0))) (broadcastInDim S4096x512 ![0, 1] bcast_S1x512_S4096x512_0_1 (broadcastInDim S1x512 ![1] bcast_S512_S1x512_1 (V0 (Proc.devRef .tc main_v4_3))))) (broadcastInDim S4096x512 ![0, 1] bcast_S1x512_S4096x512_0_1 (broadcastInDim S1x512 ![1] bcast_S512_S1x512_1 (V0 (Proc.devRef .tc main_v4_4))))

set_option maxRecDepth 8192 in
/-- `main_while0b_v48`'s composed term of the carried buffers (named: it is used 2 times). -/
def res_main_while0b_v48 (V0 : Valuation τ sig (Elt F)) : (Proc.devRef .tc main_while0b_v48 : DevRef τ sig).ty.Contents (Elt F) :=
  addf (mulf (Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 128] (res_main_while0b_v22 V0) slices_S4096x512_S4096x128_0_128))))) (V0 (Proc.devRef .tc main_v4_7))) (mulf (Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 0] (res_main_while0b_v22 V0) slices_S4096x512_S4096x128_0_0))))) (Host.tanh (extractStridedSlice S4096x128 ![0, 256] (res_main_while0b_v22 V0) slices_S4096x512_S4096x128_0_256)))

/-- The device's buffer contents before the body's first window. -/
def val0 (V0 : Valuation τ sig (Elt F)) : Valuation τ sig (Elt F) := V0
theorem val0_main_v4_0 (V0 : Valuation τ sig (Elt F)) : val0 V0 (no_index (Proc.devRef .tc main_v4_0)) = V0 (Proc.devRef .tc main_v4_0) := rfl
theorem val0_main_v4_5 (V0 : Valuation τ sig (Elt F)) : val0 V0 (no_index (Proc.devRef .tc main_v4_5)) = V0 (Proc.devRef .tc main_v4_5) := rfl
theorem val0_main_v4_1 (V0 : Valuation τ sig (Elt F)) : val0 V0 (no_index (Proc.devRef .tc main_v4_1)) = V0 (Proc.devRef .tc main_v4_1) := rfl
theorem val0_main_v4_2 (V0 : Valuation τ sig (Elt F)) : val0 V0 (no_index (Proc.devRef .tc main_v4_2)) = V0 (Proc.devRef .tc main_v4_2) := rfl
theorem val0_main_v4_6 (V0 : Valuation τ sig (Elt F)) : val0 V0 (no_index (Proc.devRef .tc main_v4_6)) = V0 (Proc.devRef .tc main_v4_6) := rfl
theorem val0_main_v4_3 (V0 : Valuation τ sig (Elt F)) : val0 V0 (no_index (Proc.devRef .tc main_v4_3)) = V0 (Proc.devRef .tc main_v4_3) := rfl
theorem val0_main_v4_4 (V0 : Valuation τ sig (Elt F)) : val0 V0 (no_index (Proc.devRef .tc main_v4_4)) = V0 (Proc.devRef .tc main_v4_4) := rfl
theorem val0_main_v4_7 (V0 : Valuation τ sig (Elt F)) : val0 V0 (no_index (Proc.devRef .tc main_v4_7)) = V0 (Proc.devRef .tc main_v4_7) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
theorem val1_main_v4_5 (V0 : Valuation τ sig (Elt F)) : val1 V0 (no_index (Proc.devRef .tc main_v4_5)) = V0 (Proc.devRef .tc main_v4_5) :=
  (val1_keep V0 main_v4_5 (by decide)).trans (val0_main_v4_5 V0)
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
theorem val1_main_v4_6 (V0 : Valuation τ sig (Elt F)) : val1 V0 (no_index (Proc.devRef .tc main_v4_6)) = V0 (Proc.devRef .tc main_v4_6) :=
  (val1_keep V0 main_v4_6 (by decide)).trans (val0_main_v4_6 V0)
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
theorem val1_main_v4_7 (V0 : Valuation τ sig (Elt F)) : val1 V0 (no_index (Proc.devRef .tc main_v4_7)) = V0 (Proc.devRef .tc main_v4_7) :=
  (val1_keep V0 main_v4_7 (by decide)).trans (val0_main_v4_7 V0)
set_option maxRecDepth 8192 in
theorem val1_main_while0b_call1_v0 (V0 : Valuation τ sig (Elt F)) : val1 V0 (no_index (Proc.devRef .tc main_while0b_call1_v0)) = Host.dynamicSlice S1x4096x64 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S50x4096x64_S1x4096x64 := by
  unfold val1
  simp only [trip_w0]
  after_results_entrywise [val0_main_v4_5, val0_main_v4_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
theorem val2_main_v4_5 (V0 : Valuation τ sig (Elt F)) : val2 V0 (no_index (Proc.devRef .tc main_v4_5)) = V0 (Proc.devRef .tc main_v4_5) :=
  (val2_keep V0 main_v4_5 (by decide)).trans (val1_main_v4_5 V0)
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
theorem val2_main_v4_6 (V0 : Valuation τ sig (Elt F)) : val2 V0 (no_index (Proc.devRef .tc main_v4_6)) = V0 (Proc.devRef .tc main_v4_6) :=
  (val2_keep V0 main_v4_6 (by decide)).trans (val1_main_v4_6 V0)
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
theorem val2_main_v4_7 (V0 : Valuation τ sig (Elt F)) : val2 V0 (no_index (Proc.devRef .tc main_v4_7)) = V0 (Proc.devRef .tc main_v4_7) :=
  (val2_keep V0 main_v4_7 (by decide)).trans (val1_main_v4_7 V0)
set_option maxRecDepth 8192 in
theorem val2_main_while0b_v11 (V0 : Valuation τ sig (Elt F)) : val2 V0 (no_index (Proc.devRef .tc main_while0b_v11)) = shapeCast S4096x64 (Host.dynamicSlice S1x4096x64 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S50x4096x64_S1x4096x64) shapeCasts_S1x4096x64_S4096x64 := by
  unfold val2
  simp only [trip_w1]
  after_results_entrywise [val1_main_while0b_call1_v0, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
theorem val3_main_v4_5 (V0 : Valuation τ sig (Elt F)) : val3 V0 (no_index (Proc.devRef .tc main_v4_5)) = V0 (Proc.devRef .tc main_v4_5) :=
  (val3_keep V0 main_v4_5 (by decide)).trans (val2_main_v4_5 V0)
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
theorem val3_main_v4_6 (V0 : Valuation τ sig (Elt F)) : val3 V0 (no_index (Proc.devRef .tc main_v4_6)) = V0 (Proc.devRef .tc main_v4_6) :=
  (val3_keep V0 main_v4_6 (by decide)).trans (val2_main_v4_6 V0)
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
theorem val3_main_v4_7 (V0 : Valuation τ sig (Elt F)) : val3 V0 (no_index (Proc.devRef .tc main_v4_7)) = V0 (Proc.devRef .tc main_v4_7) :=
  (val3_keep V0 main_v4_7 (by decide)).trans (val2_main_v4_7 V0)
set_option maxRecDepth 8192 in
set_option maxHeartbeats 2000000 in
theorem val3_main_while0b_v25 (V0 : Valuation τ sig (Elt F)) : val3 V0 (no_index (Proc.devRef .tc main_while0b_v25)) = extractStridedSlice S4096x128 ![0, 256] (res_main_while0b_v22 V0) slices_S4096x512_S4096x128_0_256 := by
  unfold val3
  simp only [trip_w2]
  after_results_entrywise [val2_main_v4_4, val2_main_v4_3, val2_main_v4_2, val2_main_v4_6, val2_main_v4_1, val2_main_while0b_v11, res_main_while0b_v22, cast_eq]
set_option maxRecDepth 8192 in
set_option maxHeartbeats 2000000 in
theorem val3_main_while0b_v26 (V0 : Valuation τ sig (Elt F)) : val3 V0 (no_index (Proc.devRef .tc main_while0b_v26)) = extractStridedSlice S4096x128 ![0, 384] (res_main_while0b_v22 V0) slices_S4096x512_S4096x128_0_384 := by
  unfold val3
  simp only [trip_w2]
  after_results_entrywise [val2_main_v4_4, val2_main_v4_3, val2_main_v4_2, val2_main_v4_6, val2_main_v4_1, val2_main_while0b_v11, res_main_while0b_v22, cast_eq]
set_option maxRecDepth 8192 in
set_option maxHeartbeats 2000000 in
theorem val3_main_while0b_v32 (V0 : Valuation τ sig (Elt F)) : val3 V0 (no_index (Proc.devRef .tc main_while0b_v32)) = Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 0] (res_main_while0b_v22 V0) slices_S4096x512_S4096x128_0_0)))) := by
  unfold val3
  simp only [trip_w2]
  after_results_entrywise [val2_main_v4_4, val2_main_v4_3, val2_main_v4_2, val2_main_v4_6, val2_main_v4_1, val2_main_while0b_v11, res_main_while0b_v22, cast_eq]
set_option maxRecDepth 8192 in
set_option maxHeartbeats 2000000 in
theorem val3_main_while0b_v33 (V0 : Valuation τ sig (Elt F)) : val3 V0 (no_index (Proc.devRef .tc main_while0b_v33)) = Host.negf (extractStridedSlice S4096x128 ![0, 128] (res_main_while0b_v22 V0) slices_S4096x512_S4096x128_0_128) := by
  unfold val3
  simp only [trip_w2]
  after_results_entrywise [val2_main_v4_4, val2_main_v4_3, val2_main_v4_2, val2_main_v4_6, val2_main_v4_1, val2_main_while0b_v11, res_main_while0b_v22, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
theorem val4_main_v4_5 (V0 : Valuation τ sig (Elt F)) : val4 V0 (no_index (Proc.devRef .tc main_v4_5)) = V0 (Proc.devRef .tc main_v4_5) :=
  (val4_keep V0 main_v4_5 (by decide)).trans (val3_main_v4_5 V0)
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
theorem val4_main_v4_6 (V0 : Valuation τ sig (Elt F)) : val4 V0 (no_index (Proc.devRef .tc main_v4_6)) = V0 (Proc.devRef .tc main_v4_6) :=
  (val4_keep V0 main_v4_6 (by decide)).trans (val3_main_v4_6 V0)
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
theorem val4_main_v4_7 (V0 : Valuation τ sig (Elt F)) : val4 V0 (no_index (Proc.devRef .tc main_v4_7)) = V0 (Proc.devRef .tc main_v4_7) :=
  (val4_keep V0 main_v4_7 (by decide)).trans (val3_main_v4_7 V0)
set_option maxRecDepth 8192 in
set_option maxHeartbeats 2000000 in
theorem val4_main_while0b_v48 (V0 : Valuation τ sig (Elt F)) : val4 V0 (no_index (Proc.devRef .tc main_while0b_v48)) = res_main_while0b_v48 V0 := by
  unfold val4
  simp only [trip_w3]
  after_results_entrywise [val3_main_while0b_v25, val3_main_while0b_v32, val3_main_v4_7, val3_main_while0b_v33, res_main_while0b_v48, cast_eq]
set_option maxRecDepth 8192 in
set_option maxHeartbeats 2000000 in
theorem val4_main_while0b_v50 (V0 : Valuation τ sig (Elt F)) : val4 V0 (no_index (Proc.devRef .tc main_while0b_v50)) = mulf (Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 384] (res_main_while0b_v22 V0) slices_S4096x512_S4096x128_0_384))))) (Host.tanh (res_main_while0b_v48 V0)) := by
  unfold val4
  simp only [trip_w3]
  after_results_entrywise [val3_main_while0b_v25, val3_main_while0b_v32, val3_main_v4_7, val3_main_while0b_v33, val3_main_while0b_v26, res_main_while0b_v48, cast_eq]

set_option maxRecDepth 8192 in
/-- The body's stretches, from any contents: the trip's windows in order, then `while0Ops0_1`'s step. -/
theorem trip_windows (V0 : Valuation τ sig (Elt F)) : after while0Ops0_1 (after while0Ops0 (V0)) = after while0Ops0_1_step (val4 V0) := by
  simp only [while0Ops0_cut, while0Ops0_1_cut, after_append]
  rfl

set_option maxRecDepth 8192 in
set_option maxHeartbeats 2000000 in
/-- `main_v4_0` after one trip's body, from any contents. -/
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_1` after one trip's body, from any contents. -/
theorem trip_main_v4_1 (V0 : Valuation τ sig (Elt F)) : afterL bodyI V0 (no_index (Proc.devRef .tc main_v4_1)) = V0 (Proc.devRef .tc main_v4_1) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_2` after one trip's body, from any contents. -/
theorem trip_main_v4_2 (V0 : Valuation τ sig (Elt F)) : afterL bodyI V0 (no_index (Proc.devRef .tc main_v4_2)) = V0 (Proc.devRef .tc main_v4_2) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_3` after one trip's body, from any contents. -/
theorem trip_main_v4_3 (V0 : Valuation τ sig (Elt F)) : afterL bodyI V0 (no_index (Proc.devRef .tc main_v4_3)) = V0 (Proc.devRef .tc main_v4_3) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_4` after one trip's body, from any contents. -/
theorem trip_main_v4_4 (V0 : Valuation τ sig (Elt F)) : afterL bodyI V0 (no_index (Proc.devRef .tc main_v4_4)) = V0 (Proc.devRef .tc main_v4_4) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_5` after one trip's body, from any contents. -/
theorem trip_main_v4_5 (V0 : Valuation τ sig (Elt F)) : afterL bodyI V0 (no_index (Proc.devRef .tc main_v4_5)) = id (addi (V0 (Proc.devRef .tc main_v4_5)) (constantI S_ 32 1#32)) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_6` after one trip's body, from any contents. -/
theorem trip_main_v4_6 (V0 : Valuation τ sig (Elt F)) : afterL bodyI V0 (no_index (Proc.devRef .tc main_v4_6)) = id (mulf (Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 384] (res_main_while0b_v22 V0) slices_S4096x512_S4096x128_0_384))))) (Host.tanh (res_main_while0b_v48 V0))) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl
set_option maxRecDepth 8192 in
set_option maxHeartbeats 2000000 in
/-- `main_v4_7` after one trip's body, from any contents. -/
theorem trip_main_v4_7 (V0 : Valuation τ sig (Elt F)) : afterL bodyI V0 (no_index (Proc.devRef .tc main_v4_7)) = id (res_main_while0b_v48 V0) := by
  simp only [bodyI, afterL_cons, afterL_nil, trip_windows]
  after_results
  all_goals (try simp only [val4_main_while0b_v50, val4_main_while0b_v48, val4_main_v4_0, val4_main_v4_1, val4_main_v4_2, val4_main_v4_3, val4_main_v4_4, val4_main_v4_5, val4_main_v4_6, val4_main_v4_7]) <;> rfl

/-- The loop's carried buffers. -/
abbrev carriedRefs : List (Ref sig .tc) := [main_v4_0, main_v4_1, main_v4_2, main_v4_3, main_v4_4, main_v4_5, main_v4_6, main_v4_7]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v22_congr {V0 V0' : Valuation τ sig (Elt F)} (h : Agree V0 V0') : res_main_while0b_v22 V0 = res_main_while0b_v22 V0' := by
  unfold res_main_while0b_v22
  rw [h main_v4_0 (by decide), h main_v4_5 (by decide), h main_v4_1 (by decide), h main_v4_6 (by decide), h main_v4_2 (by decide), h main_v4_3 (by decide), h main_v4_4 (by decide)]
set_option maxRecDepth 8192 in
theorem res_main_while0b_v48_congr {V0 V0' : Valuation τ sig (Elt F)} (h : Agree V0 V0') : res_main_while0b_v48 V0 = res_main_while0b_v48 V0' := by
  unfold res_main_while0b_v48
  rw [res_main_while0b_v22_congr h, h main_v4_7 (by decide)]

set_option maxRecDepth 8192 in
/-- `main_v4_5` after one trip, of the contents before it. -/
def step_main_v4_5 (V0 : Valuation τ sig (Elt F)) : (Proc.devRef .tc main_v4_5 : DevRef τ sig).ty.Contents (Elt F) :=
  id (addi (V0 (Proc.devRef .tc main_v4_5)) (constantI S_ 32 1#32))
set_option maxRecDepth 8192 in
theorem step_main_v4_5_congr {V0 V0' : Valuation τ sig (Elt F)} (h : Agree V0 V0') : step_main_v4_5 V0 = step_main_v4_5 V0' := by
  unfold step_main_v4_5
  rw [h main_v4_5 (by decide)]
set_option maxRecDepth 8192 in
/-- `main_v4_6` after one trip, of the contents before it. -/
def step_main_v4_6 (V0 : Valuation τ sig (Elt F)) : (Proc.devRef .tc main_v4_6 : DevRef τ sig).ty.Contents (Elt F) :=
  id (mulf (Host.divf (broadcastInDim S4096x128 ![] bcast_S_S4096x128 (constant S_ .f32 0x3F800000#32)) (addf (broadcastInDim S4096x128 ![] bcast_S_S4096x128 (constant S_ .f32 0x3F800000#32)) (Host.exp (Host.negf (extractStridedSlice S4096x128 ![0, 384] (res_main_while0b_v22 V0) slices_S4096x512_S4096x128_0_384))))) (Host.tanh (res_main_while0b_v48 V0)))
set_option maxRecDepth 8192 in
theorem step_main_v4_6_congr {V0 V0' : Valuation τ sig (Elt F)} (h : Agree V0 V0') : step_main_v4_6 V0 = step_main_v4_6 V0' := by
  unfold step_main_v4_6
  rw [res_main_while0b_v22_congr h, res_main_while0b_v48_congr h]
set_option maxRecDepth 8192 in
/-- `main_v4_7` after one trip, of the contents before it. -/
def step_main_v4_7 (V0 : Valuation τ sig (Elt F)) : (Proc.devRef .tc main_v4_7 : DevRef τ sig).ty.Contents (Elt F) :=
  id (res_main_while0b_v48 V0)
set_option maxRecDepth 8192 in
theorem step_main_v4_7_congr {V0 V0' : Valuation τ sig (Elt F)} (h : Agree V0 V0') : step_main_v4_7 V0 = step_main_v4_7 V0' := by
  unfold step_main_v4_7
  rw [res_main_while0b_v48_congr h]

/-- ONE TRIP on the carried buffers: the buffers the body writes step, everything else is as it was. -/
def STEP (V0 : Valuation τ sig (Elt F)) : Valuation τ sig (Elt F) :=
  Function.update (Function.update (Function.update (V0) (Proc.devRef .tc main_v4_5) (step_main_v4_5 V0)) (Proc.devRef .tc main_v4_6) (step_main_v4_6 V0)) (Proc.devRef .tc main_v4_7) (step_main_v4_7 V0)

theorem STEP_main_v4_0 (V0 : Valuation τ sig (Elt F)) : STEP V0 (Proc.devRef .tc main_v4_0) = V0 (Proc.devRef .tc main_v4_0) := by
  unfold STEP; rw [Function.update_of_ne (devRef_ne_of_ne (by decide))]; rw [Function.update_of_ne (devRef_ne_of_ne (by decide))]; rw [Function.update_of_ne (devRef_ne_of_ne (by decide))]
theorem STEP_main_v4_1 (V0 : Valuation τ sig (Elt F)) : STEP V0 (Proc.devRef .tc main_v4_1) = V0 (Proc.devRef .tc main_v4_1) := by
  unfold STEP; rw [Function.update_of_ne (devRef_ne_of_ne (by decide))]; rw [Function.update_of_ne (devRef_ne_of_ne (by decide))]; rw [Function.update_of_ne (devRef_ne_of_ne (by decide))]
theorem STEP_main_v4_2 (V0 : Valuation τ sig (Elt F)) : STEP V0 (Proc.devRef .tc main_v4_2) = V0 (Proc.devRef .tc main_v4_2) := by
  unfold STEP; rw [Function.update_of_ne (devRef_ne_of_ne (by decide))]; rw [Function.update_of_ne (devRef_ne_of_ne (by decide))]; rw [Function.update_of_ne (devRef_ne_of_ne (by decide))]
theorem STEP_main_v4_3 (V0 : Valuation τ sig (Elt F)) : STEP V0 (Proc.devRef .tc main_v4_3) = V0 (Proc.devRef .tc main_v4_3) := by
  unfold STEP; rw [Function.update_of_ne (devRef_ne_of_ne (by decide))]; rw [Function.update_of_ne (devRef_ne_of_ne (by decide))]; rw [Function.update_of_ne (devRef_ne_of_ne (by decide))]
theorem STEP_main_v4_4 (V0 : Valuation τ sig (Elt F)) : STEP V0 (Proc.devRef .tc main_v4_4) = V0 (Proc.devRef .tc main_v4_4) := by
  unfold STEP; rw [Function.update_of_ne (devRef_ne_of_ne (by decide))]; rw [Function.update_of_ne (devRef_ne_of_ne (by decide))]; rw [Function.update_of_ne (devRef_ne_of_ne (by decide))]
theorem STEP_main_v4_5 (V0 : Valuation τ sig (Elt F)) : STEP V0 (Proc.devRef .tc main_v4_5) = step_main_v4_5 V0 := by
  unfold STEP; rw [Function.update_of_ne (devRef_ne_of_ne (by decide))]; rw [Function.update_of_ne (devRef_ne_of_ne (by decide))]; rw [Function.update_self]
theorem STEP_main_v4_6 (V0 : Valuation τ sig (Elt F)) : STEP V0 (Proc.devRef .tc main_v4_6) = step_main_v4_6 V0 := by
  unfold STEP; rw [Function.update_of_ne (devRef_ne_of_ne (by decide))]; rw [Function.update_self]
theorem STEP_main_v4_7 (V0 : Valuation τ sig (Elt F)) : STEP V0 (Proc.devRef .tc main_v4_7) = step_main_v4_7 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v4_0 (after condOps X)).trans ((hc main_v4_0 (by decide)).trans (STEP_main_v4_0 X).symm)
  · exact (trip_main_v4_1 (after condOps X)).trans ((hc main_v4_1 (by decide)).trans (STEP_main_v4_1 X).symm)
  · exact (trip_main_v4_2 (after condOps X)).trans ((hc main_v4_2 (by decide)).trans (STEP_main_v4_2 X).symm)
  · exact (trip_main_v4_3 (after condOps X)).trans ((hc main_v4_3 (by decide)).trans (STEP_main_v4_3 X).symm)
  · exact (trip_main_v4_4 (after condOps X)).trans ((hc main_v4_4 (by decide)).trans (STEP_main_v4_4 X).symm)
  · exact (trip_main_v4_5 (after condOps X)).trans ((step_main_v4_5_congr hc).trans (STEP_main_v4_5 X).symm)
  · exact (trip_main_v4_6 (after condOps X)).trans ((step_main_v4_6_congr hc).trans (STEP_main_v4_6 X).symm)
  · exact (trip_main_v4_7 (after condOps X)).trans ((step_main_v4_7_congr hc).trans (STEP_main_v4_7 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v4_0, STEP_main_v4_0]; exact h main_v4_0 (by decide)
  · rw [STEP_main_v4_1, STEP_main_v4_1]; exact h main_v4_1 (by decide)
  · rw [STEP_main_v4_2, STEP_main_v4_2]; exact h main_v4_2 (by decide)
  · rw [STEP_main_v4_3, STEP_main_v4_3]; exact h main_v4_3 (by decide)
  · rw [STEP_main_v4_4, STEP_main_v4_4]; exact h main_v4_4 (by decide)
  · rw [STEP_main_v4_5, STEP_main_v4_5]; exact step_main_v4_5_congr h
  · rw [STEP_main_v4_6, STEP_main_v4_6]; exact step_main_v4_6_congr h
  · rw [STEP_main_v4_7, STEP_main_v4_7]; exact step_main_v4_7_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0_1, keep_main_arg3_hostOps0]
  | k + 1 => by
    rw [show atK m (k + 1) c = afterL bodyI (after condOps (atK m k c)) from rfl]
    simp only [afterL_cons, afterL_nil]
    rw [keep_main_arg3_while0Ops0_1, keep_main_arg3_while0Ops0, keep_main_arg3_condOps, atK_main_arg3 c k]

theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_hostOps0_2 (V : Valuation τ sig (Elt F)) : after hostOps0_2 V (Proc.devRef .tc main_arg4) = V (Proc.devRef .tc main_arg4) :=
  after_of_writes_sub hostOps0_2 V hostOps0_2_writes (by decide +kernel)
theorem keep_main_arg4_hostOps0_3 (V : Valuation τ sig (Elt F)) : after hostOps0_3 V (Proc.devRef .tc main_arg4) = V (Proc.devRef .tc main_arg4) :=
  after_of_writes_sub hostOps0_3 V hostOps0_3_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0_1, keep_main_arg4_hostOps0]
  | k + 1 => by
    rw [show atK m (k + 1) c = afterL bodyI (after condOps (atK m k c)) from rfl]
    simp only [afterL_cons, afterL_nil]
    rw [keep_main_arg4_while0Ops0_1, keep_main_arg4_while0Ops0, keep_main_arg4_condOps, atK_main_arg4 c k]

theorem keep_main_arg5_hostOps0 (V : Valuation τ sig (Elt F)) : after hostOps0 V (Proc.devRef .tc main_arg5) = V (Proc.devRef .tc main_arg5) :=
  after_of_writes_sub hostOps0 V hostOps0_writes (by decide +kernel)
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
theorem keep_main_arg5_condOps (V : Valuation τ sig (Elt F)) : after condOps V (Proc.devRef .tc main_arg5) = V (Proc.devRef .tc main_arg5) :=
  after_of_writes_sub condOps V condOps_writes (by decide +kernel)
theorem keep_main_arg5_while0Ops0 (V : Valuation τ sig (Elt F)) : after while0Ops0 V (Proc.devRef .tc main_arg5) = V (Proc.devRef .tc main_arg5) :=
  after_of_writes_sub while0Ops0 V while0Ops0_writes (by decide +kernel)
theorem keep_main_arg5_while0Ops0_1 (V : Valuation τ sig (Elt F)) : after while0Ops0_1 V (Proc.devRef .tc main_arg5) = V (Proc.devRef .tc main_arg5) :=
  after_of_writes_sub while0Ops0_1 V while0Ops0_1_writes (by decide +kernel)
theorem keep_main_arg5_hostOps0_2 (V : Valuation τ sig (Elt F)) : after hostOps0_2 V (Proc.devRef .tc main_arg5) = V (Proc.devRef .tc main_arg5) :=
  after_of_writes_sub hostOps0_2 V hostOps0_2_writes (by decide +kernel)
theorem keep_main_arg5_hostOps0_3 (V : Valuation τ sig (Elt F)) : after hostOps0_3 V (Proc.devRef .tc main_arg5) = V (Proc.devRef .tc main_arg5) :=
  after_of_writes_sub hostOps0_3 V hostOps0_3_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0_1, keep_main_arg5_hostOps0]
  | k + 1 => by
    rw [show atK m (k + 1) c = afterL bodyI (after condOps (atK m k c)) from rfl]
    simp only [afterL_cons, afterL_nil]
    rw [keep_main_arg5_while0Ops0_1, keep_main_arg5_while0Ops0, keep_main_arg5_condOps, atK_main_arg5 c k]

theorem keep_main_arg6_hostOps0 (V : Valuation τ sig (Elt F)) : after hostOps0 V (Proc.devRef .tc main_arg6) = V (Proc.devRef .tc main_arg6) :=
  after_of_writes_sub hostOps0 V hostOps0_writes (by decide +kernel)
theorem keep_main_arg6_hostOps0_1 (V : Valuation τ sig (Elt F)) : after hostOps0_1 V (Proc.devRef .tc main_arg6) = V (Proc.devRef .tc main_arg6) :=
  after_of_writes_sub hostOps0_1 V hostOps0_1_writes (by decide +kernel)
theorem keep_main_arg6_condOps (V : Valuation τ sig (Elt F)) : after condOps V (Proc.devRef .tc main_arg6) = V (Proc.devRef .tc main_arg6) :=
  after_of_writes_sub condOps V condOps_writes (by decide +kernel)
theorem keep_main_arg6_while0Ops0 (V : Valuation τ sig (Elt F)) : after while0Ops0 V (Proc.devRef .tc main_arg6) = V (Proc.devRef .tc main_arg6) :=
  after_of_writes_sub while0Ops0 V while0Ops0_writes (by decide +kernel)
theorem keep_main_arg6_while0Ops0_1 (V : Valuation τ sig (Elt F)) : after while0Ops0_1 V (Proc.devRef .tc main_arg6) = V (Proc.devRef .tc main_arg6) :=
  after_of_writes_sub while0Ops0_1 V while0Ops0_1_writes (by decide +kernel)
theorem keep_main_arg6_hostOps0_2 (V : Valuation τ sig (Elt F)) : after hostOps0_2 V (Proc.devRef .tc main_arg6) = V (Proc.devRef .tc main_arg6) :=
  after_of_writes_sub hostOps0_2 V hostOps0_2_writes (by decide +kernel)
theorem keep_main_arg6_hostOps0_3 (V : Valuation τ sig (Elt F)) : after hostOps0_3 V (Proc.devRef .tc main_arg6) = V (Proc.devRef .tc main_arg6) :=
  after_of_writes_sub hostOps0_3 V hostOps0_3_writes (by decide +kernel)
/-- The argument `main_arg6` is written by nothing: it holds its launch contents before every condition. -/
theorem atK_main_arg6 (c : Dev nD) : ∀ k, atK m k c (Proc.devRef .tc main_arg6) = m ((c.tc : Thread nD τ).loc main_arg6)
  | 0 => by
    rw [show atK m 0 c = entryContents preI m c from rfl]
    simp only [entryContents, afterL_cons, afterL_nil]
    rw [keep_main_arg6_hostOps0_1, keep_main_arg6_hostOps0]
  | k + 1 => by
    rw [show atK m (k + 1) c = afterL bodyI (after condOps (atK m k c)) from rfl]
    simp only [afterL_cons, afterL_nil]
    rw [keep_main_arg6_while0Ops0_1, keep_main_arg6_while0Ops0, keep_main_arg6_condOps, atK_main_arg6 c k]

theorem keep_main_arg7_hostOps0 (V : Valuation τ sig (Elt F)) : after hostOps0 V (Proc.devRef .tc main_arg7) = V (Proc.devRef .tc main_arg7) :=
  after_of_writes_sub hostOps0 V hostOps0_writes (by decide +kernel)
theorem keep_main_arg7_hostOps0_1 (V : Valuation τ sig (Elt F)) : after hostOps0_1 V (Proc.devRef .tc main_arg7) = V (Proc.devRef .tc main_arg7) :=
  after_of_writes_sub hostOps0_1 V hostOps0_1_writes (by decide +kernel)
theorem keep_main_arg7_condOps (V : Valuation τ sig (Elt F)) : after condOps V (Proc.devRef .tc main_arg7) = V (Proc.devRef .tc main_arg7) :=
  after_of_writes_sub condOps V condOps_writes (by decide +kernel)
theorem keep_main_arg7_while0Ops0 (V : Valuation τ sig (Elt F)) : after while0Ops0 V (Proc.devRef .tc main_arg7) = V (Proc.devRef .tc main_arg7) :=
  after_of_writes_sub while0Ops0 V while0Ops0_writes (by decide +kernel)
theorem keep_main_arg7_while0Ops0_1 (V : Valuation τ sig (Elt F)) : after while0Ops0_1 V (Proc.devRef .tc main_arg7) = V (Proc.devRef .tc main_arg7) :=
  after_of_writes_sub while0Ops0_1 V while0Ops0_1_writes (by decide +kernel)
theorem keep_main_arg7_hostOps0_2 (V : Valuation τ sig (Elt F)) : after hostOps0_2 V (Proc.devRef .tc main_arg7) = V (Proc.devRef .tc main_arg7) :=
  after_of_writes_sub hostOps0_2 V hostOps0_2_writes (by decide +kernel)
theorem keep_main_arg7_hostOps0_3 (V : Valuation τ sig (Elt F)) : after hostOps0_3 V (Proc.devRef .tc main_arg7) = V (Proc.devRef .tc main_arg7) :=
  after_of_writes_sub hostOps0_3 V hostOps0_3_writes (by decide +kernel)
/-- The argument `main_arg7` is written by nothing: it holds its launch contents before every condition. -/
theorem atK_main_arg7 (c : Dev nD) : ∀ k, atK m k c (Proc.devRef .tc main_arg7) = m ((c.tc : Thread nD τ).loc main_arg7)
  | 0 => by
    rw [show atK m 0 c = entryContents preI m c from rfl]
    simp only [entryContents, afterL_cons, afterL_nil]
    rw [keep_main_arg7_hostOps0_1, keep_main_arg7_hostOps0]
  | k + 1 => by
    rw [show atK m (k + 1) c = afterL bodyI (after condOps (atK m k c)) from rfl]
    simp only [afterL_cons, afterL_nil]
    rw [keep_main_arg7_while0Ops0_1, keep_main_arg7_while0Ops0, keep_main_arg7_condOps, atK_main_arg7 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_3, keep_main_arg0_hostOps0_2]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_3, keep_main_arg1_hostOps0_2]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_3, keep_main_arg2_hostOps0_2]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_3, keep_main_arg3_hostOps0_2]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_3, keep_main_arg4_hostOps0_2]
/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_3, keep_main_arg5_hostOps0_2]
/-- The operations after the loop do not write `main_arg6`. -/
theorem post_keeps_main_arg6 (V0 : Valuation τ sig (Elt F)) : afterL postI V0 (Proc.devRef .tc main_arg6) = V0 (Proc.devRef .tc main_arg6) := by
  simp only [postI, afterL_cons, afterL_nil]
  rw [keep_main_arg6_hostOps0_3, keep_main_arg6_hostOps0_2]
/-- The operations after the loop do not write `main_arg7`. -/
theorem post_keeps_main_arg7 (V0 : Valuation τ sig (Elt F)) : afterL postI V0 (Proc.devRef .tc main_arg7) = V0 (Proc.devRef .tc main_arg7) := by
  simp only [postI, afterL_cons, afterL_nil]
  rw [keep_main_arg7_hostOps0_3, keep_main_arg7_hostOps0_2]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg4 c k
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg5 c k
/-- `STEP` iterated on the loop's entry leaves the argument `main_arg6` as the launch has it. -/
theorem iter_main_arg6 (c : Dev nD) : ∀ k, (STEP^[k] (entryContents preI m c)) (Proc.devRef .tc main_arg6) = m ((c.tc : Thread nD τ).loc main_arg6)
  | 0 => by rw [Function.iterate_zero, id_eq, ← atTrip_zero condOps bodyI (entryContents preI m)]; exact atK_main_arg6 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg6 c k
/-- `STEP` iterated on the loop's entry leaves the argument `main_arg7` as the launch has it. -/
theorem iter_main_arg7 (c : Dev nD) : ∀ k, (STEP^[k] (entryContents preI m c)) (Proc.devRef .tc main_arg7) = m ((c.tc : Thread nD τ).loc main_arg7)
  | 0 => by rw [Function.iterate_zero, id_eq, ← atTrip_zero condOps bodyI (entryContents preI m)]; exact atK_main_arg7 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg7 c k

end Cert.Proof.RefRun

end
-- ==== Proof.RefOut.lean ====
/-
  THE REFERENCE'S RESULT: the head's logits of the last hidden rows, then the logarithm of their softmax, each read off
  its own stretch of operations; and the whole run with its result and its arguments.
-/
module

public import proofs.«01_k».proof.Proof.RefRun

@[expose] public section

noncomputable section

namespace Cert.Proof.RefRun

open Cert.ReferenceIdeal Cert.ReferenceIdeal.Gen
open Idealize.ShloMosaic Idealize.ShloMosaic.TcCoe
open Idealize.SL.Sem
open Idealize.ShloMosaic.StableHlo

variable {F : FTy → Type} [FloatOps F]

/-- The logits: the hidden rows against the head's weights, plus its bias. -/
def logitsR (h : FVec F S4096x128 .f32) (w : FVec F S6x128 .f32) (b : FVec F S6 .f32) : FVec F S4096x6 .f32 :=
  addf (Host.dotGeneral dot_S4096x128_S128x6_S4096x6_1_0_0_1_n_n none h (transpose S128x6 [1, 0] w transposes_S6x128_S128x6_1_0))
    (broadcastInDim S4096x6 ![0, 1] bcast_S1x6_S4096x6_0_1 (broadcastInDim S1x6 ![1] bcast_S6_S1x6_1 b))

/-- The logits less their row's largest. -/
def lessMax (x : FVec F S4096x6 .f32) : FVec F S4096x6 .f32 :=
  subf x (broadcastInDim S4096x6 ![0, 1] bcast_S4096x1_S4096x6_0_1 (broadcastInDim S4096x1 ![0] bcast_S4096_S4096x1_0
    (maximumf (broadcastInDim S4096 ![] bcast_S_S4096 (constant S_ .f32 0xFF800000#32))
      (Host.reduce FloatOps.maximumf x (constant S_ .f32 0xFF800000#32) reducesTo_S4096x6_S4096_d1 h_S_))))

/-- The logarithm of a row's softmax. -/
def logSoft (x : FVec F S4096x6 .f32) : FVec F S4096x6 .f32 :=
  subf (lessMax x) (broadcastInDim S4096x6 ![0, 1] bcast_S4096x1_S4096x6_0_1 (Host.log (broadcastInDim S4096x1 ![0] bcast_S4096_S4096x1_0
    (Host.reduceAdd (Host.exp (lessMax x)) (constant S_ .f32 0x00000000#32) reducesTo_S4096x6_S4096_d1 h_S_))))

set_option maxRecDepth 8192 in
theorem read_logits (V : Valuation τ sig (Elt F)) :
    after hostOps0_2 V (no_index (Proc.devRef .tc main_v9)) = logitsR (V (Proc.devRef .tc main_v4_6)) (V (Proc.devRef .tc main_arg6)) (V (Proc.devRef .tc main_arg7)) := by
  simp only [hostOps0_2]
  after_results_simp
  rfl

set_option maxRecDepth 8192 in
set_option maxHeartbeats 1000000 in
theorem read_soft (V : Valuation τ sig (Elt F)) :
    after hostOps0_3 V (no_index (Proc.devRef .tc main_v10)) = logSoft (V (Proc.devRef .tc main_v9)) := by
  simp only [hostOps0_3]
  after_results_simp
  simp only [TRef.ofBuf_toBuf, TRef.toBuf, TRef.ofBuf, cast_eq, cast_cast]
  rfl

variable (m : (ℓ : Loc nD τ sig) → Buf (Elt F) ℓ) (ρ : Dev nD → PrngReg)

/-- The contents after fifty steps of the loop. -/
abbrev lastR (c : Dev nD) : Valuation τ sig (Elt F) := STEP^[50] (entryContents preI m c)

/-- The result, of the last hidden rows. -/
theorem read_out (c : Dev nD) :
    finalContents condOps preI bodyI postI 50 m c (Proc.devRef .tc main_v10)
      = logSoft (logitsR (lastR m c (Proc.devRef .tc main_v4_6)) (m ((c.tc : Thread nD τ).loc main_arg6)) (m ((c.tc : Thread nD τ).loc main_arg7))) := by
  refine (show _ = after hostOps0_3 (after hostOps0_2 (after condOps (atK m 50 c))) (Proc.devRef .tc main_v10) from rfl).trans ?_
  rw [read_soft, read_logits, keep_main_arg6_condOps, atK_main_arg6, keep_main_arg7_condOps, atK_main_arg7, cond_keeps _ main_v4_6 (by decide),
    atK_agree m c 50 main_v4_6 (by decide)]

/-- Every execution ends with the result in place and the arguments as they were. -/
theorem run : θ_run (defs (F := F)) (onTc (τ := τ) (main (F := F))) ⟨m, fun _ => 0, ρ⟩ fun r => ∀ c : Dev nD,
      r.2.mem ((c.tc : Thread nD τ).loc main_v10)
        = logSoft (logitsR (lastR m c (Proc.devRef .tc main_v4_6)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v10 rfl).trans (read_out m c),
      (h c main_arg0 rfl).trans ((post_keeps_main_arg0 _).trans ((keep_main_arg0_condOps _).trans (atK_main_arg0 m c 50))),
      (h c main_arg1 rfl).trans ((post_keeps_main_arg1 _).trans ((keep_main_arg1_condOps _).trans (atK_main_arg1 m c 50))),
      (h c main_arg2 rfl).trans ((post_keeps_main_arg2 _).trans ((keep_main_arg2_condOps _).trans (atK_main_arg2 m c 50))),
      (h c main_arg3 rfl).trans ((post_keeps_main_arg3 _).trans ((keep_main_arg3_condOps _).trans (atK_main_arg3 m c 50))),
      (h c main_arg4 rfl).trans ((post_keeps_main_arg4 _).trans ((keep_main_arg4_condOps _).trans (atK_main_arg4 m c 50))),
      (h c main_arg5 rfl).trans ((post_keeps_main_arg5 _).trans ((keep_main_arg5_condOps _).trans (atK_main_arg5 m c 50))),
      (h c main_arg6 rfl).trans ((post_keeps_main_arg6 _).trans ((keep_main_arg6_condOps _).trans (atK_main_arg6 m c 50))),
      (h c main_arg7 rfl).trans ((post_keeps_main_arg7 _).trans ((keep_main_arg7_condOps _).trans (atK_main_arg7 m c 50)))⟩) (run_fold m ρ)

end Cert.Proof.RefRun

end
-- ==== Proof.Frames.lean ====
/-
  THE FRAMES. The precondition says that every row number is non-negative and below 1000000; hence so is every entry of
  the flat list, and the run of Main.lean applies: the arguments end as they began and every counter reads zero.
-/
module

public import proofs.«01_k».proof.Defs
public import proofs.«01_k».proof.Proof.Main
public import proofs.«01_k».proof.Proof.Same
public import proofs.«01_k».proof.Proof.RefOut
public import proofs.«01_k».proof.Proof.Gen.Pre_rows_named
public import Idealize.ShloMosaic.Lib.ReduceAll

@[expose] public section

noncomputable section

namespace Cert.Proof.Lookup

open Cert.KernelIdeal Cert.KernelIdeal.Gen

open Idealize.ShloMosaic
open Idealize.SL.Sem

variable {F : FTy → Type} [FloatOps F]

/-- Every word of the array of row numbers names a row. -/
def Rows (x : S4096x50.Idx → Elt F .i32) : Prop := ∀ i, (x i).toNat < 1000000

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem andi_eq_one {a b : BitVec 1} (h : IntOp.andi a b = 1#1) : a = 1#1 ∧ b = 1#1 := by
  revert h; revert a b; decide

/-- A word that is non-negative and less than a million, read signed, is less than a million. -/
theorem row_lt (v : BitVec 32) (e : IntOp.andi (IntOp.cmpi .sge v 0#32) (IntOp.cmpi .slt v 1000000#32) = 1#1) : v.toNat < 1000000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem rows_of_pre (a0 : S4096x50.Idx → BitVec 32) (a1 a2 a3 a4 a5 a6 a7)
    (h : Cert.Pre_rows_named.fn (F := F) a0 a1 a2 a3 a4 a5 a6 a7 = fun _ => 1#1) : Rows (F := F) a0 := by
  intro i
  have e := congrFun h (fun a => a.elim0)
  exact row_lt _ (Host.reduce_andi_all _ _ _ _ _ e i)

/-- The list is a rearrangement of the array, so its entries name rows too. -/
theorem named_of_rows (m : (ℓ : Loc nD τ sig) → Buf (Elt F) ℓ) (d : Dev nD) (h : Rows (F := F) (m (d, rf main_arg0))) : Named (F := F) (listA m d) := by
  intro x
  unfold listA V1
  after_results_simp
  exact h _

/-! ## The arguments are written by no operation -/

/-- The arrays the host operations write. -/
abbrev wA : List (DevRef τ sig) := [rf main_cst, rf main_v0, rf main_v1, rf main_v2]
abbrev wB : List (DevRef τ sig) := [rf main_v5, rf main_v6, rf main_v7, rf main_v8, rf main_v9, rf main_v10, rf main_v11, rf main_v12, rf main_v13, rf main_v14,
  rf main_v15, rf main_cst_0, rf main_v16, rf main_v17, rf main_c, rf main_v18, rf main_v19, rf main_cst_1, rf main_v20, rf main_c_2, rf main_v21, rf main_c_3,
  rf main_v22, rf main_v23, rf main_v24]

theorem not_opsA {b : DevRef τ sig} (h : b ∉ wA) : ∀ op ∈ (opsA : List (HloOp τ sig (Elt F))), b ∉ op.writes := by
  simp only [List.mem_cons, List.not_mem_nil, or_false, not_or] at h
  refine List.forall_iff_forall_mem.mp ?_
  simp only [List.Forall, StableHlo.nullary_writes, StableHlo.unary_writes, StableHlo.binary_writes, StableHlo.ternary_writes, StableHlo.reshape_writes, Finset.mem_singleton]
  exact h

theorem not_opsB {b : DevRef τ sig} (h : b ∉ wB) : ∀ op ∈ (opsB : List (HloOp τ sig (Elt F))), b ∉ op.writes := by
  simp only [List.mem_cons, List.not_mem_nil, or_false, not_or] at h
  refine List.forall_iff_forall_mem.mp ?_
  simp only [List.Forall, StableHlo.nullary_writes, StableHlo.unary_writes, StableHlo.binary_writes, StableHlo.ternary_writes, StableHlo.reshape_writes, Finset.mem_singleton]
  exact h

theorem not_opC {b : DevRef τ sig} (h : b ≠ rf main_v26) : b ∉ (opC (F := F)).writes := by
  simpa only [StableHlo.unary_writes, Finset.mem_singleton] using h

theorem V5_arg0 (m : (ℓ : Loc nD τ sig) → Buf (Elt F) ℓ) (d : Dev nD) (g : S204800x128.Idx → Elt F .f32) :
    V5 m d g (rf main_arg0) = m (d, rf main_arg0) :=
  V5_arg m d g main_arg0 (not_opsA (by decide)) (not_opsB (by decide)) (not_opC (by decide)) (by decide) (by decide)

theorem V5_arg1 (m : (ℓ : Loc nD τ sig) → Buf (Elt F) ℓ) (d : Dev nD) (g : S204800x128.Idx → Elt F .f32) :
    V5 m d g (rf main_arg1) = m (d, rf main_arg1) :=
  V5_arg m d g main_arg1 (not_opsA (by decide)) (not_opsB (by decide)) (not_opC (by decide)) (by decide) (by decide)

theorem V5_arg2 (m : (ℓ : Loc nD τ sig) → Buf (Elt F) ℓ) (d : Dev nD) (g : S204800x128.Idx → Elt F .f32) :
    V5 m d g (rf main_arg2) = m (d, rf main_arg2) :=
  V5_arg m d g main_arg2 (not_opsA (by decide)) (not_opsB (by decide)) (not_opC (by decide)) (by decide) (by decide)

theorem V5_arg3 (m : (ℓ : Loc nD τ sig) → Buf (Elt F) ℓ) (d : Dev nD) (g : S204800x128.Idx → Elt F .f32) :
    V5 m d g (rf main_arg3) = m (d, rf main_arg3) :=
  V5_arg m d g main_arg3 (not_opsA (by decide)) (not_opsB (by decide)) (not_opC (by decide)) (by decide) (by decide)

theorem V5_arg4 (m : (ℓ : Loc nD τ sig) → Buf (Elt F) ℓ) (d : Dev nD) (g : S204800x128.Idx → Elt F .f32) :
    V5 m d g (rf main_arg4) = m (d, rf main_arg4) :=
  V5_arg m d g main_arg4 (not_opsA (by decide)) (not_opsB (by decide)) (not_opC (by decide)) (by decide) (by decide)

theorem V5_arg5 (m : (ℓ : Loc nD τ sig) → Buf (Elt F) ℓ) (d : Dev nD) (g : S204800x128.Idx → Elt F .f32) :
    V5 m d g (rf main_arg5) = m (d, rf main_arg5) :=
  V5_arg m d g main_arg5 (not_opsA (by decide)) (not_opsB (by decide)) (not_opC (by decide)) (by decide) (by decide)

theorem V5_arg6 (m : (ℓ : Loc nD τ sig) → Buf (Elt F) ℓ) (d : Dev nD) (g : S204800x128.Idx → Elt F .f32) :
    V5 m d g (rf main_arg6) = m (d, rf main_arg6) :=
  V5_arg m d g main_arg6 (not_opsA (by decide)) (not_opsB (by decide)) (not_opC (by decide)) (by decide) (by decide)

theorem V5_arg7 (m : (ℓ : Loc nD τ sig) → Buf (Elt F) ℓ) (d : Dev nD) (g : S204800x128.Idx → Elt F .f32) :
    V5 m d g (rf main_arg7) = m (d, rf main_arg7) :=
  V5_arg m d g main_arg7 (not_opsA (by decide)) (not_opsB (by decide)) (not_opC (by decide)) (by decide) (by decide)

/-! ## The frames -/

/-- What the run leaves in the arguments. -/
theorem args_kept (m : (ℓ : Loc nD τ sig) → Buf (Elt F) ℓ) (r : PUnit × MemSt nD τ sig (Elt F)) (h : QC m r) (c : Dev nD) :
    r.2.mem (c, rf main_arg0) = m (c, rf main_arg0) ∧ r.2.mem (c, rf main_arg1) = m (c, rf main_arg1)
      ∧ r.2.mem (c, rf main_arg2) = m (c, rf main_arg2) ∧ r.2.mem (c, rf main_arg3) = m (c, rf main_arg3)
      ∧ r.2.mem (c, rf main_arg4) = m (c, rf main_arg4) ∧ r.2.mem (c, rf main_arg5) = m (c, rf main_arg5)
      ∧ r.2.mem (c, rf main_arg6) = m (c, rf main_arg6) ∧ r.2.mem (c, rf main_arg7) = m (c, rf main_arg7) := by
  obtain ⟨g, -, hg⟩ := h.1 c
  exact ⟨(hg _ (by decide)).trans (V5_arg0 m c g), (hg _ (by decide)).trans (V5_arg1 m c g), (hg _ (by decide)).trans (V5_arg2 m c g),
    (hg _ (by decide)).trans (V5_arg3 m c g), (hg _ (by decide)).trans (V5_arg4 m c g), (hg _ (by decide)).trans (V5_arg5 m c g),
    (hg _ (by decide)).trans (V5_arg6 m c g), (hg _ (by decide)).trans (V5_arg7 m c g)⟩

theorem run_kernel (m : (ℓ : Loc nD τ sig) → Buf (Elt F) ℓ) (ρ : Dev nD → PrngReg) [∀ e, Nonempty (Elt F e)] (hix : ∀ d, Named (F := F) (listA m d)) :
    θ_run (Cert.Kernel.defs (F := F)) (Cert.Kernel.threads (F := F)) ⟨m, fun _ => 0, ρ⟩ (QC m) := by
  rw [same_defs, same_threads]
  exact run_main m ρ hix

theorem frame_kernel : Cert.quiescent_Kernel (hKernel := Cert.Kernel.Gen.facts) (hPre_rows_named := Cert.Pre_rows_named.Gen.facts) := fun m ρ h =>
  (θ_run Cert.Kernel.defs _ _).mono (fun r hr => ⟨fun c => args_kept m r hr c, hr.2⟩)
    (run_kernel (F := Bits) m ρ fun d => named_of_rows m d (rows_of_pre _ _ _ _ _ _ _ _ (h d)))

theorem frame_ideal : Cert.quiescent_KernelIdeal (hKernelIdeal := Cert.KernelIdeal.Gen.facts) (hPre_rows_named := Cert.Pre_rows_named.Gen.facts) := fun m ρ h =>
  (θ_run Cert.KernelIdeal.defs _ _).mono (fun r hr => ⟨fun c => args_kept m r hr c, hr.2⟩)
    (run_main (F := Ideal) m ρ fun d => named_of_rows m d (rows_of_pre _ _ _ _ _ _ _ _ (h d)))

/-! ## The reference's -/

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (RefRun.run (F := Ideal) m ρ)

end Cert.Proof.Lookup

end
-- ==== Proof.Gate.lean ====
/-
  THE RECURRENCE ON ONE SEQUENCE, over extended reals, and the two facts that let the kernel compute it from halved
  gates: half a hyperbolic tangent of half a value, and a half, is the logistic function of the value; and a halved sum of
  products is the sum of the products halved.
-/
module

public import Idealize.ShloMosaic.Lib.Pointwise
public import Idealize.ShloMosaic.Lib.IdealHost

@[expose] public section

noncomputable section

namespace Cert.Proof.Value

open Idealize.ShloMosaic

/-! ## The gate function -/

theorem neg_one_coe : (-1 : EReal) = ((-1 : ℝ) : EReal) := by rw [EReal.coe_neg, EReal.coe_one]

/-- One half, as the float literal. -/
theorem half_lit : Ideal.ofBits .f32 0x3F000000#32 = ((1 / 2 : ℝ) : EReal) := by
  simp [Ideal.ofBits, Ideal.ieee]
  rw [← EReal.coe_mul]
  norm_num

theorem real_gate (r : ℝ) : 1 / 2 * Real.tanh (r * (1 / 2)) + 1 / 2 = (1 + Real.exp (-r))⁻¹ := by
  have h1 : Real.exp (-r) = Real.exp (-(r * (1 / 2))) * Real.exp (-(r * (1 / 2))) := by rw [← Real.exp_add]; congr 1; ring
  have h2 : Real.exp (r * (1 / 2)) * Real.exp (-(r * (1 / 2))) = 1 := by rw [← Real.exp_add]; simp
  rw [Real.tanh_eq_sinh_div_cosh, Real.sinh_eq, Real.cosh_eq, h1]
  have ha := Real.exp_pos (r * (1 / 2))
  have hb := Real.exp_pos (-(r * (1 / 2)))
  set a := Real.exp (r * (1 / 2))
  set b := Real.exp (-(r * (1 / 2)))
  have : a = 1 / b := by field_simp; exact h2
  rw [this]
  have h3 : (1 : ℝ) / b + b ≠ 0 := by positivity
  field_simp
  ring

/-- Half a hyperbolic tangent of half a value, and a half, is the logistic function of the value. -/
theorem gate_eq (x : EReal) : ((1 / 2 : ℝ) : EReal) * Ideal.tanh (x * ((1 / 2 : ℝ) : EReal)) + ((1 / 2 : ℝ) : EReal) = Ideal.logistic x := by
  induction x with
  | bot =>
    rw [EReal.bot_mul_coe_of_pos (by norm_num), Ideal.tanh_bot, Ideal.logistic_bot]
    rw [neg_one_coe, ← EReal.coe_mul, ← EReal.coe_add]
    norm_num
  | top =>
    rw [EReal.top_mul_coe_of_pos (by norm_num), Ideal.tanh_top, Ideal.logistic_top]
    rw [show (1 : EReal) = ((1 : ℝ) : EReal) by norm_cast, ← EReal.coe_mul, ← EReal.coe_add]
    norm_num
  | coe r =>
    rw [← EReal.coe_mul, Ideal.tanh_coe, ← EReal.coe_mul, ← EReal.coe_add, real_gate, Ideal.logistic_coe]

/-! ## A factor out of a sum -/

theorem add_mul_real (a b : EReal) (s : ℝ) (hs : 0 ≤ s) : (a + b) * (s : EReal) = a * s + b * s :=
  EReal.right_distrib_of_nonneg_of_ne_top (by exact_mod_cast hs) (EReal.coe_ne_top s) a b

theorem sum_mul_real {ι : Type} (t : Finset ι) (f : ι → EReal) (s : ℝ) (hs : 0 ≤ s) : (∑ k ∈ t, f k) * (s : EReal) = ∑ k ∈ t, f k * s := by
  classical
  induction t using Finset.induction_on with
  | empty => simp
  | insert a t ha ih => rw [Finset.sum_insert ha, Finset.sum_insert ha, add_mul_real _ _ s hs, ih]

/-! ## The recurrence on one sequence -/

/-- The two layers' weights and biases. -/
structure Par where
  Wi : Fin 512 → Fin 64 → EReal
  Wh : Fin 512 → Fin 128 → EReal
  bi : Fin 512 → EReal
  bh : Fin 512 → EReal

/-- The gates of an input and a state. -/
def gateOf (p : Par) (x : Fin 64 → EReal) (h : Fin 128 → EReal) (n : Fin 512) : EReal :=
  (∑ k, x k * p.Wi n k) + (∑ k, h k * p.Wh n k) + p.bi n + p.bh n

def col (b : ℕ) (hb : b + 128 ≤ 512) (j : Fin 128) : Fin 512 := ⟨b + j, by have := j.isLt; omega⟩

/-- The new cell. -/
def cellOf (g : Fin 512 → EReal) (c : Fin 128 → EReal) (j : Fin 128) : EReal :=
  Ideal.logistic (g (col 128 (by decide) j)) * c j + Ideal.logistic (g (col 0 (by decide) j)) * Ideal.tanh (g (col 256 (by decide) j))

/-- The new state. -/
def stateOf (g : Fin 512 → EReal) (c : Fin 128 → EReal) (j : Fin 128) : EReal :=
  Ideal.logistic (g (col 384 (by decide) j)) * Ideal.tanh (cellOf g c j)

/-- The cell and the state after `n` steps of the inputs `x 0`, `x 1`, …. -/
def seqAt (p : Par) (x : ℕ → Fin 64 → EReal) : ℕ → (Fin 128 → EReal) × (Fin 128 → EReal)
  | 0 => (fun _ => 0, fun _ => 0)
  | n + 1 => (cellOf (gateOf p (x n) (seqAt p x n).2) (seqAt p x n).1, stateOf (gateOf p (x n) (seqAt p x n).2) (seqAt p x n).1)

/-- The factor on each gate's column. -/
def fac (n : Fin 512) : ℝ := if 256 ≤ n.val ∧ n.val < 384 then 1 else 1 / 2

theorem fac_nonneg (n : Fin 512) : 0 ≤ fac n := by unfold fac; split <;> norm_num

/-- The gates of scaled weights are the scaled gates. -/
theorem gate_scaled (p : Par) (x : Fin 64 → EReal) (h : Fin 128 → EReal) (n : Fin 512) :
    (∑ k, x k * (p.Wi n k * (fac n : EReal))) + (∑ k, h k * (p.Wh n k * (fac n : EReal))) + (p.bi n + p.bh n) * (fac n : EReal)
      = gateOf p x h n * (fac n : EReal) := by
  unfold gateOf
  have hf := fac_nonneg n
  rw [add_assoc ((∑ k, x k * p.Wi n k) + _), add_mul_real (∑ k, x k * p.Wi n k + _) _ _ hf, add_mul_real (∑ k, x k * p.Wi n k) _ _ hf, sum_mul_real _ _ _ hf, sum_mul_real _ _ _ hf]
  simp only [mul_assoc]

/-! ## The values that are real -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, rfl⟩

theorem IsReal.sum {ι : Type} (t : Finset ι) (f : ι → EReal) (h : ∀ k, IsReal (f k)) : IsReal (∑ k ∈ t, f k) := by
  classical
  induction t using Finset.induction_on with
  | empty => exact IsReal.zero
  | insert a t ha ih => rw [Finset.sum_insert ha]; exact (h a).add ih

theorem isReal_tanh (x : EReal) : IsReal (Ideal.tanh x) := by
  induction x with
  | bot => exact ⟨-1, by rw [Ideal.tanh_bot, neg_one_coe]⟩
  | top => exact ⟨1, by rw [Ideal.tanh_top]; norm_cast⟩
  | coe r => exact ⟨_, Ideal.tanh_coe r⟩

theorem isReal_logistic (x : EReal) : IsReal (Ideal.logistic x) := by
  rw [← gate_eq]
  exact (IsReal.mul ⟨_, rfl⟩ (isReal_tanh _)).add ⟨_, rfl⟩

theorem isReal_state (p : Par) (x : ℕ → Fin 64 → EReal) (n : ℕ) (j : Fin 128) : IsReal ((seqAt p x n).2 j) := by
  cases n with
  | zero => exact IsReal.zero
  | succ n => exact (isReal_logistic _).mul (isReal_tanh _)

end Cert.Proof.Value

end
-- ==== Proof.Finite.lean ====
/-
  WHAT THE SECOND PRECONDITION SAYS: every row number names a row, and every entry of the head's weights and bias is a
  real number. And the frames under it.
-/
module

public import proofs.«01_k».proof.Proof.Frames
public import proofs.«01_k».proof.Proof.Gate
public import proofs.«01_k».proof.Proof.Gen.Pre_rows_named_head_finite

@[expose] public section

noncomputable section

namespace Cert.Proof.Lookup

open Cert.KernelIdeal Cert.KernelIdeal.Gen

open Idealize.ShloMosaic
open Idealize.SL.Sem
open Cert.Proof.Value (IsReal)

variable {F : FTy → Type} [FloatOps F]

theorem rows_of_pre_finite (a0 : S4096x50.Idx → BitVec 32) (a1 a2 a3 a4 a5 a6 a7)
    (h : Cert.Pre_rows_named_head_finite.fn (F := F) a0 a1 a2 a3 a4 a5 a6 a7 = fun _ => 1#1) : Rows (F := F) a0 := by
  intro i
  have e := congrFun h (fun a => a.elim0)
  exact row_lt _ (Host.reduce_andi_all _ _ _ _ _ (andi_eq_one (andi_eq_one e).1).1 i)

theorem inf_lit : Ideal.ofBits .f32 0x7F800000#32 = ⊤ := by
  simp [Ideal.ofBits, Ideal.ieee]

/-- A value whose size is below +∞ is a real number. -/
theorem real_of_lt (x : EReal) (e : FloatOps.cmpf (F := Ideal) (φ := .f32) .olt (max x (-x)) (Ideal.ofBits .f32 0x7F800000#32) = 1#1) : IsReal x := by
  rw [inf_lit] at e
  induction x with
  | bot => simp [FloatOps.cmpf, Ideal.cmp] at e
  | coe r => exact ⟨r, rfl⟩
  | top => simp [FloatOps.cmpf, Ideal.cmp] at e

theorem head_of_pre (a0 : S4096x50.Idx → BitVec 32) (a1 a2 a3 a4 a5 a6 a7)
    (h : Cert.Pre_rows_named_head_finite.fn (F := Ideal) a0 a1 a2 a3 a4 a5 a6 a7 = fun _ => 1#1) : (∀ i, IsReal (a6 i)) ∧ ∀ i, IsReal (a7 i) := by
  have e := congrFun h (fun a => a.elim0)
  exact ⟨fun i => real_of_lt _ (Host.reduce_andi_all _ _ _ _ _ (andi_eq_one (andi_eq_one e).1).2 i),
    fun i => real_of_lt _ (Host.reduce_andi_all _ _ _ _ _ (andi_eq_one e).2 i)⟩

theorem frame_ideal_finite : Cert.quiescent_KernelIdeal_pre_rows_named_head_finite (hKernelIdeal := Cert.KernelIdeal.Gen.facts)
    (hPre_rows_named_head_finite := Cert.Pre_rows_named_head_finite.Gen.facts) := fun m ρ h =>
  (θ_run Cert.KernelIdeal.defs _ _).mono (fun r hr => ⟨fun c => args_kept m r hr c, hr.2⟩)
    (run_main (F := Ideal) m ρ fun d => named_of_rows m d (rows_of_pre_finite _ _ _ _ _ _ _ _ (h d)))

theorem frame_ref_finite : Cert.quiescent_ReferenceIdeal_pre_rows_named_head_finite (hReferenceIdeal := Cert.ReferenceIdeal.Gen.facts)
    (hPre_rows_named_head_finite := Cert.Pre_rows_named_head_finite.Gen.facts) := fun m ρ _ => frame_ref m ρ trivial

end Cert.Proof.Lookup

end
-- ==== Proof.Head.lean ====
/-
  THE HEAD ON ONE ROW, over extended reals: with the six logits real and every lane behind them at −∞, the kernel's
  `l − (log ∑ exp (l − m) + m)` over 128 lanes is the reference's `(l − m) − log ∑ exp (l − m)` over six.
-/
module

public import proofs.«01_k».proof.Proof.Gate

@[expose] public section

noncomputable section

namespace Cert.Proof.Value

open Idealize.ShloMosaic

theorem neg_inf_lit : Ideal.ofBits .f32 0xFF800000#32 = ⊥ := by
  simp [Ideal.ofBits, Ideal.ieee]

/-- Six values and −∞ in every lane behind them. -/
def padded (l : Fin 6 → EReal) (j : Fin 128) : EReal := if h : j.val < 6 then l ⟨j, h⟩ else ⊥

theorem fold_max_sup {n : ℕ} (f : Fin n → EReal) : (Finset.univ : Finset (Fin n)).fold max ⊥ f = Finset.univ.sup f := rfl

theorem sup_padded (l : Fin 6 → EReal) : (Finset.univ : Finset (Fin 128)).sup (padded l) = Finset.univ.sup l := by
  apply le_antisymm
  · refine Finset.sup_le fun j _ => ?_
    unfold padded
    split
    · exact Finset.le_sup (f := l) (Finset.mem_univ _)
    · exact bot_le
  · refine Finset.sup_le fun j _ => ?_
    have e : l j = padded l ⟨j, by omega⟩ := by unfold padded; rw [dif_pos j.isLt]
    rw [e]
    exact Finset.le_sup (f := padded l) (Finset.mem_univ _)

theorem sum_padded (l : Fin 6 → EReal) (m : ℝ) :
    ∑ j : Fin 128, Ideal.exp (padded l j - (m : EReal)) = ∑ j : Fin 6, Ideal.exp (l j - (m : EReal)) := by
  rw [show (∑ j : Fin 128, Ideal.exp (padded l j - (m : EReal))) = ∑ j : Fin (6 + 122), Ideal.exp (padded l j - (m : EReal)) from rfl, Fin.sum_univ_add]
  have h1 : ∀ j : Fin 6, padded l (Fin.castAdd 122 j) = l j := fun j => by
    unfold padded
    rw [dif_pos (show (Fin.castAdd 122 j).val < 6 from j.isLt)]
    rfl
  have h2 : ∀ j : Fin 122, padded l (Fin.natAdd 6 j) = ⊥ := fun j => by
    unfold padded
    rw [dif_neg (show ¬(Fin.natAdd 6 j).val < 6 from by show ¬(6 + j.val < 6); omega)]
  simp only [h1, h2, EReal.bot_sub, Ideal.exp_bot, Finset.sum_const_zero, add_zero]

/-- The kernel's last lines at lane `j`. -/
def outK (L : Fin 128 → EReal) (j : Fin 128) : EReal :=
  L j - (Ideal.log (∑ k, Ideal.exp (L k - Finset.univ.fold max ⊥ L)) + Finset.univ.fold max ⊥ L)

/-- The reference's last lines at lane `j`. -/
def outR (l : Fin 6 → EReal) (j : Fin 6) : EReal :=
  l j - max ⊥ (Finset.univ.fold max ⊥ l) - Ideal.log (0 + ∑ k, Ideal.exp (l k - max ⊥ (Finset.univ.fold max ⊥ l)))

theorem head_eq (l : Fin 6 → EReal) (hl : ∀ j, IsReal (l j)) (j : Fin 6) : outK (padded l) ⟨j, by omega⟩ = outR l j := by
  obtain ⟨k, _, hk⟩ := Finset.exists_mem_eq_sup (Finset.univ : Finset (Fin 6)) Finset.univ_nonempty l
  obtain ⟨M, hM⟩ := hl k
  choose r hr using hl
  have e : padded l ⟨j, by omega⟩ = ((r j : ℝ) : EReal) := by unfold padded; rw [dif_pos j.isLt]; exact hr j
  unfold outK outR
  rw [fold_max_sup, fold_max_sup, sup_padded, hk, hM, max_eq_right bot_le, sum_padded, e, zero_add]
  have hs : ∑ k : Fin 6, Ideal.exp (l k - (M : EReal)) = ((∑ k : Fin 6, Real.exp (r k - M) : ℝ) : EReal) := by
    simp only [hr, ← EReal.coe_sub, Ideal.exp_coe]
    simp only [Fin.sum_univ_succ, Fin.sum_univ_zero, EReal.coe_add, EReal.coe_zero]
  have hp : 0 < ∑ k : Fin 6, Real.exp (r k - M) := Finset.sum_pos (fun _ _ => Real.exp_pos _) Finset.univ_nonempty
  rw [hs, Ideal.log_coe, if_neg (not_le.mpr hp), hr j, ← EReal.coe_add, ← EReal.coe_sub, ← EReal.coe_sub, ← EReal.coe_sub]
  congr 1
  ring

end Cert.Proof.Value

end
-- ==== Proof.KerVal.lean ====
/-
  THE KERNEL'S RECURRENCE AT AN ELEMENT: row `r` of a block follows the recurrence on its own sequence.
-/
module

public import proofs.«01_k».proof.Proof.Gate
public import proofs.«01_k».proof.Proof.Lstm

@[expose] public section

noncomputable section

namespace Cert.Proof.Value

open Cert.KernelIdeal Cert.KernelIdeal.Gen
open Idealize.ShloMosaic
open Cert.Proof.Lookup (slab xin pre biasRows gates sl0 sl1 sl2 sl3 sg cN hN st cAt hAt zero128 half logits lstmOut)

set_option maxRecDepth 16384

theorem slab_apply (X : S50x1024x128.Idx → Elt Ideal .f32) (n : ℕ) (r : Fin 1024) (k : Fin 128) :
    slab X n (ix3 0 r k) = X (ix3 (⟨n % 50, Nat.mod_lt _ (by decide)⟩ : Fin 50) r k) := rfl

theorem pre_apply (W : FVec Ideal S192x512 .bf16) (s : Vec Ideal S1x1024x128 .f32) (h : FVec Ideal S1024x128 .f32) (r : Fin 1024) (n : Fin 512) :
    pre W s h (ix2 r n) = (∑ k : Fin 64, s (ix3 0 r ⟨k, by omega⟩) * W (ix2 ⟨k, by omega⟩ n)) + ∑ k : Fin 128, h (ix2 r k) * W (ix2 ⟨64 + k, by omega⟩ n) := by
  pointwise [pre, xin]

theorem bias_apply (B : FVec Ideal S1x512 .f32) (r : Fin 1024) (n : Fin 512) : biasRows B (ix2 r n) = B (ix2 0 n) := by
  pointwise [biasRows]

theorem gates_apply (W : FVec Ideal S192x512 .bf16) (B : FVec Ideal S1x512 .f32) (s : Vec Ideal S1x1024x128 .f32) (h : FVec Ideal S1024x128 .f32)
    (r : Fin 1024) (n : Fin 512) :
    gates W B s h (ix2 r n) = (∑ k : Fin 64, s (ix3 0 r ⟨k, by omega⟩) * W (ix2 ⟨k, by omega⟩ n)) + (∑ k : Fin 128, h (ix2 r k) * W (ix2 ⟨64 + k, by omega⟩ n))
      + B (ix2 0 n) := by
  unfold gates
  rw [addf_apply, pre_apply, bias_apply]
  rfl

theorem sg_apply (z : FVec Ideal S1024x128 .f32) (i : S1024x128.Idx) :
    sg z i = ((1 / 2 : ℝ) : EReal) * Ideal.tanh (z i) + ((1 / 2 : ℝ) : EReal) := by
  rw [← half_lit]
  rfl

theorem sl0_apply (g : FVec Ideal S1024x512 .f32) (r : Fin 1024) (j : Fin 128) : sl0 g (ix2 r j) = g (ix2 r (col 0 (by decide) j)) := by
  pointwise [sl0, col]

theorem sl1_apply (g : FVec Ideal S1024x512 .f32) (r : Fin 1024) (j : Fin 128) : sl1 g (ix2 r j) = g (ix2 r (col 128 (by decide) j)) := by
  pointwise [sl1, col]

theorem sl2_apply (g : FVec Ideal S1024x512 .f32) (r : Fin 1024) (j : Fin 128) : sl2 g (ix2 r j) = g (ix2 r (col 256 (by decide) j)) := by
  pointwise [sl2, col]

theorem sl3_apply (g : FVec Ideal S1024x512 .f32) (r : Fin 1024) (j : Fin 128) : sl3 g (ix2 r j) = g (ix2 r (col 384 (by decide) j)) := by
  pointwise [sl3, col]

theorem fac_low (b : ℕ) (hb : b + 128 ≤ 512) (h : b + 128 ≤ 256 ∨ 384 ≤ b) (j : Fin 128) : fac (col b hb j) = 1 / 2 := by
  unfold fac col
  have := j.isLt
  rw [if_neg]
  rintro ⟨h1, h2⟩
  dsimp only at h1 h2
  omega

theorem fac_mid (j : Fin 128) : fac (col 256 (by decide) j) = 1 := by
  unfold fac col
  have := j.isLt
  rw [if_pos]
  exact ⟨Nat.le_add_right _ _, by dsimp only; omega⟩

/-- The new cell, of gates scaled. -/
theorem cN_apply (G : FVec Ideal S1024x512 .f32) (c : FVec Ideal S1024x128 .f32) (r : Fin 1024) (g : Fin 512 → EReal) (cs : Fin 128 → EReal)
    (hg : ∀ n, G (ix2 r n) = g n * (fac n : EReal)) (hc : ∀ j, c (ix2 r j) = cs j) (j : Fin 128) : cN G c (ix2 r j) = cellOf g cs j := by
  have e : cN G c (ix2 r j) = sg (sl1 G) (ix2 r j) * c (ix2 r j) + sg (sl0 G) (ix2 r j) * Ideal.tanh (sl2 G (ix2 r j)) := rfl
  rw [e, sg_apply, sg_apply, sl0_apply, sl1_apply, sl2_apply, hg, hg, hg, hc, fac_low _ _ (.inl (by decide)), fac_low _ _ (.inl (by decide)), fac_mid,
    gate_eq, gate_eq, EReal.coe_one, mul_one]
  rfl

/-- The new state. -/
theorem hN_apply (G : FVec Ideal S1024x512 .f32) (c : FVec Ideal S1024x128 .f32) (r : Fin 1024) (g : Fin 512 → EReal) (cs : Fin 128 → EReal)
    (hg : ∀ n, G (ix2 r n) = g n * (fac n : EReal)) (hc : ∀ j, c (ix2 r j) = cs j) (j : Fin 128) : hN G c (ix2 r j) = stateOf g cs j := by
  have e : hN G c (ix2 r j) = sg (sl3 G) (ix2 r j) * Ideal.tanh (cN G c (ix2 r j)) := rfl
  rw [e, sg_apply, sl3_apply, hg, fac_low _ _ (.inr (by decide)), gate_eq, cN_apply G c r g cs hg hc]
  rfl

/-- The call's weights and bias are the layers', scaled. -/
structure Scaled (p : Par) (W : FVec Ideal S192x512 .bf16) (B : FVec Ideal S1x512 .f32) : Prop where
  wi : ∀ (k : Fin 64) n, W (ix2 ⟨k, by omega⟩ n) = p.Wi n k * (fac n : EReal)
  wh : ∀ (k : Fin 128) n, W (ix2 ⟨64 + k, by omega⟩ n) = p.Wh n k * (fac n : EReal)
  b : ∀ n, B (ix2 0 n) = (p.bi n + p.bh n) * (fac n : EReal)

theorem gates_scaled (p : Par) (W : FVec Ideal S192x512 .bf16) (B : FVec Ideal S1x512 .f32) (hs : Scaled p W B) (s : Vec Ideal S1x1024x128 .f32)
    (h : FVec Ideal S1024x128 .f32) (r : Fin 1024) (x : Fin 64 → EReal) (y : Fin 128 → EReal) (hx : ∀ k : Fin 64, s (ix3 0 r ⟨k, by omega⟩) = x k)
    (hy : ∀ k, h (ix2 r k) = y k) (n : Fin 512) : gates W B s h (ix2 r n) = gateOf p x y n * (fac n : EReal) := by
  rw [gates_apply, ← gate_scaled, hs.b]
  simp only [hs.wi, hs.wh, hx, hy]

/-- Row `r` of the block's cells and states follows the recurrence on its own sequence. -/
theorem st_apply (p : Par) (W : FVec Ideal S192x512 .bf16) (B : FVec Ideal S1x512 .f32) (hs : Scaled p W B) (X : S50x1024x128.Idx → Elt Ideal .f32)
    (r : Fin 1024) (x : ℕ → Fin 64 → EReal) (hx : ∀ (t : Fin 50) (k : Fin 64), X (ix3 t r ⟨k, by omega⟩) = x t k) (n : ℕ) (hn : n ≤ 50) :
    (∀ j, cAt X W B n (ix2 r j) = (seqAt p x n).1 j) ∧ (∀ j, hAt X W B n (ix2 r j) = (seqAt p x n).2 j) := by
  induction n with
  | zero =>
    have z : ∀ j, zero128 (F := Ideal) (ix2 r j) = 0 := fun j => Ideal.ofBits_zero_f32
    exact ⟨z, z⟩
  | succ n ih =>
    obtain ⟨hc, hh⟩ := ih (by omega)
    have hX : ∀ k : Fin 64, slab X n (ix3 0 r ⟨k, by omega⟩) = x n k := fun k => by
      rw [slab_apply, hx]
      simp only [Nat.mod_eq_of_lt (show n < 50 by omega)]
    have hg := gates_scaled p W B hs (slab X n) (hAt X W B n) r (x n) _ hX hh
    exact ⟨fun j => cN_apply _ _ r _ _ hg hc j, fun j => hN_apply _ _ r _ _ hg hc j⟩

end Cert.Proof.Value

end
-- ==== Proof.HostVal.lean ====
/-
  WHAT THE RECURRENCE IS HANDED, at an index, over extended reals: the two layers' weights one above the other and their
  bias, each column times its factor; the head's weights with zeros behind the six columns and its bias with −∞ behind them.
-/
module

public import proofs.«01_k».proof.Proof.Frames
public import proofs.«01_k».proof.Proof.Head
public import proofs.«01_k».proof.Proof.KerVal
public import Idealize.ShloMosaic.Lib.Routing.OpsSet
public import Idealize.ShloMosaic.Lib.Pointwise

@[expose] public section

set_option maxRecDepth 16384

noncomputable section

namespace Cert.Proof.Value

open Cert.KernelIdeal Cert.KernelIdeal.Gen
open Cert.Proof.Lookup
open Idealize.ShloMosaic
open Idealize.ShloMosaic.Tactic
open Idealize.ShloMosaic.StableHlo (after)

/-! ## Writing six columns into a wider array -/

abbrev dW : ScatterDims S128x128 S1 S128x6 := scatter_S128x128_S1_S128x6_01_n_1_0
abbrev dM : ScatterDims S1x128 S2 S6 := scatter_S1x128_S2_S6_0_0_01_0

theorem start_zero {s si u : Shape} (d : ScatterDims s si u) (k : u.Idx) (a : Fin s.rank) : d.start k (fun _ => 0#32 : IVec si 32) a = 0 := by
  unfold ScatterDims.start
  split <;> rfl

theorem dW_window (p : Fin 128) (q : Fin 6) (a : Fin 2) : dW.window (ix2 p q) a = ((ix2 p q : S128x6.Idx) a).val := by
  match a with
  | 0 => rfl
  | 1 => rfl

theorem dM_window_0 (q : Fin 6) : dM.window (ix1 q) 0 = 0 := rfl
theorem dM_window_1 (q : Fin 6) : dM.window (ix1 q) 1 = q.val := rfl

theorem dW_lands (p : Fin 128) (q : Fin 6) (k j : Fin 128) :
    dW.resultIdx? (ix2 p q) (fun _ => 0#32 : IVec S1 32) = some (ix2 k j) ↔ p = k ∧ q.val = j.val := by
  rw [Routing.resultIdx?_eq_some]
  constructor
  · intro h
    have h0 := h 0
    have h1 := h 1
    rw [start_zero, dW_window] at h0 h1
    have e0 : ((0 : Int) + (p.val : Int)) = (k.val : Int) := h0
    have e1 : ((0 : Int) + (q.val : Int)) = (j.val : Int) := h1
    exact ⟨Fin.ext (by omega), by omega⟩
  · rintro ⟨rfl, h⟩ a
    rw [start_zero, dW_window]
    match a with
    | 0 => show (0 : Int) + (p.val : Int) = (p.val : Int); omega
    | 1 => show (0 : Int) + (q.val : Int) = (j.val : Int); omega

theorem dM_lands (q : Fin 6) (j : Fin 128) :
    dM.resultIdx? (ix1 q) (fun _ => 0#32 : IVec S2 32) = some (ix2 0 j) ↔ q.val = j.val := by
  rw [Routing.resultIdx?_eq_some]
  constructor
  · intro h
    have h1 := h 1
    rw [start_zero, dM_window_1] at h1
    have e1 : ((0 : Int) + (q.val : Int)) = (j.val : Int) := h1
    omega
  · intro h a
    rw [start_zero]
    match a with
    | 0 => rfl
    | 1 => show (0 : Int) + (q.val : Int) = (j.val : Int); omega

theorem scatter_dW {α : Type} (x0 : S128x128.Idx → α) (upd : S128x6.Idx → α) (k j : Fin 128) :
    Host.scatter dW (fun _ b => b) x0 (fun _ => 0#32 : IVec S1 32) upd (ix2 k j) = if h : j.val < 6 then upd (ix2 k ⟨j, h⟩) else x0 (ix2 k j) := by
  split
  · next h =>
    refine Routing.scatter_set_hit dW x0 _ upd _ _ (fun i hi => ?_) (ix2 k ⟨j, h⟩) ((dW_lands _ _ _ _).mpr ⟨rfl, rfl⟩)
    obtain ⟨p, q, rfl⟩ : ∃ (p : Fin 128) (q : Fin 6), i = ix2 p q := ⟨i 0, i 1, funext fun a => match a with | 0 => rfl | 1 => rfl⟩
    obtain ⟨rfl, e⟩ := (dW_lands _ _ _ _).mp hi
    exact congrArg (fun z => upd (ix2 p z)) (Fin.ext e)
  · next h =>
    refine Routing.scatter_set_miss dW x0 _ upd _ (fun i hi => ?_)
    obtain ⟨p, q, rfl⟩ : ∃ (p : Fin 128) (q : Fin 6), i = ix2 p q := ⟨i 0, i 1, funext fun a => match a with | 0 => rfl | 1 => rfl⟩
    obtain ⟨-, e⟩ := (dW_lands _ _ _ _).mp hi
    have := q.isLt
    omega

theorem scatter_dM {α : Type} (x0 : S1x128.Idx → α) (upd : S6.Idx → α) (j : Fin 128) :
    Host.scatter dM (fun _ b => b) x0 (fun _ => 0#32 : IVec S2 32) upd (ix2 0 j) = if h : j.val < 6 then upd (ix1 ⟨j, h⟩) else x0 (ix2 0 j) := by
  split
  · next h =>
    refine Routing.scatter_set_hit dM x0 _ upd _ _ (fun i hi => ?_) (ix1 ⟨j, h⟩) ((dM_lands _ _).mpr rfl)
    obtain ⟨q, rfl⟩ : ∃ q : Fin 6, i = ix1 q := ⟨i 0, funext fun a => match a with | 0 => rfl⟩
    have e := (dM_lands _ _).mp hi
    exact congrArg (fun z => upd (ix1 z)) (Fin.ext e)
  · next h =>
    refine Routing.scatter_set_miss dM x0 _ upd _ (fun i hi => ?_)
    obtain ⟨q, rfl⟩ : ∃ q : Fin 6, i = ix1 q := ⟨i 0, funext fun a => match a with | 0 => rfl⟩
    have e := (dM_lands _ _).mp hi
    have := q.isLt
    omega

/-! ## The factors -/

theorem lit_bits : ∀ i : Fin 512, lit0 i = if 256 ≤ i.val ∧ i.val < 384 then 0x3F800000#32 else 0x3F000000#32 := by
  decide +kernel

def litv : FVec Ideal S512 .f32 := fun i => FloatOps.ofBits .f32 (lit0 (S512.rowMajor i))

theorem litv_apply (n : Fin 512) : litv (ix1 n) = ((fac n : ℝ) : EReal) := by
  have e : S512.rowMajor (ix1 n) = n := ((Equiv.symm_apply_eq _).1 (Routing.symm1 (N := 512) n)).symm
  show Ideal.ofBits .f32 (lit0 (S512.rowMajor (ix1 n))) = _
  rw [e, lit_bits]
  unfold fac
  split
  · exact Ideal.ofBits_one_f32
  · exact half_lit

/-! ## The arrays -/

def weights (wi : FVec Ideal S512x64 .f32) (wh : FVec Ideal S512x128 .f32) : FVec Ideal S192x512 .bf16 :=
  truncf .bf16 (mulf (concatenate S192x512 0 [⟨S64x512, transpose S64x512 [1, 0] wi transposes_S512x64_S64x512_1_0⟩, ⟨S128x512, transpose S128x512 [1, 0] wh transposes_S512x128_S128x512_1_0⟩] concatenates_S64x512_S128x512_S192x512_d0)
    (broadcastInDim S192x512 ![0, 1] bcast_S1x512_S192x512_0_1 (broadcastInDim S1x512 ![1] bcast_S512_S1x512_1 litv))) bitsLt_bf16_f32

def biases (bi bh : FVec Ideal S512 .f32) : FVec Ideal S1x512 .f32 := shapeCast S1x512 (mulf (addf bi bh) litv) shapeCasts_S512_S1x512

theorem weights_wi (wi : FVec Ideal S512x64 .f32) (wh : FVec Ideal S512x128 .f32) (k : Fin 64) (n : Fin 512) :
    weights wi wh (ix2 ⟨k, by omega⟩ n) = wi (ix2 n k) * ((fac n : ℝ) : EReal) := by
  rw [← litv_apply]
  unfold weights
  generalize litv = l
  pointwise []

theorem weights_wh (wi : FVec Ideal S512x64 .f32) (wh : FVec Ideal S512x128 .f32) (k : Fin 128) (n : Fin 512) :
    weights wi wh (ix2 ⟨64 + k, by omega⟩ n) = wh (ix2 n k) * ((fac n : ℝ) : EReal) := by
  rw [← litv_apply]
  unfold weights
  generalize litv = l
  pointwise []

theorem biases_apply (bi bh : FVec Ideal S512 .f32) (n : Fin 512) : biases bi bh (ix2 0 n) = (bi (ix1 n) + bh (ix1 n)) * ((fac n : ℝ) : EReal) := by
  rw [← litv_apply]
  unfold biases
  generalize litv = l
  pointwise []

/-- The gathered rows, step by step. -/
def stepped (g : S204800x128.Idx → EReal) : S50x4096x128.Idx → EReal := shapeCast S50x4096x128 g shapeCasts_S204800x128_S50x4096x128

theorem stepped_apply (g : S204800x128.Idx → EReal) (t : Fin 50) (b : Fin 4096) (k : Fin 128) :
    stepped g (ix3 t b k) = g (ix2 ⟨t.val * 4096 + b.val, by omega⟩ k) := by
  unfold stepped
  pointwise []

/-- The row numbers, step by step, in one list. -/
def flat (a : IVec S4096x50 32) : IVec S204800 32 := shapeCast S204800 (transpose S50x4096 [1, 0] a transposes_S4096x50_S50x4096_1_0) shapeCasts_S50x4096_S204800

theorem flat_apply (a : IVec S4096x50 32) (t : Fin 50) (b : Fin 4096) : flat a (ix1 ⟨t.val * 4096 + b.val, by omega⟩) = a (ix2 b t) := by
  unfold flat
  pointwise []

/-- The head's weights, zeros behind its six columns. -/
def headW (w : FVec Ideal S6x128 .f32) : FVec Ideal S128x128 .f32 :=
  Host.scatter dW (fun _ b => b) (broadcastInDim S128x128 ![] bcast_S_S128x128 (constant S_ .f32 0x00000000#32))
    (broadcastInDim S1 ![] bcast_S_S1 (constantI S_ 32 0#32)) (transpose S128x6 [1, 0] w transposes_S6x128_S128x6_1_0)

/-- The head's bias, −∞ behind its six entries. -/
def headB (b : FVec Ideal S6 .f32) : FVec Ideal S1x128 .f32 :=
  Host.scatter dM (fun _ b => b) (broadcastInDim S1x128 ![] bcast_S_S1x128 (constant S_ .f32 0xFF800000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

theorem two_zeros : concatenate S2 0 [⟨S1, broadcastInDim S1 ![] bcast_S_S1 (constantI S_ 32 0#32)⟩, ⟨S1, broadcastInDim S1 ![] bcast_S_S1 (constantI S_ 32 0#32)⟩] concatenates_S1_S1_S2_d0
    = (fun _ => 0#32 : IVec S2 32) := by
  funext i
  obtain ⟨q, rfl⟩ : ∃ q : Fin 2, i = ix1 q := ⟨i 0, funext fun a => match a with | 0 => rfl⟩
  match q with
  | 0 => rfl
  | 1 => rfl

theorem headW_apply (w : FVec Ideal S6x128 .f32) (k j : Fin 128) : headW w (ix2 k j) = if h : j.val < 6 then w (ix2 ⟨j, h⟩ k) else 0 := by
  refine (scatter_dW _ _ k j).trans ?_
  split
  · pointwise []
  · exact Ideal.ofBits_zero_f32

theorem headB_apply (b : FVec Ideal S6 .f32) (j : Fin 128) : headB b (ix2 0 j) = if h : j.val < 6 then b (ix1 ⟨j, h⟩) else ⊥ := by
  unfold headB
  rw [two_zeros, scatter_dM]
  split
  · rfl
  · exact neg_inf_lit

/-! ## The arrays in the run -/

variable (m : (ℓ : Loc nD τ sig) → Buf (Elt Ideal) ℓ) (d : Dev nD) (g : S204800x128.Idx → Elt Ideal .f32)

theorem listA_eq : listA m d = flat (m (d, rf main_arg0)) := by
  unfold listA V1
  after_results_simp
  rfl

theorem tabA_eq : tabA m d = transpose S64x1000000 [1, 0] (m (d, rf main_arg1)) transposes_S1000000x64_S64x1000000_1_0 := by
  unfold tabA V1
  after_results_simp
  rfl

theorem V2_cst : V2 m d g (rf main_cst) = litv := by
  unfold V2
  rw [Function.update_of_ne (by decide)]
  unfold V1
  after_results_simp
  rfl

theorem V2_v4 : V2 m d g (rf main_v4) = g := Function.update_self _ _ _

theorem V2_arg (b : Ref sig .tc) (hA : ∀ op ∈ (opsA : List (HloOp τ sig (Elt Ideal))), rf b ∉ op.writes) (h4 : rf b ≠ rf main_v4) : V2 m d g (rf b) = m (d, rf b) := by
  unfold V2
  rw [Function.update_of_ne h4]
  unfold V1
  rw [StableHlo.after_of_forall_not_mem _ _ hA]
  rfl

theorem in_X : (inA m d g).X = stepped g := by
  show after opsB (V2 m d g) (rf main_v5) = _
  have h := V2_v4 m d g
  generalize V2 m d g = W at h ⊢
  after_results_simp
  rw [h]
  rfl

/-- The first three of those operations: the rows' reshape and the two weights, turned. -/
theorem three_v6 (W : Valuation τ sig (Elt Ideal)) : after (opsB.take 3) W (rf main_v6) = transpose S64x512 [1, 0] (W (rf main_arg2)) transposes_S512x64_S64x512_1_0 := by
  simp only [opsB, List.take_succ_cons, List.take_zero]
  after_results_simp

theorem three_v7 (W : Valuation τ sig (Elt Ideal)) : after (opsB.take 3) W (rf main_v7) = transpose S128x512 [1, 0] (W (rf main_arg3)) transposes_S512x128_S128x512_1_0 := by
  simp only [opsB, List.take_succ_cons, List.take_zero]
  after_results_simp

theorem three_cst (W : Valuation τ sig (Elt Ideal)) : after (opsB.take 3) W (rf main_cst) = W (rf main_cst) := by
  simp only [opsB, List.take_succ_cons, List.take_zero]
  after_results_simp

theorem in_W : (inA m d g).W = weights (m (d, rf main_arg2)) (m (d, rf main_arg3)) := by
  show after (opsB.drop 3) (after (opsB.take 3) (V2 m d g)) (rf main_v12) = _
  have h2 := three_v6 (V2 m d g)
  have h3 := three_v7 (V2 m d g)
  have hc := three_cst (V2 m d g)
  rw [V2_arg m d g main_arg2 (not_opsA (by decide)) (by decide)] at h2
  rw [V2_arg m d g main_arg3 (not_opsA (by decide)) (by decide)] at h3
  rw [V2_cst] at hc
  generalize after (opsB.take 3) (V2 m d g) = U at h2 h3 hc ⊢
  simp only [opsB, List.drop_succ_cons, List.drop_zero]
  after_results_simp
  rw [hc]
  unfold weights
  rw [← h2, ← h3]

theorem in_B : (inA m d g).B = biases (m (d, rf main_arg4)) (m (d, rf main_arg5)) := by
  show after opsB (V2 m d g) (rf main_v15) = _
  have h4 := V2_arg m d g main_arg4 (not_opsA (by decide)) (by decide)
  have h5 := V2_arg m d g main_arg5 (not_opsA (by decide)) (by decide)
  have hc := V2_cst m d g
  generalize V2 m d g = W at h4 h5 hc ⊢
  after_results_simp
  rw [h4, h5, hc]
  rfl

theorem in_P : (inA m d g).P = headW (m (d, rf main_arg6)) := by
  show after opsB (V2 m d g) (rf main_v19) = _
  have h6 := V2_arg m d g main_arg6 (not_opsA (by decide)) (by decide)
  generalize V2 m d g = W at h6 ⊢
  after_results_simp
  rw [h6]
  rfl

theorem in_M : (inA m d g).M = headB (m (d, rf main_arg7)) := by
  show after opsB (V2 m d g) (rf main_v24) = _
  have h7 := V2_arg m d g main_arg7 (not_opsA (by decide)) (by decide)
  generalize V2 m d g = W at h7 ⊢
  after_results_simp
  rw [h7]
  rfl

end Cert.Proof.Value

end
-- ==== Proof.HeadVal.lean ====
/-
  THE HEAD AT AN ELEMENT, over extended reals: the kernel's logits and its last lines, the reference's logits and its.
-/
module

public import proofs.«01_k».proof.Proof.Head
public import proofs.«01_k».proof.Proof.Lstm
public import proofs.«01_k».proof.Proof.RefOut
public import Idealize.ShloMosaic.Lib.Pointwise

@[expose] public section

set_option maxRecDepth 16384

noncomputable section

namespace Cert.Proof.Value

open Idealize.ShloMosaic

section
open Cert.KernelIdeal Cert.KernelIdeal.Gen
open Cert.Proof.Lookup (logits)

theorem logits_apply (P : FVec Ideal S128x128 .f32) (h : FVec Ideal S1024x128 .f32) (r : Fin 1024) (j : Fin 128) :
    logits P h (ix2 r j) = ∑ k : Fin 128, h (ix2 r k) * P (ix2 k j) := by
  pointwise [logits]

theorem pay1_apply (v : FVec Ideal S1024x128 .f32) (b : FVec Ideal S1x128 .f32) (r : Fin 1024) (j : Fin 128) :
    k2_pay1 v b (ix2 r j) = outK (fun k => v (ix2 r k) + b (ix2 0 k)) j := by
  unfold outK
  rw [← neg_inf_lit]
  pointwise [k2_pay1]

end

section
open Cert.ReferenceIdeal Cert.ReferenceIdeal.Gen
open Cert.Proof.RefRun (logitsR lessMax logSoft)

theorem logitsR_apply (h : FVec Ideal S4096x128 .f32) (w : FVec Ideal S6x128 .f32) (b : FVec Ideal S6 .f32) (r : Fin 4096) (j : Fin 6) :
    logitsR h w b (ix2 r j) = (∑ k : Fin 128, h (ix2 r k) * w (ix2 j k)) + b (ix1 j) := by
  pointwise [logitsR]

theorem lessMax_apply (x : FVec Ideal S4096x6 .f32) (r : Fin 4096) (j : Fin 6) :
    lessMax x (ix2 r j) = x (ix2 r j) - max ⊥ (Finset.univ.fold max ⊥ fun k : Fin 6 => x (ix2 r k)) := by
  rw [← neg_inf_lit]
  pointwise [lessMax]

theorem logSoft_apply (x : FVec Ideal S4096x6 .f32) (r : Fin 4096) (j : Fin 6) : logSoft x (ix2 r j) = outR (fun k => x (ix2 r k)) j := by
  unfold outR
  simp only [← lessMax_apply]
  unfold logSoft
  generalize lessMax x = y
  pointwise []

end

end Cert.Proof.Value

end
-- ==== Proof.RefVal.lean ====
/-
  THE REFERENCE'S RECURRENCE AT AN ELEMENT: row `b` of the carried state follows the recurrence on its own sequence of
  embedded words, each word's row read where its number says.
-/
module

public import proofs.«01_k».proof.Proof.Gate
public import proofs.«01_k».proof.Proof.RefOut
public import Idealize.ShloMosaic.Lib.Routing.OpsPair

@[expose] public section

noncomputable section

namespace Cert.Proof.RefRun

open Cert.ReferenceIdeal Cert.ReferenceIdeal.Gen
open Idealize.ShloMosaic Idealize.ShloMosaic.TcCoe
open Idealize.ShloMosaic.StableHlo
open Cert.Proof.Value

set_option maxRecDepth 16384

/-! ## The rows taken -/

section
variable {F : FTy → Type} [FloatOps F]

/-- The word numbers, a negative one counted from the table's end, each a start of one coordinate. -/
def startsR (a : IVec S4096x50 32) : IVec S4096x50x1 32 :=
  broadcastInDim S4096x50x1 ![0, 1] bcast_S4096x50_S4096x50x1_0_1
    (select (cmpi .slt a (broadcastInDim S4096x50 ![] bcast_S_S4096x50 (constantI S_ 32 0#32)))
      (addi a (broadcastInDim S4096x50 ![] bcast_S_S4096x50 (constantI S_ 32 1000000#32))) a)

/-- Where a start lies in the table. -/
def insideR (s : IVec S4096x50x1 32) : IVec S4096x50 1 :=
  Host.reduce IntOp.andi (andi (cmpi .sge s (broadcastInDim S4096x50x1 ![] bcast_S_S4096x50x1 (constantI S_ 32 0#32)))
    (cmpi .sle s (broadcastInDim S4096x50x1 ![0, 1, 2] bcast_S1x1x1_S4096x50x1_0_1_2 (broadcastInDim S1x1x1 ![2] bcast_S1_S1x1x1_2 (constantI S1 32 999999#32)))))
    (constantI S_ 1 1#1) reducesTo_S4096x50x1_S4096x50_d2 h_S_

/-- The rows taken. -/
def takeR (a : IVec S4096x50 32) (e : FVec F S1000000x64 .f32) : FVec F S4096x50x64 .f32 :=
  select (broadcastInDim S4096x50x64 ![0, 1] bcast_S4096x50_S4096x50x64_0_1 (insideR (startsR a)))
    (Host.gather gather_S1000000x64_S4096x50x1_S4096x50x64_2_0_n_n_0_2_164 e (startsR a))
    (broadcastInDim S4096x50x64 ![] bcast_S_S4096x50x64 (constant S_ .f32 0x7FC00000#32))

set_option maxHeartbeats 1000000 in
theorem read_take (V : Valuation τ sig (Elt F)) :
    after hostOps0 V (no_index (Proc.devRef .tc main_v0)) = takeR (V (Proc.devRef .tc main_arg0)) (V (Proc.devRef .tc main_arg1)) := by
  simp only [hostOps0]
  after_results_simp
  simp only [TRef.ofBuf_toBuf, TRef.toBuf, TRef.ofBuf, cast_eq, cast_cast]
  rfl

abbrev dG : GatherDims S1000000x64 S4096x50x1 S4096x50x64 := gather_S1000000x64_S4096x50x1_S4096x50x64_2_0_n_n_0_2_164

/-- A row taken at an element. -/
theorem gather_row (e : FVec F S1000000x64 .f32) (s : IVec S4096x50x1 32) (b : Fin 4096) (t : Fin 50) (k : Fin 64) :
    Host.gather dG e s (ix3 b t k)
      = e (ix2 ⟨min (s (ix3 b t 0)).toInt.toNat 999999, by omega⟩ k) := by
  unfold Host.gather
  congr 1
  funext a
  apply Fin.ext
  match a with
  | ⟨0, _⟩ =>
    show dG.start (ix3 b t k) s 0 + dG.batchCoord (ix3 b t k) 0 + dG.offCoord (ix3 b t k) 0 = min (s (ix3 b t 0)).toInt.toNat 999999
    rw [dG.batchCoord_eq_zero _ _ (by decide), dG.offCoord_eq_zero _ _ (by decide), Nat.add_zero]
    unfold GatherDims.start
    rw [dif_pos (by decide), show dG.siIdx (ix3 b t k) ⟨dG.startIndexMap.idxOf 0, by decide⟩ = ix3 b t 0 from by
      funext a
      apply Fin.ext
      match a with
      | ⟨0, _⟩ => rfl
      | ⟨1, _⟩ => rfl
      | ⟨2, _⟩ => rfl]
    rfl
  | ⟨1, _⟩ =>
    show dG.start (ix3 b t k) s 1 + dG.batchCoord (ix3 b t k) 1 + dG.offCoord (ix3 b t k) 1 = k.val
    rw [dG.batchCoord_eq_zero _ _ (by decide), Nat.add_zero, show dG.start (ix3 b t k) s 1 = 0 from by unfold GatherDims.start; rw [dif_neg (by decide)],
      Nat.zero_add]
    rfl

/-- A word number in range, read as a signed number and as an unsigned one. -/
theorem word_in (w : BitVec 32) (h : w.toNat < 1000000) : w.toInt = (w.toNat : ℤ) := BitVec.toInt_eq_toNat_of_lt (by omega)

theorem starts_apply (a : IVec S4096x50 32) (b : Fin 4096) (t : Fin 50) (h : (a (ix2 b t)).toNat < 1000000) : startsR a (ix3 b t 0) = a (ix2 b t) := by
  pointwise [startsR]
  exact Routing.wrap_of_lt _ _ (lt_trans h (by decide))

theorem inside_apply (s : IVec S4096x50x1 32) (b : Fin 4096) (t : Fin 50) (h : (s (ix3 b t 0)).toNat < 1000000) : insideR s (ix2 b t) = 1#1 := by
  pointwise [insideR]
  have hi := word_in _ h
  have h1 : IntOp.cmpi .sge (s (ix3 b t 0)) 0#32 = 1#1 := by
    simp only [IntOp.cmpi, BitVec.sle, hi]
    simp
  have h2 : IntOp.cmpi .sle (s (ix3 b t 0)) 999999#32 = 1#1 := by
    have hn : (s (ix3 b t 0)).toInt ≤ 999999 := by rw [hi]; omega
    rw [WordCmp.cmpi_sle_eq, decide_eq_true (show (s (ix3 b t 0)).toInt ≤ (999999#32 : BitVec 32).toInt from hn)]
    rfl
  rw [Finset.univ_unique, Finset.fold_singleton]
  show IntOp.andi (IntOp.andi (IntOp.cmpi .sge (s (ix3 b t 0)) 0#32) (IntOp.cmpi .sle (s (ix3 b t 0)) 999999#32)) 1#1 = 1#1
  rw [h1, h2]
  rfl

/-- Where the word's number is in range, the row taken is its row. -/
theorem take_apply (a : IVec S4096x50 32) (e : FVec F S1000000x64 .f32) (b : Fin 4096) (t : Fin 50) (k : Fin 64) (h : (a (ix2 b t)).toNat < 1000000) :
    takeR a e (ix3 b t k) = e (ix2 ⟨(a (ix2 b t)).toNat, h⟩ k) := by
  have hs := starts_apply a b t h
  have hin : insideR (startsR a) (ix2 b t) = 1#1 := inside_apply _ b t (by rw [hs]; exact h)
  pointwise [takeR]
  rw [hin]
  refine (gather_row e (startsR a) b t k).trans ?_
  refine congrArg (fun i => e (ix2 i k)) (Fin.ext ?_)
  show min (startsR a (ix3 b t 0)).toInt.toNat 999999 = (a (ix2 b t)).toNat
  rw [hs, word_in _ h, Int.toNat_natCast]
  omega

end

/-! ## One step -/

/-- The layers' weights and biases, as the loop carries them. -/
def parR (V : Valuation τ sig (Elt Ideal)) : Par where
  Wi n k := (V (Proc.devRef .tc main_v4_1) : FVec Ideal S512x64 .f32) (ix2 n k)
  Wh n k := (V (Proc.devRef .tc main_v4_2) : FVec Ideal S512x128 .f32) (ix2 n k)
  bi n := (V (Proc.devRef .tc main_v4_3) : FVec Ideal S512 .f32) (ix1 n)
  bh n := (V (Proc.devRef .tc main_v4_4) : FVec Ideal S512 .f32) (ix1 n)

/-- The step's input out of all the steps'. -/
theorem step_input (X : FVec Ideal S50x4096x64 .f32) (st : Fin 3 → ℤ) (t : Fin 50) (h0 : st 0 = (t.val : ℤ)) (h1 : st 1 = 0) (h2 : st 2 = 0) (b : Fin 4096) (k : Fin 64) :
    Host.dynamicSlice S1x4096x64 X st sliceFits_S50x4096x64_S1x4096x64 (ix3 0 b k) = X (ix3 t b k) := by
  have e0 : Host.clampedStart S50x4096x64 S1x4096x64 sliceFits_S50x4096x64_S1x4096x64.1 st 0 = t.val :=
    Host.clampedStart_of_le _ _ _ _ h0 (by have := t.isLt; show t.val + 1 ≤ 50; omega)
  have e1 : Host.clampedStart S50x4096x64 S1x4096x64 sliceFits_S50x4096x64_S1x4096x64.1 st 1 = 0 :=
    Host.clampedStart_of_le _ _ _ 0 h1 (by show 0 + 4096 ≤ 4096; omega)
  have e2 : Host.clampedStart S50x4096x64 S1x4096x64 sliceFits_S50x4096x64_S1x4096x64.1 st 2 = 0 :=
    Host.clampedStart_of_le _ _ _ 0 h2 (by show 0 + 64 ≤ 64; omega)
  pointwise []
  simp only [e0, e1, e2, Nat.zero_add]

/-- The gates of step `t`. -/
theorem gates_apply (V : Valuation τ sig (Elt Ideal)) (t : Fin 50) (hc : V (Proc.devRef .tc main_v4_5) = fun _ => BitVec.ofNat 32 t) (b : Fin 4096)
    (n : Fin 512) :
    (res_main_while0b_v22 V : FVec Ideal S4096x512 .f32) (ix2 b n)
      = gateOf (parR V) (fun k => (V (Proc.devRef .tc main_v4_0) : FVec Ideal S50x4096x64 .f32) (ix3 t b k))
          (fun k => (V (Proc.devRef .tc main_v4_6) : FVec Ideal S4096x128 .f32) (ix2 b k)) n := by
  have ht := t.isLt
  have hD := fun k => step_input (V (Proc.devRef .tc main_v4_0)) (fun k => (((![V (Proc.devRef .tc main_v4_5), constantI S_ 32 0#32, constantI S_ 32 0#32] : Fin 3 → (⟨S_, .i32⟩ : BufTy).Contents (Elt Ideal))) k (Shape.Idx.first h_S_)).toInt)
    t (by rw [hc]; show (BitVec.ofNat 32 t).toInt = _; rw [word_in _ (by rw [BitVec.toNat_ofNat]; omega), BitVec.toNat_ofNat, Nat.mod_eq_of_lt (by omega)]) rfl rfl b k
  unfold res_main_while0b_v22
  generalize Host.dynamicSlice S1x4096x64 _ _ _ = D at hD
  pointwise [gateOf, parR]
  simp only [hD]

theorem one_lit : Ideal.ofBits .f32 0x3F800000#32 = 1 := Ideal.ofBits_one_f32

/-- The new cell. -/
theorem cell_apply (V : Valuation τ sig (Elt Ideal)) (b : Fin 4096) (g : Fin 512 → EReal) (c : Fin 128 → EReal)
    (hg : ∀ n, (res_main_while0b_v22 V : FVec Ideal S4096x512 .f32) (ix2 b n) = g n)
    (hc : ∀ j, (V (Proc.devRef .tc main_v4_7) : FVec Ideal S4096x128 .f32) (ix2 b j) = c j) (j : Fin 128) :
    (res_main_while0b_v48 V : FVec Ideal S4096x128 .f32) (ix2 b j) = cellOf g c j := by
  unfold res_main_while0b_v48
  generalize res_main_while0b_v22 V = G at hg
  pointwise [cellOf, Ideal.logistic, col]
  simp only [hg, hc]

/-- The new state. -/
theorem state_apply (V : Valuation τ sig (Elt Ideal)) (b : Fin 4096) (g : Fin 512 → EReal) (c : Fin 128 → EReal)
    (hg : ∀ n, (res_main_while0b_v22 V : FVec Ideal S4096x512 .f32) (ix2 b n) = g n)
    (hc : ∀ j, (V (Proc.devRef .tc main_v4_7) : FVec Ideal S4096x128 .f32) (ix2 b j) = c j) (j : Fin 128) :
    (step_main_v4_6 V : FVec Ideal S4096x128 .f32) (ix2 b j) = stateOf g c j := by
  have h48 := cell_apply V b g c hg hc j
  unfold step_main_v4_6
  generalize res_main_while0b_v22 V = G at hg
  generalize res_main_while0b_v48 V = C at h48
  pointwise [stateOf, Ideal.logistic, col, id]
  simp only [hg, h48]

/-! ## The fifty steps -/

/-- The step's input on sequence `b`. -/
def inR (X : FVec Ideal S50x4096x64 .f32) (b : Fin 4096) (n : ℕ) (k : Fin 64) : EReal := X (ix3 ⟨n % 50, Nat.mod_lt _ (by decide)⟩ b k)

theorem iter_apply (V : Valuation τ sig (Elt Ideal)) (b : Fin 4096) (hc : V (Proc.devRef .tc main_v4_5) = fun _ => 0#32)
    (h0 : V (Proc.devRef .tc main_v4_6) = fun _ => (0 : EReal)) (c0 : V (Proc.devRef .tc main_v4_7) = fun _ => (0 : EReal)) (n : ℕ) (hn : n ≤ 50) :
    (STEP^[n] V) (Proc.devRef .tc main_v4_0) = V (Proc.devRef .tc main_v4_0) ∧ parR (STEP^[n] V) = parR V
    ∧ (STEP^[n] V) (Proc.devRef .tc main_v4_5) = (fun _ => BitVec.ofNat 32 n)
    ∧ (∀ j, ((STEP^[n] V) (Proc.devRef .tc main_v4_7) : FVec Ideal S4096x128 .f32) (ix2 b j) = (seqAt (parR V) (inR (V (Proc.devRef .tc main_v4_0)) b) n).1 j)
    ∧ (∀ j, ((STEP^[n] V) (Proc.devRef .tc main_v4_6) : FVec Ideal S4096x128 .f32) (ix2 b j) = (seqAt (parR V) (inR (V (Proc.devRef .tc main_v4_0)) b) n).2 j) := by
  induction n with
  | zero => exact ⟨rfl, rfl, hc, fun j => by rw [Function.iterate_zero, id, c0]; rfl, fun j => by rw [Function.iterate_zero, id, h0]; rfl⟩
  | succ n ih =>
    obtain ⟨hX, hp, hk, hcs, hhs⟩ := ih (by omega)
    rw [Function.iterate_succ_apply']
    generalize STEP^[n] V = W at hX hp hk hcs hhs
    have hg : ∀ i, (res_main_while0b_v22 W : FVec Ideal S4096x512 .f32) (ix2 b i)
        = gateOf (parR V) (inR (V (Proc.devRef .tc main_v4_0)) b n) (seqAt (parR V) (inR (V (Proc.devRef .tc main_v4_0)) b) n).2 i := fun i => by
      rw [gates_apply W ⟨n, by omega⟩ hk b i, hp, hX]
      refine congrArg₂ (fun x h => gateOf (parR V) x h i) (funext fun k => ?_) (funext hhs)
      unfold inR
      simp only [Nat.mod_eq_of_lt (show n < 50 by omega)]
    refine ⟨(STEP_main_v4_0 W).trans hX, ?_, ?_, fun j => ?_, fun j => ?_⟩
    · rw [← hp]
      unfold parR
      rw [STEP_main_v4_1, STEP_main_v4_2, STEP_main_v4_3, STEP_main_v4_4]
    · rw [STEP_main_v4_5]
      unfold step_main_v4_5
      rw [hk]
      funext _
      show BitVec.ofNat 32 n + 1#32 = BitVec.ofNat 32 (n + 1)
      rw [BitVec.ofNat_add]
    · rw [STEP_main_v4_7]
      exact cell_apply W b _ _ hg hcs j
    · rw [STEP_main_v4_6]
      exact state_apply W b _ _ hg hcs j

/-! ## Where the loop starts -/

section
variable {F : FTy → Type} [FloatOps F] (m : (ℓ : Loc nD τ sig) → Buf (Elt F) ℓ) (c : Dev nD)

theorem entry_eq : entryContents preI m c = after hostOps0_1 (after hostOps0 fun b => m (c, b)) := rfl

theorem entry_v4_0 : entryContents preI m c (Proc.devRef .tc main_v4_0)
    = transpose S50x4096x64 [1, 0, 2] (takeR (m ((c.tc : Thread nD τ).loc main_arg0)) (m ((c.tc : Thread nD τ).loc main_arg1))) transposes_S4096x50x64_S50x4096x64_1_0_2 := by
  have h : after (hostOps0 (F := F)) (fun b => m (c, b)) (Proc.devRef .tc main_v0) = takeR (m ((c.tc : Thread nD τ).loc main_arg0)) (m ((c.tc : Thread nD τ).loc main_arg1)) :=
    read_take (F := F) (fun b => m (c, b))
  rw [entry_eq m c]
  generalize after (hostOps0 (F := F)) _ = W at h ⊢
  simp only [hostOps0_1]
  after_results_simp
  rw [h, id_eq]

theorem entry_v4_1 : entryContents preI m c (Proc.devRef .tc main_v4_1) = m ((c.tc : Thread nD τ).loc main_arg2) := by
  have h := keep_main_arg2_hostOps0 (F := F) (fun b => m (c, b))
  rw [entry_eq m c]
  generalize after (hostOps0 (F := F)) _ = W at h ⊢
  simp only [hostOps0_1]
  after_results_simp
  exact h

theorem entry_v4_2 : entryContents preI m c (Proc.devRef .tc main_v4_2) = m ((c.tc : Thread nD τ).loc main_arg3) := by
  have h := keep_main_arg3_hostOps0 (F := F) (fun b => m (c, b))
  rw [entry_eq m c]
  generalize after (hostOps0 (F := F)) _ = W at h ⊢
  simp only [hostOps0_1]
  after_results_simp
  exact h

theorem entry_v4_3 : entryContents preI m c (Proc.devRef .tc main_v4_3) = m ((c.tc : Thread nD τ).loc main_arg4) := by
  have h := keep_main_arg4_hostOps0 (F := F) (fun b => m (c, b))
  rw [entry_eq m c]
  generalize after (hostOps0 (F := F)) _ = W at h ⊢
  simp only [hostOps0_1]
  after_results_simp
  exact h

theorem entry_v4_4 : entryContents preI m c (Proc.devRef .tc main_v4_4) = m ((c.tc : Thread nD τ).loc main_arg5) := by
  have h := keep_main_arg5_hostOps0 (F := F) (fun b => m (c, b))
  rw [entry_eq m c]
  generalize after (hostOps0 (F := F)) _ = W at h ⊢
  simp only [hostOps0_1]
  after_results_simp
  exact h

end

section
variable (m : (ℓ : Loc nD τ sig) → Buf (Elt Ideal) ℓ) (c : Dev nD)

theorem entry_v4_6 : entryContents preI m c (Proc.devRef .tc main_v4_6) = fun _ => (0 : EReal) := by
  rw [entry_eq m c]
  generalize after (hostOps0 (F := Ideal)) _ = W
  simp only [hostOps0_1]
  after_results_simp
  funext i
  exact Ideal.ofBits_zero_f32

theorem entry_v4_7 : entryContents preI m c (Proc.devRef .tc main_v4_7) = fun _ => (0 : EReal) := by
  rw [entry_eq m c]
  generalize after (hostOps0 (F := Ideal)) _ = W
  simp only [hostOps0_1]
  after_results_simp
  funext i
  exact Ideal.ofBits_zero_f32

theorem turned_apply (a : IVec S4096x50 32) (e : FVec Ideal S1000000x64 .f32) (t : Fin 50) (b : Fin 4096) (k : Fin 64) (h : (a (ix2 b t)).toNat < 1000000) :
    transpose S50x4096x64 [1, 0, 2] (takeR a e) transposes_S4096x50x64_S50x4096x64_1_0_2 (ix3 t b k) = e (ix2 ⟨(a (ix2 b t)).toNat, h⟩ k) := by
  refine Eq.trans ?_ (take_apply a e b t k h)
  generalize takeR a e = X
  pointwise []

/-- The layers' weights and biases, of the arguments. -/
def parOf (wi : FVec Ideal S512x64 .f32) (wh : FVec Ideal S512x128 .f32) (bi bh : FVec Ideal S512 .f32) : Par where
  Wi n k := wi (ix2 n k)
  Wh n k := wh (ix2 n k)
  bi n := bi (ix1 n)
  bh n := bh (ix1 n)

/-- The row of word `n` of sequence `b`. -/
def wordOf (a : IVec S4096x50 32) (e : FVec Ideal S1000000x64 .f32) (ha : ∀ i, (a i).toNat < 1000000) (b : Fin 4096) (n : ℕ) (k : Fin 64) : EReal :=
  e (ix2 ⟨(a (ix2 b ⟨n % 50, Nat.mod_lt _ (by decide)⟩)).toNat, ha _⟩ k)

/-- The state the loop ends with. -/
theorem last_apply (ha : ∀ i, ((m ((c.tc : Thread nD τ).loc main_arg0) : IVec S4096x50 32) i).toNat < 1000000) (b : Fin 4096) (j : Fin 128) :
    (lastR m c (Proc.devRef .tc main_v4_6) : FVec Ideal S4096x128 .f32) (ix2 b j)
      = (seqAt (parOf (m ((c.tc : Thread nD τ).loc main_arg2)) (m ((c.tc : Thread nD τ).loc main_arg3)) (m ((c.tc : Thread nD τ).loc main_arg4)) (m ((c.tc : Thread nD τ).loc main_arg5)))
          (wordOf (m ((c.tc : Thread nD τ).loc main_arg0)) (m ((c.tc : Thread nD τ).loc main_arg1)) ha b) 50).2 j := by
  have h := (iter_apply (entryContents preI m c) b (ctr_entry m c) (entry_v4_6 m c) (entry_v4_7 m c) 50 le_rfl).2.2.2.2 j
  refine h.trans (congrArg₂ (fun p x => (seqAt p x 50).2 j) ?_ (funext fun n => funext fun k => ?_))
  · unfold parR parOf
    rw [entry_v4_1, entry_v4_2, entry_v4_3, entry_v4_4]
  · unfold inR wordOf
    rw [entry_v4_0]
    exact turned_apply _ _ _ b k (ha _)

end

end Cert.Proof.RefRun

end
-- ==== Proof.Value.lean ====
/-
  THE VALUES AGREE. With every row number in range and the head's weights and bias real, the kernel's result and the
  reference's are, element by element, the same expression in the same recurrence of the same words.
-/
module

public import proofs.«01_k».proof.Proof.Finite
public import proofs.«01_k».proof.Proof.HostVal
public import proofs.«01_k».proof.Proof.HeadVal
public import proofs.«01_k».proof.Proof.RefVal

@[expose] public section

set_option maxRecDepth 16384

noncomputable section

namespace Cert.Proof.Value

open Idealize.ShloMosaic
open Idealize.SL.Sem

/-! ## The result both compute -/

/-- The result at sequence `b` and class `j`, of the arguments. -/
def answer (a : (ℕ → Fin 64 → EReal)) (p : Par) (w : Fin 6 → Fin 128 → EReal) (b : Fin 6 → EReal) (j : Fin 6) : EReal :=
  outR (fun k => (∑ i : Fin 128, (seqAt p a 50).2 i * w k i) + b k) j

section
open Cert.KernelIdeal Cert.KernelIdeal.Gen
open Cert.Proof.Lookup
open Cert.Proof.RefRun (parOf wordOf)
open Idealize.ShloMosaic.Tactic
open Idealize.ShloMosaic.StableHlo (after)

/-! ## The kernel's -/

theorem pay2_apply (W : FVec Ideal S192x512 .bf16) (k : Fin 192) (n : Fin 512) : k2_pay2 W (ix2 k n) = W (ix2 k n) := by
  pointwise [k2_pay2]

theorem pay3_apply (B : FVec Ideal S1x512 .f32) (n : Fin 512) : k2_pay3 B (ix2 0 n) = B (ix2 0 n) := by
  pointwise [k2_pay3]

theorem scaled_in (wi : FVec Ideal S512x64 .f32) (wh : FVec Ideal S512x128 .f32) (bi bh : FVec Ideal S512 .f32) :
    Scaled (parOf wi wh bi bh) (k2_pay2 (weights wi wh)) (k2_pay3 (biases bi bh)) where
  wi k n := (pay2_apply _ _ _).trans (weights_wi wi wh k n)
  wh k n := (pay2_apply _ _ _).trans (weights_wh wi wh k n)
  b n := (pay3_apply _ _).trans (biases_apply bi bh n)

theorem blk_apply (X : S50x4096x128.Idx → EReal) (b : Fin 4096) (t : Fin 50) (k : Fin 128) :
    blkX (F := Ideal) X (b.val / 1024) (ix3 t ⟨b.val % 1024, Nat.mod_lt _ (by decide)⟩ k) = X (ix3 t b k) := by
  have e : b.val / 1024 % 4 * 1024 + b.val % 1024 = b.val := by
    have := b.isLt
    omega
  exact congrArg (fun z => X (ix3 t z k)) (Fin.ext e)

/-- The head's logits of real states: six real values, −∞ behind them. -/
theorem padded_logits (s : Fin 128 → EReal) (w : FVec Ideal S6x128 .f32) (bb : FVec Ideal S6 .f32) (j : Fin 128) :
    (∑ k : Fin 128, s k * headW w (ix2 k j)) + headB bb (ix2 0 j) = padded (fun q => (∑ k : Fin 128, s k * w (ix2 q k)) + bb (ix1 q)) j := by
  rw [headB_apply]
  simp only [headW_apply]
  unfold padded
  split
  · rfl
  · rw [EReal.add_bot]

theorem lstmOut_apply (X : S50x1024x128.Idx → Elt Ideal .f32) (p : Par) (W : FVec Ideal S192x512 .bf16) (B : FVec Ideal S1x512 .f32)
    (hs : Scaled p (k2_pay2 W) (k2_pay3 B)) (w : FVec Ideal S6x128 .f32) (bb : FVec Ideal S6 .f32) (hw : ∀ i, IsReal (w i)) (hb : ∀ i, IsReal (bb i))
    (r : Fin 1024) (x : ℕ → Fin 64 → EReal) (hx : ∀ (t : Fin 50) (k : Fin 64), X (ix3 t r ⟨k, by omega⟩) = x t k) (j : Fin 6) :
    lstmOut X W B (headW w) (headB bb) (ix2 r ⟨j, by omega⟩) = answer x p (fun q k => w (ix2 q k)) (fun q => bb (ix1 q)) j := by
  unfold lstmOut answer
  rw [pay1_apply]
  have e : (fun k : Fin 128 => logits (headW w) (hAt X (k2_pay2 W) (k2_pay3 B) 50) (ix2 r k) + headB bb (ix2 0 k))
      = padded (fun q => (∑ k : Fin 128, (seqAt p x 50).2 k * w (ix2 q k)) + bb (ix1 q)) := by
    funext k
    rw [logits_apply, ← padded_logits]
    simp only [(st_apply p _ _ hs X r x hx 50 le_rfl).2]
  rw [e]
  exact head_eq _ (fun q => (IsReal.sum _ _ fun k => (isReal_state p x 50 k).mul (hw _)).add (hb _)) j

variable (m : (ℓ : Loc nD τ sig) → Buf (Elt Ideal) ℓ) (d : Dev nD) (g : S204800x128.Idx → Elt Ideal .f32)

/-- The gathered rows hold the words. -/
theorem word_apply (ha : ∀ i, ((m (d, rf main_arg0) : IVec S4096x50 32) i).toNat < 1000000) (hg : RowsOK (tabA m d) (listA m d) g)
    (t : Fin 50) (b : Fin 4096) (k : Fin 64) :
    stepped g (ix3 t b ⟨k, by omega⟩) = wordOf (m (d, rf main_arg0)) (m (d, rf main_arg1)) ha b t k := by
  rw [stepped_apply]
  refine (hg ⟨t.val * 4096 + b.val, by omega⟩ ⟨k, by omega⟩ k.isLt).trans ?_
  rw [tabA_eq, listA_eq]
  have e : rowAt (F := Ideal) (flat (m (d, rf main_arg0))) ⟨t.val * 4096 + b.val, by omega⟩
      = ⟨((m (d, rf main_arg0) : IVec S4096x50 32) (ix2 b ⟨t.val % 50, Nat.mod_lt _ (by decide)⟩)).toNat, ha _⟩ := by
    refine Fin.ext ?_
    show (flat (m (d, rf main_arg0)) (ix1 ⟨t.val * 4096 + b.val, by omega⟩)).toNat % 1000000 = _
    rw [flat_apply, Nat.mod_eq_of_lt (ha _)]
    exact congrArg (fun z => ((m (d, rf main_arg0) : IVec S4096x50 32) (ix2 b z)).toNat) (Fin.ext (Nat.mod_eq_of_lt t.isLt).symm)
  rw [e]
  unfold wordOf
  generalize (⟨_, _⟩ : Fin 1000000) = row
  show transpose S64x1000000 [1, 0] (m (d, rf main_arg1)) transposes_S1000000x64_S64x1000000_1_0 (ix2 k row) = _
  generalize m (d, rf main_arg1) = T
  pointwise []

theorem kernel_apply (ha : ∀ i, ((m (d, rf main_arg0) : IVec S4096x50 32) i).toNat < 1000000) (hg : RowsOK (tabA m d) (listA m d) g)
    (hw : ∀ i, IsReal ((m (d, rf main_arg6) : FVec Ideal S6x128 .f32) i)) (hb : ∀ i, IsReal ((m (d, rf main_arg7) : FVec Ideal S6 .f32) i)) (b : Fin 4096) (j : Fin 6) :
    (V5 m d g (rf main_v26) : FVec Ideal S4096x6 .f32) (ix2 b j)
      = answer (wordOf (m (d, rf main_arg0)) (m (d, rf main_arg1)) ha b) (parOf (m (d, rf main_arg2)) (m (d, rf main_arg3)) (m (d, rf main_arg4)) (m (d, rf main_arg5)))
          (fun q k => (m (d, rf main_arg6) : FVec Ideal S6x128 .f32) (ix2 q k)) (fun q => (m (d, rf main_arg7) : FVec Ideal S6 .f32) (ix1 q)) j := by
  have e : V5 m d g (rf main_v26) = extractStridedSlice S4096x6 ![0, 0] (lstmAll (inA m d g)) slices_S4096x128_S4096x6_0_0 := by
    have h : V4 m d g (rf main_v25) = lstmAll (inA m d g) := Function.update_self _ _ _
    unfold V5
    rw [← h]
    exact StableHlo.unary_result _ _ _ _ _ _
  rw [e]
  have e' : extractStridedSlice S4096x6 ![0, 0] (lstmAll (inA m d g)) slices_S4096x128_S4096x6_0_0 (ix2 b j) = lstmAll (inA m d g) (ix2 b ⟨j, by omega⟩) := by
    generalize lstmAll (inA m d g) = Y
    pointwise []
  rw [e']
  show lstmOut (blkX (inA m d g).X (b.val / 1024)) (inA m d g).W (inA m d g).B (inA m d g).P (inA m d g).M (ix2 ⟨b.val % 1024, Nat.mod_lt _ (by decide)⟩ ⟨j, by omega⟩) = _
  rw [in_X, in_W, in_B, in_P, in_M]
  exact lstmOut_apply _ _ _ _ (scaled_in _ _ _ _) _ _ hw hb _ _ (fun t k => (blk_apply _ b t _).trans (word_apply m d g ha hg t b k)) j

end

section
open Cert.ReferenceIdeal Cert.ReferenceIdeal.Gen
open Cert.Proof.RefRun

/-! ## The reference's -/

/-- Its result. -/
def refOut (m : (ℓ : Loc nD τ sig) → Buf (Elt Ideal) ℓ) (c : Dev nD) : FVec Ideal S4096x6 .f32 :=
  logSoft (logitsR (lastR m c (Proc.devRef .tc main_v4_6)) (m ((c.tc : Thread nD τ).loc main_arg6)) (m ((c.tc : Thread nD τ).loc main_arg7)))

theorem ref_apply (m : (ℓ : Loc nD τ sig) → Buf (Elt Ideal) ℓ) (c : Dev nD)
    (ha : ∀ i, ((m ((c.tc : Thread nD τ).loc main_arg0) : IVec S4096x50 32) i).toNat < 1000000) (b : Fin 4096) (j : Fin 6) :
    refOut m c (ix2 b j)
      = answer (wordOf (m ((c.tc : Thread nD τ).loc main_arg0)) (m ((c.tc : Thread nD τ).loc main_arg1)) ha b)
          (parOf (m ((c.tc : Thread nD τ).loc main_arg2)) (m ((c.tc : Thread nD τ).loc main_arg3)) (m ((c.tc : Thread nD τ).loc main_arg4)) (m ((c.tc : Thread nD τ).loc main_arg5)))
          (fun q k => (m ((c.tc : Thread nD τ).loc main_arg6) : FVec Ideal S6x128 .f32) (ix2 q k)) (fun q => (m ((c.tc : Thread nD τ).loc main_arg7) : FVec Ideal S6 .f32) (ix1 q)) j := by
  unfold refOut answer
  rw [logSoft_apply]
  simp only [logitsR_apply, last_apply m c ha b]

/-- Equal arguments, equal answers. -/
theorem answer_congr {a0 b0 : IVec S4096x50 32} {a1 b1 : FVec Ideal S1000000x64 .f32} {a2 b2 : FVec Ideal S512x64 .f32} {a3 b3 : FVec Ideal S512x128 .f32}
    {a4 b4 a5 b5 : FVec Ideal S512 .f32} {a6 b6 : FVec Ideal S6x128 .f32} {a7 b7 : FVec Ideal S6 .f32} (ha : ∀ i, (a0 i).toNat < 1000000) (hb : ∀ i, (b0 i).toNat < 1000000)
    (e0 : b0 = a0) (e1 : b1 = a1) (e2 : b2 = a2) (e3 : b3 = a3) (e4 : b4 = a4) (e5 : b5 = a5) (e6 : b6 = a6) (e7 : b7 = a7) (b : Fin 4096) (j : Fin 6) :
    answer (wordOf a0 a1 ha b) (parOf a2 a3 a4 a5) (fun q k => a6 (ix2 q k)) (fun q => a7 (ix1 q)) j
      = answer (wordOf b0 b1 hb b) (parOf b2 b3 b4 b5) (fun q k => b6 (ix2 q k)) (fun q => b7 (ix1 q)) j := by
  subst e0 e1 e2 e3 e4 e5 e6 e7
  rfl

end

/-! ## The two together -/

theorem algebraic : Cert.algebraic_KernelIdeal_ReferenceIdeal_pre_rows_named_head_finite (hKernelIdeal := Cert.KernelIdeal.Gen.facts)
    (hReferenceIdeal := Cert.ReferenceIdeal.Gen.facts) (hPre_rows_named_head_finite := Cert.Pre_rows_named_head_finite.Gen.facts) := by
  intro m g m' g' hpre hargs
  refine ⟨fun c => refOut m' c, ?_, Cert.Proof.RefRun.run (F := Ideal) m' g'⟩
  have hrows : ∀ d, Cert.Proof.Lookup.Rows (F := Ideal) (m (d, Cert.Proof.Lookup.rf Cert.KernelIdeal.main_arg0)) :=
    fun d => Cert.Proof.Lookup.rows_of_pre_finite _ _ _ _ _ _ _ _ (hpre d)
  refine (θ_run Cert.KernelIdeal.defs _ _).mono (fun r hr c => ⟨?_, Cert.Proof.Lookup.args_kept m r hr c⟩)
    (Cert.Proof.Lookup.run_main (F := Ideal) m g fun d => Cert.Proof.Lookup.named_of_rows m d (hrows d))
  obtain ⟨rows, hg, hmem⟩ := hr.1 c
  obtain ⟨hw, hb⟩ := Cert.Proof.Lookup.head_of_pre _ _ _ _ _ _ _ _ (hpre c)
  obtain ⟨e0, e1, e2, e3, e4, e5, e6, e7⟩ := hargs c
  refine (hmem (Cert.Proof.Lookup.rf Cert.KernelIdeal.main_v26) (by decide)).trans ?_
  funext i
  obtain ⟨b, j, rfl⟩ : ∃ (b : Fin 4096) (j : Fin 6), i = ix2 b j := ⟨i 0, i 1, funext fun a => match a with | 0 => rfl | 1 => rfl⟩
  have hr' : ∀ i, (m' ((c.tc : Thread Cert.ReferenceIdeal.nD Cert.ReferenceIdeal.τ).loc Cert.ReferenceIdeal.main_arg0) i).toNat < 1000000 := fun i => by
    rw [e0]
    exact hrows c i
  exact (kernel_apply m c rows (hrows c) hg hw hb b j).trans ((answer_congr (hrows c) hr' e0 e1 e2 e3 e4 e5 e6 e7 b j).trans (ref_apply m' c hr' b j).symm)

end Cert.Proof.Value

end
-- ==== Proof.lean ====
/-
  THE CERTIFICATE: the frames of the kernel over machine words and over extended reals and of the reference, and that no
  operation was rewritten between the two kernels; and that kernel and reference compute the same values over extended
  reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_rows_named
public import proofs.«01_k».proof.Proof.Gen.Pre_rows_named_head_finite
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_named.Gen.facts,
  Cert.Pre_rows_named_head_finite.Gen.facts, Lookup.frame_kernel, Lookup.frame_ideal, Lookup.frame_ideal_finite, Lookup.frame_ref, Lookup.frame_ref_finite,
  trivial, Value.algebraic⟩

end Cert.Proof

end
